-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands [hPre_operands : Cert.Pre_operands.Facts] (m : (ℓ : Loc Cert.KernelIdeal.nD Cert.KernelIdeal.τ Cert.KernelIdeal.sig) → Buf (Elt Ideal) ℓ) : Prop :=
  ∀ c : Dev Cert.KernelIdeal.nD,
    (Cert.Pre_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands [hPre_operands : Cert.Pre_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ProjDq (m : (ℓ : Loc Cert.ProjDq.nD Cert.ProjDq.τ Cert.ProjDq.sig) → Buf (Elt Bits) ℓ) : Prop :=
  True

def Pre_ProjDqIdeal (m : (ℓ : Loc Cert.ProjDqIdeal.nD Cert.ProjDqIdeal.τ Cert.ProjDqIdeal.sig) → Buf (Elt Ideal) ℓ) : Prop :=
  True

def Pre_ProjDqRefIdeal (m : (ℓ : Loc Cert.ProjDqRefIdeal.nD Cert.ProjDqRefIdeal.τ Cert.ProjDqRefIdeal.sig) → Buf (Elt Ideal) ℓ) : Prop :=
  True

def Pre_ProjDkv (m : (ℓ : Loc Cert.ProjDkv.nD Cert.ProjDkv.τ Cert.ProjDkv.sig) → Buf (Elt Bits) ℓ) : Prop :=
  True

def Pre_ProjDkvIdeal (m : (ℓ : Loc Cert.ProjDkvIdeal.nD Cert.ProjDkvIdeal.τ Cert.ProjDkvIdeal.sig) → Buf (Elt Ideal) ℓ) : Prop :=
  True

def Pre_ProjDkvRefIdeal (m : (ℓ : Loc Cert.ProjDkvRefIdeal.nD Cert.ProjDkvRefIdeal.τ Cert.ProjDkvRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_GdnGate (m : (ℓ : Loc Cert.GdnGate.nD Cert.GdnGate.τ Cert.GdnGate.sig) → Buf (Elt Bits) ℓ) : Prop :=
  True

def Pre_GdnGateIdeal (m : (ℓ : Loc Cert.GdnGateIdeal.nD Cert.GdnGateIdeal.τ Cert.GdnGateIdeal.sig) → Buf (Elt Ideal) ℓ) : Prop :=
  True

def Pre_GdnGateRefIdeal (m : (ℓ : Loc Cert.GdnGateRefIdeal.nD Cert.GdnGateRefIdeal.τ Cert.GdnGateRefIdeal.sig) → Buf (Elt Ideal) ℓ) : Prop :=
  True

def Pre_GdnConv (m : (ℓ : Loc Cert.GdnConv.nD Cert.GdnConv.τ Cert.GdnConv.sig) → Buf (Elt Bits) ℓ) : Prop :=
  True

def Pre_GdnConvIdeal (m : (ℓ : Loc Cert.GdnConvIdeal.nD Cert.GdnConvIdeal.τ Cert.GdnConvIdeal.sig) → Buf (Elt Ideal) ℓ) : Prop :=
  True

def Pre_GdnConvRefIdeal (m : (ℓ : Loc Cert.GdnConvRefIdeal.nD Cert.GdnConvRefIdeal.τ Cert.GdnConvRefIdeal.sig) → Buf (Elt Ideal) ℓ) : Prop :=
  True

def Pre_RopeTables (m : (ℓ : Loc Cert.RopeTables.nD Cert.RopeTables.τ Cert.RopeTables.sig) → Buf (Elt Bits) ℓ) : Prop :=
  True

def Pre_RopeTablesIdeal (m : (ℓ : Loc Cert.RopeTablesIdeal.nD Cert.RopeTablesIdeal.τ Cert.RopeTablesIdeal.sig) → Buf (Elt Ideal) ℓ) : Prop :=
  True

def Pre_RopeTablesRefIdeal (m : (ℓ : Loc Cert.RopeTablesRefIdeal.nD Cert.RopeTablesRefIdeal.τ Cert.RopeTablesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_operands [hKernelIdeal : Cert.KernelIdeal.Facts] [hPre_operands : Cert.Pre_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_operands [hReferenceIdeal : Cert.ReferenceIdeal.Facts] [hPre_operands : Cert.Pre_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ProjDq [hProjDq : Cert.ProjDq.Facts] : Prop :=
  ∀ (m : (ℓ : Loc Cert.ProjDq.nD Cert.ProjDq.τ Cert.ProjDq.sig) → Buf (Elt Bits) ℓ) (g : Dev Cert.ProjDq.nD → PrngReg), Pre_ProjDq m →
    θ_run (Cert.ProjDq.defs (F := Bits)) (onTc (τ := Cert.ProjDq.τ) (Cert.ProjDq.main (F := Bits))) ⟨m, fun _ => 0, g⟩ (fun r => (∀ c : Dev Cert.ProjDq.nD,
      r.2.mem ((c.tc : Thread Cert.ProjDq.nD Cert.ProjDq.τ).loc Cert.ProjDq.main_arg0) = m ((c.tc : Thread Cert.ProjDq.nD Cert.ProjDq.τ).loc Cert.ProjDq.main_arg0)
      ∧ r.2.mem ((c.tc : Thread Cert.ProjDq.nD Cert.ProjDq.τ).loc Cert.ProjDq.main_arg1) = m ((c.tc : Thread Cert.ProjDq.nD Cert.ProjDq.τ).loc Cert.ProjDq.main_arg1))
      ∧ r.2.sem = fun _ => 0)

def quiescent_ProjDqIdeal [hProjDqIdeal : Cert.ProjDqIdeal.Facts] : Prop :=
  ∀ (m : (ℓ : Loc Cert.ProjDqIdeal.nD Cert.ProjDqIdeal.τ Cert.ProjDqIdeal.sig) → Buf (Elt Ideal) ℓ) (g : Dev Cert.ProjDqIdeal.nD → PrngReg), Pre_ProjDqIdeal m →
    θ_run (Cert.ProjDqIdeal.defs (F := Ideal)) (onTc (τ := Cert.ProjDqIdeal.τ) (Cert.ProjDqIdeal.main (F := Ideal))) ⟨m, fun _ => 0, g⟩ (fun r => (∀ c : Dev Cert.ProjDqIdeal.nD,
      r.2.mem ((c.tc : Thread Cert.ProjDqIdeal.nD Cert.ProjDqIdeal.τ).loc Cert.ProjDqIdeal.main_arg0) = m ((c.tc : Thread Cert.ProjDqIdeal.nD Cert.ProjDqIdeal.τ).loc Cert.ProjDqIdeal.main_arg0)
      ∧ r.2.mem ((c.tc : Thread Cert.ProjDqIdeal.nD Cert.ProjDqIdeal.τ).loc Cert.ProjDqIdeal.main_arg1) = m ((c.tc : Thread Cert.ProjDqIdeal.nD Cert.ProjDqIdeal.τ).loc Cert.ProjDqIdeal.main_arg1))
      ∧ r.2.sem = fun _ => 0)

def quiescent_ProjDqRefIdeal [hProjDqRefIdeal : Cert.ProjDqRefIdeal.Facts] : Prop :=
  ∀ (m : (ℓ : Loc Cert.ProjDqRefIdeal.nD Cert.ProjDqRefIdeal.τ Cert.ProjDqRefIdeal.sig) → Buf (Elt Ideal) ℓ) (g : Dev Cert.ProjDqRefIdeal.nD → PrngReg), Pre_ProjDqRefIdeal m →
    θ_run (Cert.ProjDqRefIdeal.defs (F := Ideal)) (onTc (τ := Cert.ProjDqRefIdeal.τ) (Cert.ProjDqRefIdeal.main (F := Ideal))) ⟨m, fun _ => 0, g⟩ (fun r => (∀ c : Dev Cert.ProjDqRefIdeal.nD,
      r.2.mem ((c.tc : Thread Cert.ProjDqRefIdeal.nD Cert.ProjDqRefIdeal.τ).loc Cert.ProjDqRefIdeal.main_arg0) = m ((c.tc : Thread Cert.ProjDqRefIdeal.nD Cert.ProjDqRefIdeal.τ).loc Cert.ProjDqRefIdeal.main_arg0)
      ∧ r.2.mem ((c.tc : Thread Cert.ProjDqRefIdeal.nD Cert.ProjDqRefIdeal.τ).loc Cert.ProjDqRefIdeal.main_arg1) = m ((c.tc : Thread Cert.ProjDqRefIdeal.nD Cert.ProjDqRefIdeal.τ).loc Cert.ProjDqRefIdeal.main_arg1))
      ∧ r.2.sem = fun _ => 0)

def quiescent_ProjDkv [hProjDkv : Cert.ProjDkv.Facts] : Prop :=
  ∀ (m : (ℓ : Loc Cert.ProjDkv.nD Cert.ProjDkv.τ Cert.ProjDkv.sig) → Buf (Elt Bits) ℓ) (g : Dev Cert.ProjDkv.nD → PrngReg), Pre_ProjDkv m →
    θ_run (Cert.ProjDkv.defs (F := Bits)) (onTc (τ := Cert.ProjDkv.τ) (Cert.ProjDkv.main (F := Bits))) ⟨m, fun _ => 0, g⟩ (fun r => (∀ c : Dev Cert.ProjDkv.nD,
      r.2.mem ((c.tc : Thread Cert.ProjDkv.nD Cert.ProjDkv.τ).loc Cert.ProjDkv.main_arg0) = m ((c.tc : Thread Cert.ProjDkv.nD Cert.ProjDkv.τ).loc Cert.ProjDkv.main_arg0)
      ∧ r.2.mem ((c.tc : Thread Cert.ProjDkv.nD Cert.ProjDkv.τ).loc Cert.ProjDkv.main_arg1) = m ((c.tc : Thread Cert.ProjDkv.nD Cert.ProjDkv.τ).loc Cert.ProjDkv.main_arg1))
      ∧ r.2.sem = fun _ => 0)

def quiescent_ProjDkvIdeal [hProjDkvIdeal : Cert.ProjDkvIdeal.Facts] : Prop :=
  ∀ (m : (ℓ : Loc Cert.ProjDkvIdeal.nD Cert.ProjDkvIdeal.τ Cert.ProjDkvIdeal.sig) → Buf (Elt Ideal) ℓ) (g : Dev Cert.ProjDkvIdeal.nD → PrngReg), Pre_ProjDkvIdeal m →
    θ_run (Cert.ProjDkvIdeal.defs (F := Ideal)) (onTc (τ := Cert.ProjDkvIdeal.τ) (Cert.ProjDkvIdeal.main (F := Ideal))) ⟨m, fun _ => 0, g⟩ (fun r => (∀ c : Dev Cert.ProjDkvIdeal.nD,
      r.2.mem ((c.tc : Thread Cert.ProjDkvIdeal.nD Cert.ProjDkvIdeal.τ).loc Cert.ProjDkvIdeal.main_arg0) = m ((c.tc : Thread Cert.ProjDkvIdeal.nD Cert.ProjDkvIdeal.τ).loc Cert.ProjDkvIdeal.main_arg0)
      ∧ r.2.mem ((c.tc : Thread Cert.ProjDkvIdeal.nD Cert.ProjDkvIdeal.τ).loc Cert.ProjDkvIdeal.main_arg1) = m ((c.tc : Thread Cert.ProjDkvIdeal.nD Cert.ProjDkvIdeal.τ).loc Cert.ProjDkvIdeal.main_arg1))
      ∧ r.2.sem = fun _ => 0)

def quiescent_ProjDkvRefIdeal [hProjDkvRefIdeal : Cert.ProjDkvRefIdeal.Facts] : Prop :=
  ∀ (m : (ℓ : Loc Cert.ProjDkvRefIdeal.nD Cert.ProjDkvRefIdeal.τ Cert.ProjDkvRefIdeal.sig) → Buf (Elt Ideal) ℓ) (g : Dev Cert.ProjDkvRefIdeal.nD → PrngReg), Pre_ProjDkvRefIdeal m →
    θ_run (Cert.ProjDkvRefIdeal.defs (F := Ideal)) (onTc (τ := Cert.ProjDkvRefIdeal.τ) (Cert.ProjDkvRefIdeal.main (F := Ideal))) ⟨m, fun _ => 0, g⟩ (fun r => (∀ c : Dev Cert.ProjDkvRefIdeal.nD,
      r.2.mem ((c.tc : Thread Cert.ProjDkvRefIdeal.nD Cert.ProjDkvRefIdeal.τ).loc Cert.ProjDkvRefIdeal.main_arg0) = m ((c.tc : Thread Cert.ProjDkvRefIdeal.nD Cert.ProjDkvRefIdeal.τ).loc Cert.ProjDkvRefIdeal.main_arg0)
      ∧ r.2.mem ((c.tc : Thread Cert.ProjDkvRefIdeal.nD Cert.ProjDkvRefIdeal.τ).loc Cert.ProjDkvRefIdeal.main_arg1) = m ((c.tc : Thread Cert.ProjDkvRefIdeal.nD Cert.ProjDkvRefIdeal.τ).loc Cert.ProjDkvRefIdeal.main_arg1))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3)
      ∧ r.2.mem ((c.tc : Thread Cert.QProj.nD Cert.QProj.τ).loc Cert.QProj.main_arg4) = m ((c.tc : Thread Cert.QProj.nD Cert.QProj.τ).loc Cert.QProj.main_arg4))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
      ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3)
      ∧ r.2.mem ((c.tc : Thread Cert.QProjRefIdeal.nD Cert.QProjRefIdeal.τ).loc Cert.QProjRefIdeal.main_arg4) = m ((c.tc : Thread Cert.QProjRefIdeal.nD Cert.QProjRefIdeal.τ).loc Cert.QProjRefIdeal.main_arg4))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3)
      ∧ r.2.mem ((c.tc : Thread Cert.KvProj.nD Cert.KvProj.τ).loc Cert.KvProj.main_arg4) = m ((c.tc : Thread Cert.KvProj.nD Cert.KvProj.τ).loc Cert.KvProj.main_arg4))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
      ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3)
      ∧ r.2.mem ((c.tc : Thread Cert.KvProjRefIdeal.nD Cert.KvProjRefIdeal.τ).loc Cert.KvProjRefIdeal.main_arg4) = m ((c.tc : Thread Cert.KvProjRefIdeal.nD Cert.KvProjRefIdeal.τ).loc Cert.KvProjRefIdeal.main_arg4))
      ∧ r.2.sem = fun _ => 0)

def quiescent_GdnGate [hGdnGate : Cert.GdnGate.Facts] : Prop :=
  ∀ (m : (ℓ : Loc Cert.GdnGate.nD Cert.GdnGate.τ Cert.GdnGate.sig) → Buf (Elt Bits) ℓ) (g : Dev Cert.GdnGate.nD → PrngReg), Pre_GdnGate m →
    θ_run (Cert.GdnGate.defs (F := Bits)) (onTc (τ := Cert.GdnGate.τ) (Cert.GdnGate.main (F := Bits))) ⟨m, fun _ => 0, g⟩ (fun r => (∀ c : Dev Cert.GdnGate.nD,
      r.2.mem ((c.tc : Thread Cert.GdnGate.nD Cert.GdnGate.τ).loc Cert.GdnGate.main_arg0) = m ((c.tc : Thread Cert.GdnGate.nD Cert.GdnGate.τ).loc Cert.GdnGate.main_arg0)
      ∧ r.2.mem ((c.tc : Thread Cert.GdnGate.nD Cert.GdnGate.τ).loc Cert.GdnGate.main_arg1) = m ((c.tc : Thread Cert.GdnGate.nD Cert.GdnGate.τ).loc Cert.GdnGate.main_arg1)
      ∧ r.2.mem ((c.tc : Thread Cert.GdnGate.nD Cert.GdnGate.τ).loc Cert.GdnGate.main_arg2) = m ((c.tc : Thread Cert.GdnGate.nD Cert.GdnGate.τ).loc Cert.GdnGate.main_arg2))
      ∧ r.2.sem = fun _ => 0)

def quiescent_GdnGateIdeal [hGdnGateIdeal : Cert.GdnGateIdeal.Facts] : Prop :=
  ∀ (m : (ℓ : Loc Cert.GdnGateIdeal.nD Cert.GdnGateIdeal.τ Cert.GdnGateIdeal.sig) → Buf (Elt Ideal) ℓ) (g : Dev Cert.GdnGateIdeal.nD → PrngReg), Pre_GdnGateIdeal m →
    θ_run (Cert.GdnGateIdeal.defs (F := Ideal)) (onTc (τ := Cert.GdnGateIdeal.τ) (Cert.GdnGateIdeal.main (F := Ideal))) ⟨m, fun _ => 0, g⟩ (fun r => (∀ c : Dev Cert.GdnGateIdeal.nD,
      r.2.mem ((c.tc : Thread Cert.GdnGateIdeal.nD Cert.GdnGateIdeal.τ).loc Cert.GdnGateIdeal.main_arg0) = m ((c.tc : Thread Cert.GdnGateIdeal.nD Cert.GdnGateIdeal.τ).loc Cert.GdnGateIdeal.main_arg0)
      ∧ r.2.mem ((c.tc : Thread Cert.GdnGateIdeal.nD Cert.GdnGateIdeal.τ).loc Cert.GdnGateIdeal.main_arg1) = m ((c.tc : Thread Cert.GdnGateIdeal.nD Cert.GdnGateIdeal.τ).loc Cert.GdnGateIdeal.main_arg1)
      ∧ r.2.mem ((c.tc : Thread Cert.GdnGateIdeal.nD Cert.GdnGateIdeal.τ).loc Cert.GdnGateIdeal.main_arg2) = m ((c.tc : Thread Cert.GdnGateIdeal.nD Cert.GdnGateIdeal.τ).loc Cert.GdnGateIdeal.main_arg2))
      ∧ r.2.sem = fun _ => 0)

def quiescent_GdnGateRefIdeal [hGdnGateRefIdeal : Cert.GdnGateRefIdeal.Facts] : Prop :=
  ∀ (m : (ℓ : Loc Cert.GdnGateRefIdeal.nD Cert.GdnGateRefIdeal.τ Cert.GdnGateRefIdeal.sig) → Buf (Elt Ideal) ℓ) (g : Dev Cert.GdnGateRefIdeal.nD → PrngReg), Pre_GdnGateRefIdeal m →
    θ_run (Cert.GdnGateRefIdeal.defs (F := Ideal)) (onTc (τ := Cert.GdnGateRefIdeal.τ) (Cert.GdnGateRefIdeal.main (F := Ideal))) ⟨m, fun _ => 0, g⟩ (fun r => (∀ c : Dev Cert.GdnGateRefIdeal.nD,
      r.2.mem ((c.tc : Thread Cert.GdnGateRefIdeal.nD Cert.GdnGateRefIdeal.τ).loc Cert.GdnGateRefIdeal.main_arg0) = m ((c.tc : Thread Cert.GdnGateRefIdeal.nD Cert.GdnGateRefIdeal.τ).loc Cert.GdnGateRefIdeal.main_arg0)
      ∧ r.2.mem ((c.tc : Thread Cert.GdnGateRefIdeal.nD Cert.GdnGateRefIdeal.τ).loc Cert.GdnGateRefIdeal.main_arg1) = m ((c.tc : Thread Cert.GdnGateRefIdeal.nD Cert.GdnGateRefIdeal.τ).loc Cert.GdnGateRefIdeal.main_arg1)
      ∧ r.2.mem ((c.tc : Thread Cert.GdnGateRefIdeal.nD Cert.GdnGateRefIdeal.τ).loc Cert.GdnGateRefIdeal.main_arg2) = m ((c.tc : Thread Cert.GdnGateRefIdeal.nD Cert.GdnGateRefIdeal.τ).loc Cert.GdnGateRefIdeal.main_arg2))
      ∧ r.2.sem = fun _ => 0)

def quiescent_GdnConv [hGdnConv : Cert.GdnConv.Facts] : Prop :=
  ∀ (m : (ℓ : Loc Cert.GdnConv.nD Cert.GdnConv.τ Cert.GdnConv.sig) → Buf (Elt Bits) ℓ) (g : Dev Cert.GdnConv.nD → PrngReg), Pre_GdnConv m →
    θ_run (Cert.GdnConv.defs (F := Bits)) (onTc (τ := Cert.GdnConv.τ) (Cert.GdnConv.main (F := Bits))) ⟨m, fun _ => 0, g⟩ (fun r => (∀ c : Dev Cert.GdnConv.nD,
      r.2.mem ((c.tc : Thread Cert.GdnConv.nD Cert.GdnConv.τ).loc Cert.GdnConv.main_arg0) = m ((c.tc : Thread Cert.GdnConv.nD Cert.GdnConv.τ).loc Cert.GdnConv.main_arg0)
      ∧ r.2.mem ((c.tc : Thread Cert.GdnConv.nD Cert.GdnConv.τ).loc Cert.GdnConv.main_arg1) = m ((c.tc : Thread Cert.GdnConv.nD Cert.GdnConv.τ).loc Cert.GdnConv.main_arg1))
      ∧ r.2.sem = fun _ => 0)

def quiescent_GdnConvIdeal [hGdnConvIdeal : Cert.GdnConvIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg), Pre_GdnConvIdeal m →
    θ_run (Cert.GdnConvIdeal.defs (F := Ideal)) (onTc (τ := Cert.GdnConvIdeal.τ) (Cert.GdnConvIdeal.main (F := Ideal))) ⟨m, fun _ => 0, g⟩ (fun r => (∀ c : Dev Cert.GdnConvIdeal.nD,
      r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
      ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1))
      ∧ r.2.sem = fun _ => 0)

def quiescent_GdnConvRefIdeal [hGdnConvRefIdeal : Cert.GdnConvRefIdeal.Facts] : Prop :=
  ∀ (m : (ℓ : Loc Cert.GdnConvRefIdeal.nD Cert.GdnConvRefIdeal.τ Cert.GdnConvRefIdeal.sig) → Buf (Elt Ideal) ℓ) (g : Dev Cert.GdnConvRefIdeal.nD → PrngReg), Pre_GdnConvRefIdeal m →
    θ_run (Cert.GdnConvRefIdeal.defs (F := Ideal)) (onTc (τ := Cert.GdnConvRefIdeal.τ) (Cert.GdnConvRefIdeal.main (F := Ideal))) ⟨m, fun _ => 0, g⟩ (fun r => (∀ c : Dev Cert.GdnConvRefIdeal.nD,
      r.2.mem ((c.tc : Thread Cert.GdnConvRefIdeal.nD Cert.GdnConvRefIdeal.τ).loc Cert.GdnConvRefIdeal.main_arg0) = m ((c.tc : Thread Cert.GdnConvRefIdeal.nD Cert.GdnConvRefIdeal.τ).loc Cert.GdnConvRefIdeal.main_arg0)
      ∧ r.2.mem ((c.tc : Thread Cert.GdnConvRefIdeal.nD Cert.GdnConvRefIdeal.τ).loc Cert.GdnConvRefIdeal.main_arg1) = m ((c.tc : Thread Cert.GdnConvRefIdeal.nD Cert.GdnConvRefIdeal.τ).loc Cert.GdnConvRefIdeal.main_arg1))
      ∧ r.2.sem = fun _ => 0)

def quiescent_RopeTables [hRopeTables : Cert.RopeTables.Facts] : Prop :=
  ∀ (m : (ℓ : Loc Cert.RopeTables.nD Cert.RopeTables.τ Cert.RopeTables.sig) → Buf (Elt Bits) ℓ) (g : Dev Cert.RopeTables.nD → PrngReg), Pre_RopeTables m →
    θ_run (Cert.RopeTables.defs (F := Bits)) (onTc (τ := Cert.RopeTables.τ) (Cert.RopeTables.main (F := Bits))) ⟨m, fun _ => 0, g⟩ (fun r => (∀ c : Dev Cert.RopeTables.nD,
      r.2.mem ((c.tc : Thread Cert.RopeTables.nD Cert.RopeTables.τ).loc Cert.RopeTables.main_arg0) = m ((c.tc : Thread Cert.RopeTables.nD Cert.RopeTables.τ).loc Cert.RopeTables.main_arg0))
      ∧ r.2.sem = fun _ => 0)

def quiescent_RopeTablesIdeal [hRopeTablesIdeal : Cert.RopeTablesIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg), Pre_RopeTablesIdeal m →
    θ_run (Cert.RopeTablesIdeal.defs (F := Ideal)) (onTc (τ := Cert.RopeTablesIdeal.τ) (Cert.RopeTablesIdeal.main (F := Ideal))) ⟨m, fun _ => 0, g⟩ (fun r => (∀ c : Dev Cert.RopeTablesIdeal.nD,
      r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ r.2.sem = fun _ => 0)

def quiescent_RopeTablesRefIdeal [hRopeTablesRefIdeal : Cert.RopeTablesRefIdeal.Facts] : Prop :=
  ∀ (m : (ℓ : Loc Cert.RopeTablesRefIdeal.nD Cert.RopeTablesRefIdeal.τ Cert.RopeTablesRefIdeal.sig) → Buf (Elt Ideal) ℓ) (g : Dev Cert.RopeTablesRefIdeal.nD → PrngReg), Pre_RopeTablesRefIdeal m →
    θ_run (Cert.RopeTablesRefIdeal.defs (F := Ideal)) (onTc (τ := Cert.RopeTablesRefIdeal.τ) (Cert.RopeTablesRefIdeal.main (F := Ideal))) ⟨m, fun _ => 0, g⟩ (fun r => (∀ c : Dev Cert.RopeTablesRefIdeal.nD,
      r.2.mem ((c.tc : Thread Cert.RopeTablesRefIdeal.nD Cert.RopeTablesRefIdeal.τ).loc Cert.RopeTablesRefIdeal.main_arg0) = m ((c.tc : Thread Cert.RopeTablesRefIdeal.nD Cert.RopeTablesRefIdeal.τ).loc Cert.RopeTablesRefIdeal.main_arg0))
      ∧ r.2.sem = fun _ => 0)

def preserves_Kernel_KernelIdeal : Prop :=
  True

def algebraic_KernelIdeal_ReferenceIdeal_pre_operands [hKernelIdeal : Cert.KernelIdeal.Facts] [hReferenceIdeal : Cert.ReferenceIdeal.Facts] [hPre_operands : Cert.Pre_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v10) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v3) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ProjDq_ProjDqIdeal : Prop :=
  True

def algebraic_ProjDqIdeal_ProjDqRefIdeal [hProjDqIdeal : Cert.ProjDqIdeal.Facts] [hProjDqRefIdeal : Cert.ProjDqRefIdeal.Facts] : Prop :=
  ∀ (m : (ℓ : Loc Cert.ProjDqIdeal.nD Cert.ProjDqIdeal.τ Cert.ProjDqIdeal.sig) → Buf (Elt Ideal) ℓ) (g : Dev Cert.ProjDqIdeal.nD → PrngReg)
    (m' : (ℓ : Loc Cert.ProjDqRefIdeal.nD Cert.ProjDqRefIdeal.τ Cert.ProjDqRefIdeal.sig) → Buf (Elt Ideal) ℓ) (g' : Dev Cert.ProjDqRefIdeal.nD → PrngReg), Pre_ProjDqIdeal m →
    (∀ c : Dev Cert.ProjDqIdeal.nD,
      m' ((c.tc : Thread Cert.ProjDqRefIdeal.nD Cert.ProjDqRefIdeal.τ).loc Cert.ProjDqRefIdeal.main_arg0) = m ((c.tc : Thread Cert.ProjDqIdeal.nD Cert.ProjDqIdeal.τ).loc Cert.ProjDqIdeal.main_arg0)
      ∧ m' ((c.tc : Thread Cert.ProjDqRefIdeal.nD Cert.ProjDqRefIdeal.τ).loc Cert.ProjDqRefIdeal.main_arg1) = m ((c.tc : Thread Cert.ProjDqIdeal.nD Cert.ProjDqIdeal.τ).loc Cert.ProjDqIdeal.main_arg1)) →
    ∃ (v0 : (c : Dev Cert.ProjDqIdeal.nD) → Buf (Elt Ideal) ((c.tc : Thread Cert.ProjDqIdeal.nD Cert.ProjDqIdeal.τ).loc Cert.ProjDqIdeal.main_v0)),
      θ_run (Cert.ProjDqIdeal.defs (F := Ideal)) (onTc (τ := Cert.ProjDqIdeal.τ) (Cert.ProjDqIdeal.main (F := Ideal))) ⟨m, fun _ => 0, g⟩ (fun r => ∀ c : Dev Cert.ProjDqIdeal.nD,
          r.2.mem ((c.tc : Thread Cert.ProjDqIdeal.nD Cert.ProjDqIdeal.τ).loc Cert.ProjDqIdeal.main_v0) = v0 c
          ∧ r.2.mem ((c.tc : Thread Cert.ProjDqIdeal.nD Cert.ProjDqIdeal.τ).loc Cert.ProjDqIdeal.main_arg0) = m ((c.tc : Thread Cert.ProjDqIdeal.nD Cert.ProjDqIdeal.τ).loc Cert.ProjDqIdeal.main_arg0)
          ∧ r.2.mem ((c.tc : Thread Cert.ProjDqIdeal.nD Cert.ProjDqIdeal.τ).loc Cert.ProjDqIdeal.main_arg1) = m ((c.tc : Thread Cert.ProjDqIdeal.nD Cert.ProjDqIdeal.τ).loc Cert.ProjDqIdeal.main_arg1))
      ∧ θ_run (Cert.ProjDqRefIdeal.defs (F := Ideal)) (onTc (τ := Cert.ProjDqRefIdeal.τ) (Cert.ProjDqRefIdeal.main (F := Ideal))) ⟨m', fun _ => 0, g'⟩ (fun r => ∀ c : Dev Cert.ProjDqRefIdeal.nD,
          r.2.mem ((c.tc : Thread Cert.ProjDqRefIdeal.nD Cert.ProjDqRefIdeal.τ).loc Cert.ProjDqRefIdeal.main_v2) = v0 c
          ∧ r.2.mem ((c.tc : Thread Cert.ProjDqRefIdeal.nD Cert.ProjDqRefIdeal.τ).loc Cert.ProjDqRefIdeal.main_arg0) = m' ((c.tc : Thread Cert.ProjDqRefIdeal.nD Cert.ProjDqRefIdeal.τ).loc Cert.ProjDqRefIdeal.main_arg0)
          ∧ r.2.mem ((c.tc : Thread Cert.ProjDqRefIdeal.nD Cert.ProjDqRefIdeal.τ).loc Cert.ProjDqRefIdeal.main_arg1) = m' ((c.tc : Thread Cert.ProjDqRefIdeal.nD Cert.ProjDqRefIdeal.τ).loc Cert.ProjDqRefIdeal.main_arg1))

def preserves_ProjDkv_ProjDkvIdeal : Prop :=
  True

def algebraic_ProjDkvIdeal_ProjDkvRefIdeal [hProjDkvIdeal : Cert.ProjDkvIdeal.Facts] [hProjDkvRefIdeal : Cert.ProjDkvRefIdeal.Facts] : Prop :=
  ∀ (m : (ℓ : Loc Cert.ProjDkvIdeal.nD Cert.ProjDkvIdeal.τ Cert.ProjDkvIdeal.sig) → Buf (Elt Ideal) ℓ) (g : Dev Cert.ProjDkvIdeal.nD → PrngReg)
    (m' : (ℓ : Loc Cert.ProjDkvRefIdeal.nD Cert.ProjDkvRefIdeal.τ Cert.ProjDkvRefIdeal.sig) → Buf (Elt Ideal) ℓ) (g' : Dev Cert.ProjDkvRefIdeal.nD → PrngReg), Pre_ProjDkvIdeal m →
    (∀ c : Dev Cert.ProjDkvIdeal.nD,
      m' ((c.tc : Thread Cert.ProjDkvRefIdeal.nD Cert.ProjDkvRefIdeal.τ).loc Cert.ProjDkvRefIdeal.main_arg0) = m ((c.tc : Thread Cert.ProjDkvIdeal.nD Cert.ProjDkvIdeal.τ).loc Cert.ProjDkvIdeal.main_arg0)
      ∧ m' ((c.tc : Thread Cert.ProjDkvRefIdeal.nD Cert.ProjDkvRefIdeal.τ).loc Cert.ProjDkvRefIdeal.main_arg1) = m ((c.tc : Thread Cert.ProjDkvIdeal.nD Cert.ProjDkvIdeal.τ).loc Cert.ProjDkvIdeal.main_arg1)) →
    ∃ (v0 : (c : Dev Cert.ProjDkvIdeal.nD) → Buf (Elt Ideal) ((c.tc : Thread Cert.ProjDkvIdeal.nD Cert.ProjDkvIdeal.τ).loc Cert.ProjDkvIdeal.main_v0)),
      θ_run (Cert.ProjDkvIdeal.defs (F := Ideal)) (onTc (τ := Cert.ProjDkvIdeal.τ) (Cert.ProjDkvIdeal.main (F := Ideal))) ⟨m, fun _ => 0, g⟩ (fun r => ∀ c : Dev Cert.ProjDkvIdeal.nD,
          r.2.mem ((c.tc : Thread Cert.ProjDkvIdeal.nD Cert.ProjDkvIdeal.τ).loc Cert.ProjDkvIdeal.main_v0) = v0 c
          ∧ r.2.mem ((c.tc : Thread Cert.ProjDkvIdeal.nD Cert.ProjDkvIdeal.τ).loc Cert.ProjDkvIdeal.main_arg0) = m ((c.tc : Thread Cert.ProjDkvIdeal.nD Cert.ProjDkvIdeal.τ).loc Cert.ProjDkvIdeal.main_arg0)
          ∧ r.2.mem ((c.tc : Thread Cert.ProjDkvIdeal.nD Cert.ProjDkvIdeal.τ).loc Cert.ProjDkvIdeal.main_arg1) = m ((c.tc : Thread Cert.ProjDkvIdeal.nD Cert.ProjDkvIdeal.τ).loc Cert.ProjDkvIdeal.main_arg1))
      ∧ θ_run (Cert.ProjDkvRefIdeal.defs (F := Ideal)) (onTc (τ := Cert.ProjDkvRefIdeal.τ) (Cert.ProjDkvRefIdeal.main (F := Ideal))) ⟨m', fun _ => 0, g'⟩ (fun r => ∀ c : Dev Cert.ProjDkvRefIdeal.nD,
          r.2.mem ((c.tc : Thread Cert.ProjDkvRefIdeal.nD Cert.ProjDkvRefIdeal.τ).loc Cert.ProjDkvRefIdeal.main_v2) = v0 c
          ∧ r.2.mem ((c.tc : Thread Cert.ProjDkvRefIdeal.nD Cert.ProjDkvRefIdeal.τ).loc Cert.ProjDkvRefIdeal.main_arg0) = m' ((c.tc : Thread Cert.ProjDkvRefIdeal.nD Cert.ProjDkvRefIdeal.τ).loc Cert.ProjDkvRefIdeal.main_arg0)
          ∧ r.2.mem ((c.tc : Thread Cert.ProjDkvRefIdeal.nD Cert.ProjDkvRefIdeal.τ).loc Cert.ProjDkvRefIdeal.main_arg1) = m' ((c.tc : Thread Cert.ProjDkvRefIdeal.nD Cert.ProjDkvRefIdeal.τ).loc Cert.ProjDkvRefIdeal.main_arg1))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)) →
    ∃ (v0 : (c : Dev Cert.GmlpIdeal.nD) → Buf (Elt Ideal) ((c.tc : Thread Cert.GmlpIdeal.nD Cert.GmlpIdeal.τ).loc Cert.GmlpIdeal.main_v2)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v2) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v27) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)) →
    ∃ (v0 : (c : Dev Cert.GdnOutIdeal.nD) → Buf (Elt Ideal) ((c.tc : Thread Cert.GdnOutIdeal.nD Cert.GdnOutIdeal.τ).loc Cert.GdnOutIdeal.main_v1)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v1) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v20) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)
      ∧ m' ((c.tc : Thread Cert.QProjRefIdeal.nD Cert.QProjRefIdeal.τ).loc Cert.QProjRefIdeal.main_arg4) = m ((c.tc : Thread Cert.QProjIdeal.nD Cert.QProjIdeal.τ).loc Cert.QProjIdeal.main_arg4)) →
    ∃ (v0 : (c : Dev Cert.QProjIdeal.nD) → Buf (Elt Ideal) ((c.tc : Thread Cert.QProjIdeal.nD Cert.QProjIdeal.τ).loc Cert.QProjIdeal.main_v1)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v1) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
          ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v46) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3)
          ∧ r.2.mem ((c.tc : Thread Cert.QProjRefIdeal.nD Cert.QProjRefIdeal.τ).loc Cert.QProjRefIdeal.main_arg4) = m' ((c.tc : Thread Cert.QProjRefIdeal.nD Cert.QProjRefIdeal.τ).loc Cert.QProjRefIdeal.main_arg4))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)
      ∧ m' ((c.tc : Thread Cert.KvProjRefIdeal.nD Cert.KvProjRefIdeal.τ).loc Cert.KvProjRefIdeal.main_arg4) = m ((c.tc : Thread Cert.KvProjIdeal.nD Cert.KvProjIdeal.τ).loc Cert.KvProjIdeal.main_arg4)) →
    ∃ (v0 : (c : Dev Cert.KvProjIdeal.nD) → Buf (Elt Ideal) ((c.tc : Thread Cert.KvProjIdeal.nD Cert.KvProjIdeal.τ).loc Cert.KvProjIdeal.main_v1_0)) (v1 : (c : Dev Cert.KvProjIdeal.nD) → Buf (Elt Ideal) ((c.tc : Thread Cert.KvProjIdeal.nD Cert.KvProjIdeal.τ).loc Cert.KvProjIdeal.main_v1_1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v1_0) = v0 c
          ∧ r.2.mem ((c.tc : Thread Cert.KvProjIdeal.nD Cert.KvProjIdeal.τ).loc Cert.KvProjIdeal.main_v1_1) = v1 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
          ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v47) = v0 c
          ∧ r.2.mem ((c.tc : Thread Cert.KvProjRefIdeal.nD Cert.KvProjRefIdeal.τ).loc Cert.KvProjRefIdeal.main_v49) = v1 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3)
          ∧ r.2.mem ((c.tc : Thread Cert.KvProjRefIdeal.nD Cert.KvProjRefIdeal.τ).loc Cert.KvProjRefIdeal.main_arg4) = m' ((c.tc : Thread Cert.KvProjRefIdeal.nD Cert.KvProjRefIdeal.τ).loc Cert.KvProjRefIdeal.main_arg4))

def preserves_GdnGate_GdnGateIdeal : Prop :=
  True

def algebraic_GdnGateIdeal_GdnGateRefIdeal [hGdnGateIdeal : Cert.GdnGateIdeal.Facts] [hGdnGateRefIdeal : Cert.GdnGateRefIdeal.Facts] : Prop :=
  ∀ (m : (ℓ : Loc Cert.GdnGateIdeal.nD Cert.GdnGateIdeal.τ Cert.GdnGateIdeal.sig) → Buf (Elt Ideal) ℓ) (g : Dev Cert.GdnGateIdeal.nD → PrngReg)
    (m' : (ℓ : Loc Cert.GdnGateRefIdeal.nD Cert.GdnGateRefIdeal.τ Cert.GdnGateRefIdeal.sig) → Buf (Elt Ideal) ℓ) (g' : Dev Cert.GdnGateRefIdeal.nD → PrngReg), Pre_GdnGateIdeal m →
    (∀ c : Dev Cert.GdnGateIdeal.nD,
      m' ((c.tc : Thread Cert.GdnGateRefIdeal.nD Cert.GdnGateRefIdeal.τ).loc Cert.GdnGateRefIdeal.main_arg0) = m ((c.tc : Thread Cert.GdnGateIdeal.nD Cert.GdnGateIdeal.τ).loc Cert.GdnGateIdeal.main_arg0)
      ∧ m' ((c.tc : Thread Cert.GdnGateRefIdeal.nD Cert.GdnGateRefIdeal.τ).loc Cert.GdnGateRefIdeal.main_arg1) = m ((c.tc : Thread Cert.GdnGateIdeal.nD Cert.GdnGateIdeal.τ).loc Cert.GdnGateIdeal.main_arg1)
      ∧ m' ((c.tc : Thread Cert.GdnGateRefIdeal.nD Cert.GdnGateRefIdeal.τ).loc Cert.GdnGateRefIdeal.main_arg2) = m ((c.tc : Thread Cert.GdnGateIdeal.nD Cert.GdnGateIdeal.τ).loc Cert.GdnGateIdeal.main_arg2)) →
    ∃ (v0 : (c : Dev Cert.GdnGateIdeal.nD) → Buf (Elt Ideal) ((c.tc : Thread Cert.GdnGateIdeal.nD Cert.GdnGateIdeal.τ).loc Cert.GdnGateIdeal.main_v2_0)) (v1 : (c : Dev Cert.GdnGateIdeal.nD) → Buf (Elt Ideal) ((c.tc : Thread Cert.GdnGateIdeal.nD Cert.GdnGateIdeal.τ).loc Cert.GdnGateIdeal.main_v2_1)),
      θ_run (Cert.GdnGateIdeal.defs (F := Ideal)) (onTc (τ := Cert.GdnGateIdeal.τ) (Cert.GdnGateIdeal.main (F := Ideal))) ⟨m, fun _ => 0, g⟩ (fun r => ∀ c : Dev Cert.GdnGateIdeal.nD,
          r.2.mem ((c.tc : Thread Cert.GdnGateIdeal.nD Cert.GdnGateIdeal.τ).loc Cert.GdnGateIdeal.main_v2_0) = v0 c
          ∧ r.2.mem ((c.tc : Thread Cert.GdnGateIdeal.nD Cert.GdnGateIdeal.τ).loc Cert.GdnGateIdeal.main_v2_1) = v1 c
          ∧ r.2.mem ((c.tc : Thread Cert.GdnGateIdeal.nD Cert.GdnGateIdeal.τ).loc Cert.GdnGateIdeal.main_arg0) = m ((c.tc : Thread Cert.GdnGateIdeal.nD Cert.GdnGateIdeal.τ).loc Cert.GdnGateIdeal.main_arg0)
          ∧ r.2.mem ((c.tc : Thread Cert.GdnGateIdeal.nD Cert.GdnGateIdeal.τ).loc Cert.GdnGateIdeal.main_arg1) = m ((c.tc : Thread Cert.GdnGateIdeal.nD Cert.GdnGateIdeal.τ).loc Cert.GdnGateIdeal.main_arg1)
          ∧ r.2.mem ((c.tc : Thread Cert.GdnGateIdeal.nD Cert.GdnGateIdeal.τ).loc Cert.GdnGateIdeal.main_arg2) = m ((c.tc : Thread Cert.GdnGateIdeal.nD Cert.GdnGateIdeal.τ).loc Cert.GdnGateIdeal.main_arg2))
      ∧ θ_run (Cert.GdnGateRefIdeal.defs (F := Ideal)) (onTc (τ := Cert.GdnGateRefIdeal.τ) (Cert.GdnGateRefIdeal.main (F := Ideal))) ⟨m', fun _ => 0, g'⟩ (fun r => ∀ c : Dev Cert.GdnGateRefIdeal.nD,
          r.2.mem ((c.tc : Thread Cert.GdnGateRefIdeal.nD Cert.GdnGateRefIdeal.τ).loc Cert.GdnGateRefIdeal.main_v22) = v0 c
          ∧ r.2.mem ((c.tc : Thread Cert.GdnGateRefIdeal.nD Cert.GdnGateRefIdeal.τ).loc Cert.GdnGateRefIdeal.main_v28) = v1 c
          ∧ r.2.mem ((c.tc : Thread Cert.GdnGateRefIdeal.nD Cert.GdnGateRefIdeal.τ).loc Cert.GdnGateRefIdeal.main_arg0) = m' ((c.tc : Thread Cert.GdnGateRefIdeal.nD Cert.GdnGateRefIdeal.τ).loc Cert.GdnGateRefIdeal.main_arg0)
          ∧ r.2.mem ((c.tc : Thread Cert.GdnGateRefIdeal.nD Cert.GdnGateRefIdeal.τ).loc Cert.GdnGateRefIdeal.main_arg1) = m' ((c.tc : Thread Cert.GdnGateRefIdeal.nD Cert.GdnGateRefIdeal.τ).loc Cert.GdnGateRefIdeal.main_arg1)
          ∧ r.2.mem ((c.tc : Thread Cert.GdnGateRefIdeal.nD Cert.GdnGateRefIdeal.τ).loc Cert.GdnGateRefIdeal.main_arg2) = m' ((c.tc : Thread Cert.GdnGateRefIdeal.nD Cert.GdnGateRefIdeal.τ).loc Cert.GdnGateRefIdeal.main_arg2))

def preserves_GdnConv_GdnConvIdeal : Prop :=
  True

def algebraic_GdnConvIdeal_GdnConvRefIdeal [hGdnConvIdeal : Cert.GdnConvIdeal.Facts] [hGdnConvRefIdeal : Cert.GdnConvRefIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg)
    (m' : (ℓ : Loc Cert.GdnConvRefIdeal.nD Cert.GdnConvRefIdeal.τ Cert.GdnConvRefIdeal.sig) → Buf (Elt Ideal) ℓ) (g' : Dev Cert.GdnConvRefIdeal.nD → PrngReg), Pre_GdnConvIdeal m →
    (∀ c : Dev Cert.GdnConvIdeal.nD,
      m' ((c.tc : Thread Cert.GdnConvRefIdeal.nD Cert.GdnConvRefIdeal.τ).loc Cert.GdnConvRefIdeal.main_arg0) = m ((c.tc : Thread Cert.GdnConvIdeal.nD Cert.GdnConvIdeal.τ).loc Cert.GdnConvIdeal.main_arg0)
      ∧ m' ((c.tc : Thread Cert.GdnConvRefIdeal.nD Cert.GdnConvRefIdeal.τ).loc Cert.GdnConvRefIdeal.main_arg1) = m ((c.tc : Thread Cert.GdnConvIdeal.nD Cert.GdnConvIdeal.τ).loc Cert.GdnConvIdeal.main_arg1)) →
    ∃ (v0 : (c : Dev Cert.GdnConvIdeal.nD) → Buf (Elt Ideal) ((c.tc : Thread Cert.GdnConvIdeal.nD Cert.GdnConvIdeal.τ).loc Cert.GdnConvIdeal.main_v1)),
      θ_run (Cert.GdnConvIdeal.defs (F := Ideal)) (onTc (τ := Cert.GdnConvIdeal.τ) (Cert.GdnConvIdeal.main (F := Ideal))) ⟨m, fun _ => 0, g⟩ (fun r => ∀ c : Dev Cert.GdnConvIdeal.nD,
          r.2.mem ((c.tc : Thread Cert.GdnConvIdeal.nD Cert.GdnConvIdeal.τ).loc Cert.GdnConvIdeal.main_v1) = v0 c
          ∧ r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
          ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1))
      ∧ θ_run (Cert.GdnConvRefIdeal.defs (F := Ideal)) (onTc (τ := Cert.GdnConvRefIdeal.τ) (Cert.GdnConvRefIdeal.main (F := Ideal))) ⟨m', fun _ => 0, g'⟩ (fun r => ∀ c : Dev Cert.GdnConvRefIdeal.nD,
          r.2.mem ((c.tc : Thread Cert.GdnConvRefIdeal.nD Cert.GdnConvRefIdeal.τ).loc Cert.GdnConvRefIdeal.main_v61) = v0 c
          ∧ r.2.mem ((c.tc : Thread Cert.GdnConvRefIdeal.nD Cert.GdnConvRefIdeal.τ).loc Cert.GdnConvRefIdeal.main_arg0) = m' ((c.tc : Thread Cert.GdnConvRefIdeal.nD Cert.GdnConvRefIdeal.τ).loc Cert.GdnConvRefIdeal.main_arg0)
          ∧ r.2.mem ((c.tc : Thread Cert.GdnConvRefIdeal.nD Cert.GdnConvRefIdeal.τ).loc Cert.GdnConvRefIdeal.main_arg1) = m' ((c.tc : Thread Cert.GdnConvRefIdeal.nD Cert.GdnConvRefIdeal.τ).loc Cert.GdnConvRefIdeal.main_arg1))

def preserves_RopeTables_RopeTablesIdeal : Prop :=
  True

def algebraic_RopeTablesIdeal_RopeTablesRefIdeal [hRopeTablesIdeal : Cert.RopeTablesIdeal.Facts] [hRopeTablesRefIdeal : Cert.RopeTablesRefIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg)
    (m' : (ℓ : Loc Cert.RopeTablesRefIdeal.nD Cert.RopeTablesRefIdeal.τ Cert.RopeTablesRefIdeal.sig) → Buf (Elt Ideal) ℓ) (g' : Dev Cert.RopeTablesRefIdeal.nD → PrngReg), Pre_RopeTablesIdeal m →
    (∀ c : Dev Cert.RopeTablesIdeal.nD,
      m' ((c.tc : Thread Cert.RopeTablesRefIdeal.nD Cert.RopeTablesRefIdeal.τ).loc Cert.RopeTablesRefIdeal.main_arg0) = m ((c.tc : Thread Cert.RopeTablesIdeal.nD Cert.RopeTablesIdeal.τ).loc Cert.RopeTablesIdeal.main_arg0)) →
    ∃ (v0 : (c : Dev Cert.RopeTablesIdeal.nD) → Buf (Elt Ideal) ((c.tc : Thread Cert.RopeTablesIdeal.nD Cert.RopeTablesIdeal.τ).loc Cert.RopeTablesIdeal.main_v15_0)) (v1 : (c : Dev Cert.RopeTablesIdeal.nD) → Buf (Elt Ideal) ((c.tc : Thread Cert.RopeTablesIdeal.nD Cert.RopeTablesIdeal.τ).loc Cert.RopeTablesIdeal.main_v15_1)),
      θ_run (Cert.RopeTablesIdeal.defs (F := Ideal)) (onTc (τ := Cert.RopeTablesIdeal.τ) (Cert.RopeTablesIdeal.main (F := Ideal))) ⟨m, fun _ => 0, g⟩ (fun r => ∀ c : Dev Cert.RopeTablesIdeal.nD,
          r.2.mem ((c.tc : Thread Cert.RopeTablesIdeal.nD Cert.RopeTablesIdeal.τ).loc Cert.RopeTablesIdeal.main_v15_0) = v0 c
          ∧ r.2.mem ((c.tc : Thread Cert.RopeTablesIdeal.nD Cert.RopeTablesIdeal.τ).loc Cert.RopeTablesIdeal.main_v15_1) = v1 c
          ∧ r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ θ_run (Cert.RopeTablesRefIdeal.defs (F := Ideal)) (onTc (τ := Cert.RopeTablesRefIdeal.τ) (Cert.RopeTablesRefIdeal.main (F := Ideal))) ⟨m', fun _ => 0, g'⟩ (fun r => ∀ c : Dev Cert.RopeTablesRefIdeal.nD,
          r.2.mem ((c.tc : Thread Cert.RopeTablesRefIdeal.nD Cert.RopeTablesRefIdeal.τ).loc Cert.RopeTablesRefIdeal.main_v20) = v0 c
          ∧ r.2.mem ((c.tc : Thread Cert.RopeTablesRefIdeal.nD Cert.RopeTablesRefIdeal.τ).loc Cert.RopeTablesRefIdeal.main_v25) = v1 c
          ∧ r.2.mem ((c.tc : Thread Cert.RopeTablesRefIdeal.nD Cert.RopeTablesRefIdeal.τ).loc Cert.RopeTablesRefIdeal.main_arg0) = m' ((c.tc : Thread Cert.RopeTablesRefIdeal.nD Cert.RopeTablesRefIdeal.τ).loc Cert.RopeTablesRefIdeal.main_arg0))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hFinalNorm : Cert.FinalNorm.Facts) (hFinalNormIdeal : Cert.FinalNormIdeal.Facts) (hFinalNormRefIdeal : Cert.FinalNormRefIdeal.Facts) (hNorm : Cert.Norm.Facts) (hNormIdeal : Cert.NormIdeal.Facts) (hNormRefIdeal : Cert.NormRefIdeal.Facts) (hProjDq : Cert.ProjDq.Facts) (hProjDqIdeal : Cert.ProjDqIdeal.Facts) (hProjDqRefIdeal : Cert.ProjDqRefIdeal.Facts) (hProjDkv : Cert.ProjDkv.Facts) (hProjDkvIdeal : Cert.ProjDkvIdeal.Facts) (hProjDkvRefIdeal : Cert.ProjDkvRefIdeal.Facts) (hGmlp : Cert.Gmlp.Facts) (hGmlpIdeal : Cert.GmlpIdeal.Facts) (hGmlpRefIdeal : Cert.GmlpRefIdeal.Facts) (hGdnOut : Cert.GdnOut.Facts) (hGdnOutIdeal : Cert.GdnOutIdeal.Facts) (hGdnOutRefIdeal : Cert.GdnOutRefIdeal.Facts) (hQProj : Cert.QProj.Facts) (hQProjIdeal : Cert.QProjIdeal.Facts) (hQProjRefIdeal : Cert.QProjRefIdeal.Facts) (hKvProj : Cert.KvProj.Facts) (hKvProjIdeal : Cert.KvProjIdeal.Facts) (hKvProjRefIdeal : Cert.KvProjRefIdeal.Facts) (hGdnGate : Cert.GdnGate.Facts) (hGdnGateIdeal : Cert.GdnGateIdeal.Facts) (hGdnGateRefIdeal : Cert.GdnGateRefIdeal.Facts) (hGdnConv : Cert.GdnConv.Facts) (hGdnConvIdeal : Cert.GdnConvIdeal.Facts) (hGdnConvRefIdeal : Cert.GdnConvRefIdeal.Facts) (hRopeTables : Cert.RopeTables.Facts) (hRopeTablesIdeal : Cert.RopeTablesIdeal.Facts) (hRopeTablesRefIdeal : Cert.RopeTablesRefIdeal.Facts) (hPre_operands : Cert.Pre_operands.Facts),
    quiescent_Kernel (hKernel := hKernel)
    ∧ quiescent_KernelIdeal (hKernelIdeal := hKernelIdeal)
    ∧ quiescent_KernelIdeal_pre_operands (hKernelIdeal := hKernelIdeal) (hPre_operands := hPre_operands)
    ∧ quiescent_ReferenceIdeal (hReferenceIdeal := hReferenceIdeal)
    ∧ quiescent_ReferenceIdeal_pre_operands (hReferenceIdeal := hReferenceIdeal) (hPre_operands := hPre_operands)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Norm (hNorm := hNorm)
    ∧ quiescent_NormIdeal (hNormIdeal := hNormIdeal)
    ∧ quiescent_NormRefIdeal (hNormRefIdeal := hNormRefIdeal)
    ∧ quiescent_ProjDq (hProjDq := hProjDq)
    ∧ quiescent_ProjDqIdeal (hProjDqIdeal := hProjDqIdeal)
    ∧ quiescent_ProjDqRefIdeal (hProjDqRefIdeal := hProjDqRefIdeal)
    ∧ quiescent_ProjDkv (hProjDkv := hProjDkv)
    ∧ quiescent_ProjDkvIdeal (hProjDkvIdeal := hProjDkvIdeal)
    ∧ quiescent_ProjDkvRefIdeal (hProjDkvRefIdeal := hProjDkvRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_QProj (hQProj := hQProj)
    ∧ quiescent_QProjIdeal (hQProjIdeal := hQProjIdeal)
    ∧ quiescent_QProjRefIdeal (hQProjRefIdeal := hQProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_GdnGate (hGdnGate := hGdnGate)
    ∧ quiescent_GdnGateIdeal (hGdnGateIdeal := hGdnGateIdeal)
    ∧ quiescent_GdnGateRefIdeal (hGdnGateRefIdeal := hGdnGateRefIdeal)
    ∧ quiescent_GdnConv (hGdnConv := hGdnConv)
    ∧ quiescent_GdnConvIdeal (hGdnConvIdeal := hGdnConvIdeal)
    ∧ quiescent_GdnConvRefIdeal (hGdnConvRefIdeal := hGdnConvRefIdeal)
    ∧ quiescent_RopeTables (hRopeTables := hRopeTables)
    ∧ quiescent_RopeTablesIdeal (hRopeTablesIdeal := hRopeTablesIdeal)
    ∧ quiescent_RopeTablesRefIdeal (hRopeTablesRefIdeal := hRopeTablesRefIdeal)
    ∧ preserves_Kernel_KernelIdeal
    ∧ algebraic_KernelIdeal_ReferenceIdeal_pre_operands (hKernelIdeal := hKernelIdeal) (hReferenceIdeal := hReferenceIdeal) (hPre_operands := hPre_operands)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Norm_NormIdeal
    ∧ algebraic_NormIdeal_NormRefIdeal (hNormIdeal := hNormIdeal) (hNormRefIdeal := hNormRefIdeal)
    ∧ preserves_ProjDq_ProjDqIdeal
    ∧ algebraic_ProjDqIdeal_ProjDqRefIdeal (hProjDqIdeal := hProjDqIdeal) (hProjDqRefIdeal := hProjDqRefIdeal)
    ∧ preserves_ProjDkv_ProjDkvIdeal
    ∧ algebraic_ProjDkvIdeal_ProjDkvRefIdeal (hProjDkvIdeal := hProjDkvIdeal) (hProjDkvRefIdeal := hProjDkvRefIdeal)
    ∧ preserves_Gmlp_GmlpIdeal
    ∧ algebraic_GmlpIdeal_GmlpRefIdeal (hGmlpIdeal := hGmlpIdeal) (hGmlpRefIdeal := hGmlpRefIdeal)
    ∧ preserves_GdnOut_GdnOutIdeal
    ∧ algebraic_GdnOutIdeal_GdnOutRefIdeal (hGdnOutIdeal := hGdnOutIdeal) (hGdnOutRefIdeal := hGdnOutRefIdeal)
    ∧ preserves_QProj_QProjIdeal
    ∧ algebraic_QProjIdeal_QProjRefIdeal (hQProjIdeal := hQProjIdeal) (hQProjRefIdeal := hQProjRefIdeal)
    ∧ preserves_KvProj_KvProjIdeal
    ∧ algebraic_KvProjIdeal_KvProjRefIdeal (hKvProjIdeal := hKvProjIdeal) (hKvProjRefIdeal := hKvProjRefIdeal)
    ∧ preserves_GdnGate_GdnGateIdeal
    ∧ algebraic_GdnGateIdeal_GdnGateRefIdeal (hGdnGateIdeal := hGdnGateIdeal) (hGdnGateRefIdeal := hGdnGateRefIdeal)
    ∧ preserves_GdnConv_GdnConvIdeal
    ∧ algebraic_GdnConvIdeal_GdnConvRefIdeal (hGdnConvIdeal := hGdnConvIdeal) (hGdnConvRefIdeal := hGdnConvRefIdeal)
    ∧ preserves_RopeTables_RopeTablesIdeal
    ∧ algebraic_RopeTablesIdeal_RopeTablesRefIdeal (hRopeTablesIdeal := hRopeTablesIdeal) (hRopeTablesRefIdeal := hRopeTablesRefIdeal)
-- ==== Pre_operands.lean ====
abbrev S2x16x8192x256 : Shape := ⟨4, ![2, 16, 8192, 256]⟩
abbrev S2x16x256x8192 : Shape := ⟨4, ![2, 16, 256, 8192]⟩
abbrev S_ : Shape := ⟨0, ![]⟩
abbrev S2x16x8192x128 : Shape := ⟨4, ![2, 16, 8192, 128]⟩

class Facts : Prop where
  bitsLt_bf16_f32 : FTy.bits .bf16 < FTy.bits .f32
  bcast_S_S2x16x8192x256 : S_.BroadcastsInDim S2x16x8192x256 (![] : Fin 0 → Fin S2x16x8192x256.rank)
  bcast_S_S2x16x256x8192 : S_.BroadcastsInDim S2x16x256x8192 (![] : Fin 0 → Fin S2x16x256x8192.rank)
  slices_S2x16x8192x256_S2x16x8192x128_0_0_0_128 : S2x16x8192x256.Slices ![0, 0, 0, 128] S2x16x8192x128
  bcast_S_S2x16x8192x128 : S_.BroadcastsInDim S2x16x8192x128 (![] : Fin 0 → Fin S2x16x8192x128.rank)

variable [Facts]

def fn {F : FTy → Type} [FloatOps F] (main_arg0 : FVec F S2x16x8192x256 .bf16) (main_arg1 : FVec F S2x16x256x8192 .bf16) (main_arg2 : FVec F S2x16x8192x256 .bf16) : IVec S2x16x8192x256 1 × IVec S2x16x256x8192 1 × IVec S2x16x8192x128 1 :=
  let main_v0 : FVec F S2x16x8192x256 .f32 := (extf .f32 · bitsLt_bf16_f32) main_arg0
  let main_v1 : FVec F S2x16x8192x256 .f32 := Host.absf main_v0
  let main_cst : FVec F S_ .f32 := constant S_ .f32 0x7F800000#32
  let main_v2 : FVec F S2x16x8192x256 .f32 := broadcastInDim S2x16x8192x256 ![] bcast_S_S2x16x8192x256 main_cst
  let main_v3 : IVec S2x16x8192x256 1 := cmpf .olt main_v1 main_v2
  let main_v4 : FVec F S2x16x256x8192 .f32 := (extf .f32 · bitsLt_bf16_f32) main_arg1
  let main_v5 : FVec F S2x16x256x8192 .f32 := Host.absf main_v4
  let main_cst_0 : FVec F S_ .f32 := constant S_ .f32 0x7F800000#32
  let main_v6 : FVec F S2x16x256x8192 .f32 := broadcastInDim S2x16x256x8192 ![] bcast_S_S2x16x256x8192 main_cst_0
  let main_v7 : IVec S2x16x256x8192 1 := cmpf .olt main_v5 main_v6
  let main_v8 : FVec F S2x16x8192x128 .bf16 := (extractStridedSlice S2x16x8192x128 ![0, 0, 0, 128] · slices_S2x16x8192x256_S2x16x8192x128_0_0_0_128) main_arg2
  let main_v9 : FVec F S2x16x8192x128 .f32 := (extf .f32 · bitsLt_bf16_f32) main_v8
  let main_cst_1 : FVec F S_ .f32 := constant S_ .f32 0x3F800000#32
  let main_v10 : FVec F S2x16x8192x128 .f32 := broadcastInDim S2x16x8192x128 ![] bcast_S_S2x16x8192x128 main_cst_1
  let main_v11 : IVec S2x16x8192x128 1 := cmpf .oeq main_v9 main_v10
  (main_v3, main_v7, main_v11)
-- ==== Kernel.lean ====
abbrev S2x16x8192x256 : Shape := ⟨4, ![2, 16, 8192, 256]⟩
abbrev S2x16x256x8192 : Shape := ⟨4, ![2, 16, 256, 8192]⟩
abbrev S2x8192x2048 : Shape := ⟨3, ![2, 8192, 2048]⟩
abbrev S1x1x8192x256 : Shape := ⟨4, ![1, 1, 8192, 256]⟩
abbrev S1x1x256x8192 : Shape := ⟨4, ![1, 1, 256, 8192]⟩
abbrev S1x8192x128 : Shape := ⟨3, ![1, 8192, 128]⟩
abbrev S2x2x512x1024 : Shape := ⟨4, ![2, 2, 512, 1024]⟩
abbrev S2x512x128 : Shape := ⟨3, ![2, 512, 128]⟩
abbrev S2x512x256 : Shape := ⟨3, ![2, 512, 256]⟩
abbrev S1x1x256x1024 : Shape := ⟨4, ![1, 1, 256, 1024]⟩
abbrev S256x1024 : Shape := ⟨2, ![256, 1024]⟩
abbrev S1x1x512x256 : Shape := ⟨4, ![1, 1, 512, 256]⟩
abbrev S512x256 : Shape := ⟨2, ![512, 256]⟩
abbrev S512x1024 : Shape := ⟨2, ![512, 1024]⟩
abbrev S1x1x512x1024 : Shape := ⟨4, ![1, 1, 512, 1024]⟩
abbrev S1x1x1024x256 : Shape := ⟨4, ![1, 1, 1024, 256]⟩
abbrev S1024x256 : Shape := ⟨2, ![1024, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512x256 : Shape := ⟨3, ![1, 512, 256]⟩

abbrev nBuf : Space → Nat
  | .hbm => 4
  | .vmem => 11
  | .smem => 0
  | _ => 0

abbrev bufTy : (tb : Table) → Fin (tcTables nBuf tb) → BufTy
  | .hbm, ⟨0, _⟩ => ⟨S2x16x8192x256, .bf16⟩
  | .hbm, ⟨1, _⟩ => ⟨S2x16x256x8192, .bf16⟩
  | .hbm, ⟨2, _⟩ => ⟨S2x16x8192x256, .bf16⟩
  | .hbm, ⟨3, _⟩ => ⟨S2x8192x2048, .bf16⟩
  | .local _ .vmem, ⟨0, _⟩ => ⟨S1x1x8192x256, .bf16⟩
  | .local _ .vmem, ⟨1, _⟩ => ⟨S1x1x8192x256, .bf16⟩
  | .local _ .vmem, ⟨2, _⟩ => ⟨S1x1x256x8192, .bf16⟩
  | .local _ .vmem, ⟨3, _⟩ => ⟨S1x1x256x8192, .bf16⟩
  | .local _ .vmem, ⟨4, _⟩ => ⟨S1x1x8192x256, .bf16⟩
  | .local _ .vmem, ⟨5, _⟩ => ⟨S1x1x8192x256, .bf16⟩
  | .local _ .vmem, ⟨6, _⟩ => ⟨S1x8192x128, .bf16⟩
  | .local _ .vmem, ⟨7, _⟩ => ⟨S1x8192x128, .bf16⟩
  | .local _ .vmem, ⟨8, _⟩ => ⟨S2x2x512x1024, .f32⟩
  | .local _ .vmem, ⟨9, _⟩ => ⟨S2x512x128, .f32⟩
  | .local _ .vmem, ⟨10, _⟩ => ⟨S2x512x256, .f32⟩
  | _, _ => ⟨S2x16x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  c0_i32
def k0_mult2 : BitVec 32 :=
  let c0_i32_2 : BitVec 32 := 0#32
  c0_i32_2
def k0_mult3 : BitVec 32 :=
  let c512_i32 : BitVec 32 := 512#32
  c512_i32
@[reducible] def k0_t1_loop : Scf.Loop 32 :=
  let c0_i32_17 : BitVec 32 := 0#32
  let c8_i32 : BitVec 32 := 8#32
  let v20 : BitVec 32 := Scalar.addi c0_i32_17 c8_i32
  let c1_i32 : BitVec 32 := 1#32
  ⟨c0_i32_17, v20, c1_i32⟩
@[reducible] def k0_t2_loop : Scf.Loop 32 :=
  let c0_i32_29 : BitVec 32 := 0#32
  let c3_i32 : BitVec 32 := 3#32
  let v33 : BitVec 32 := Scalar.addi c0_i32_29 c3_i32
  let c1_i32_30 : BitVec 32 := 1#32
  ⟨c0_i32_29, v33, c1_i32_30⟩
def k0_mult4 (k0_t2 : Fin k0_t2_loop.trips) : BitVec 32 :=
  let c2_i32 : BitVec 32 := 2#32
  let c0_i32_29 : BitVec 32 := 0#32
  let c1_i32_30 : BitVec 32 := 1#32
  let arg10 : BitVec 32 := Scf.iv c0_i32_29 c1_i32_30 k0_t2
  let v214 : BitVec 32 := Scalar.muli c2_i32 arg10
  let c1_i32_166 : BitVec 32 := 1#32
  let v215 : BitVec 32 := Scalar.addi v214 c1_i32_166
  let c1024_i32_167 : BitVec 32 := 1024#32
  let v216 : BitVec 32 := Scalar.muli v215 c1024_i32_167
  v216
def k0_off1 (k0_t2 : Fin k0_t2_loop.trips) (c1_i32_166 : BitVec 32) : Fin 4 → Nat :=
  let c0_168 : Index := 0#32
  let c0_169 : Index := 0#32
  let c0_170 : Index := 0#32
  let c2_i32 : BitVec 32 := 2#32
  let c0_i32_29 : BitVec 32 := 0#32
  let c1_i32_30 : BitVec 32 := 1#32
  let arg10 : BitVec 32 := Scf.iv c0_i32_29 c1_i32_30 k0_t2
  let v214 : BitVec 32 := Scalar.muli c2_i32 arg10
  let v215 : BitVec 32 := Scalar.addi v214 c1_i32_166
  let c1024_i32_167 : BitVec 32 := 1024#32
  let v216 : BitVec 32 := Scalar.muli v215 c1024_i32_167
  let v217 : BitVec 32 := v216
  let v218 : Index := Scalar.indexCast v217
  ![0, 0, 0, v218.toNat]
def k0_mult5 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let c0_i32_171 : BitVec 32 := 0#32
  let v221 : BitVec 32 := Scalar.addi v21 c0_i32_171
  v221
def k0_off2 (k0_t1 : Fin k0_t1_loop.trips) (c0_i32_171 : BitVec 32) : Fin 4 → Nat :=
  let c0_172 : Index := 0#32
  let c0_173 : Index := 0#32
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let v221 : BitVec 32 := Scalar.addi v21 c0_i32_171
  let v222 : BitVec 32 := v221
  let v223 : Index := Scalar.indexCast v222
  let c0_174 : Index := 0#32
  ![0, 0, v223.toNat, 0]
def k0_mult6 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let c512_i32_180 : BitVec 32 := 512#32
  let v230 : BitVec 32 := Scalar.addi v21 c512_i32_180
  v230
def k0_mult7 (k0_t2 : Fin k0_t2_loop.trips) : BitVec 32 :=
  let c2_i32 : BitVec 32 := 2#32
  let c0_i32_29 : BitVec 32 := 0#32
  let c1_i32_30 : BitVec 32 := 1#32
  let arg10 : BitVec 32 := Scf.iv c0_i32_29 c1_i32_30 k0_t2
  let v214 : BitVec 32 := Scalar.muli c2_i32 arg10
  let c1024_i32_189 : BitVec 32 := 1024#32
  let v239 : BitVec 32 := Scalar.muli v214 c1024_i32_189
  v239
def k0_off3 (k0_t2 : Fin k0_t2_loop.trips) : Fin 4 → Nat :=
  let c0_190 : Index := 0#32
  let c0_191 : Index := 0#32
  let c2_i32 : BitVec 32 := 2#32
  let c0_i32_29 : BitVec 32 := 0#32
  let c1_i32_30 : BitVec 32 := 1#32
  let arg10 : BitVec 32 := Scf.iv c0_i32_29 c1_i32_30 k0_t2
  let v214 : BitVec 32 := Scalar.muli c2_i32 arg10
  let c1024_i32_189 : BitVec 32 := 1024#32
  let v239 : BitVec 32 := Scalar.muli v214 c1024_i32_189
  let v240 : BitVec 32 := v239
  let v241 : Index := Scalar.indexCast v240
  let c0_192 : Index := 0#32
  ![0, 0, v241.toNat, 0]
def k0_mult8 (k0_t2 : Fin k0_t2_loop.trips) : BitVec 32 :=
  let c2_i32 : BitVec 32 := 2#32
  let c0_i32_29 : BitVec 32 := 0#32
  let c1_i32_30 : BitVec 32 := 1#32
  let arg10 : BitVec 32 := Scf.iv c0_i32_29 c1_i32_30 k0_t2
  let v214 : BitVec 32 := Scalar.muli c2_i32 arg10
  let c2_i32_229 : BitVec 32 := 2#32
  let v296 : BitVec 32 := Scalar.addi v214 c2_i32_229
  let c1024_i32_230 : BitVec 32 := 1024#32
  let v297 : BitVec 32 := Scalar.muli v296 c1024_i32_230
  v297
def k0_mult9 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let c0_i32_234 : BitVec 32 := 0#32
  let v302 : BitVec 32 := Scalar.addi v21 c0_i32_234
  v302
def k0_mult10 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let c512_i32_243 : BitVec 32 := 512#32
  let v311 : BitVec 32 := Scalar.addi v21 c512_i32_243
  v311
def k0_mult11 (k0_t2 : Fin k0_t2_loop.trips) : BitVec 32 :=
  let c2_i32 : BitVec 32 := 2#32
  let c0_i32_29 : BitVec 32 := 0#32
  let c1_i32_30 : BitVec 32 := 1#32
  let arg10 : BitVec 32 := Scf.iv c0_i32_29 c1_i32_30 k0_t2
  let v214 : BitVec 32 := Scalar.muli c2_i32 arg10
  let c1_i32_252 : BitVec 32 := 1#32
  let v320 : BitVec 32 := Scalar.addi v214 c1_i32_252
  let c1024_i32_253 : BitVec 32 := 1024#32
  let v321 : BitVec 32 := Scalar.muli v320 c1024_i32_253
  v321
def k0_off4 (k0_t2 : Fin k0_t2_loop.trips) : Fin 4 → Nat :=
  let c0_254 : Index := 0#32
  let c0_255 : Index := 0#32
  let c2_i32 : BitVec 32 := 2#32
  let c0_i32_29 : BitVec 32 := 0#32
  let c1_i32_30 : BitVec 32 := 1#32
  let arg10 : BitVec 32 := Scf.iv c0_i32_29 c1_i32_30 k0_t2
  let v214 : BitVec 32 := Scalar.muli c2_i32 arg10
  let c1_i32_252 : BitVec 32 := 1#32
  let v320 : BitVec 32 := Scalar.addi v214 c1_i32_252
  let c1024_i32_253 : BitVec 32 := 1024#32
  let v321 : BitVec 32 := Scalar.muli v320 c1024_i32_253
  let v322 : BitVec 32 := v321
  let v323 : Index := Scalar.indexCast v322
  let c0_256 : Index := 0#32
  ![0, 0, v323.toNat, 0]
def k0_mult12 : BitVec 32 :=
  let c7168_i32 : BitVec 32 := 7168#32
  c7168_i32
def k0_mult13 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let c0_i32_35 : BitVec 32 := 0#32
  let v38 : BitVec 32 := Scalar.addi v21 c0_i32_35
  v38
def k0_off5 (k0_t1 : Fin k0_t1_loop.trips) (c0_i32_35 : BitVec 32) : Fin 4 → Nat :=
  let c0_36 : Index := 0#32
  let c0_37 : Index := 0#32
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let v38 : BitVec 32 := Scalar.addi v21 c0_i32_35
  let v39 : BitVec 32 := v38
  let v40 : Index := Scalar.indexCast v39
  let c0_38 : Index := 0#32
  ![0, 0, v40.toNat, 0]
def k0_mult14 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let c512_i32_44 : BitVec 32 := 512#32
  let v47 : BitVec 32 := Scalar.addi v21 c512_i32_44
  v47
def k0_mult15 : BitVec 32 :=
  let c6144_i32 : BitVec 32 := 6144#32
  c6144_i32
def k0_mult16 : BitVec 32 :=
  let c0_i32_92 : BitVec 32 := 0#32
  c0_i32_92
def k0_mult17 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1_i32_19 : BitVec 32 := 1#32
  let v22 : BitVec 32 := Scalar.addi arg9 c1_i32_19
  let c7_i32 : BitVec 32 := 7#32
  let v23 : BitVec 32 := Scalar.minsi v22 c7_i32
  let c1024_i32_20 : BitVec 32 := 1024#32
  let v24 : BitVec 32 := Scalar.muli v23 c1024_i32_20
  let c0_i32_96 : BitVec 32 := 0#32
  let v116 : BitVec 32 := Scalar.addi v24 c0_i32_96
  v116
def k0_off6 (k0_t1 : Fin k0_t1_loop.trips) (c0_i32_96 : BitVec 32) : Fin 4 → Nat :=
  let c0_97 : Index := 0#32
  let c0_98 : Index := 0#32
  let c0_i32_17 : BitVec 32 := 0#32
  let c1_i32 : BitVec 32 := 1#32
  let arg9 : BitVec 32 := Scf.iv c0_i32_17 c1_i32 k0_t1
  let c1_i32_19 : BitVec 32 := 1#32
  let v22 : BitVec 32 := Scalar.addi arg9 c1_i32_19
  let c7_i32 : BitVec 32 := 7#32
  let v23 : BitVec 32 := Scalar.minsi v22 c7_i32
  let c1024_i32_20 : BitVec 32 := 1024#32
  let v24 : BitVec 32 := Scalar.muli v23 c1024_i32_20
  let v116 : BitVec 32 := Scalar.addi v24 c0_i32_96
  let v117 : BitVec 32 := v116
  let v118 : Index := Scalar.indexCast v117
  let c0_99 : Index := 0#32
  ![0, 0, v118.toNat, 0]
def k0_mult18 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1_i32_19 : BitVec 32 := 1#32
  let v22 : BitVec 32 := Scalar.addi arg9 c1_i32_19
  let c7_i32 : BitVec 32 := 7#32
  let v23 : BitVec 32 := Scalar.minsi v22 c7_i32
  let c1024_i32_20 : BitVec 32 := 1024#32
  let v24 : BitVec 32 := Scalar.muli v23 c1024_i32_20
  let c512_i32_105 : BitVec 32 := 512#32
  let v125 : BitVec 32 := Scalar.addi v24 c512_i32_105
  v125
def k0_mult19 : BitVec 32 :=
  let c7168_i32_114 : BitVec 32 := 7168#32
  c7168_i32_114
def k0_mult20 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let c0_i32_157 : BitVec 32 := 0#32
  let v196 : BitVec 32 := Scalar.addi v21 c0_i32_157
  v196
def k0_off7 (k0_t1 : Fin k0_t1_loop.trips) (c0_i32_157 : BitVec 32) : Fin 3 → Nat :=
  let c0_158 : Index := 0#32
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let v196 : BitVec 32 := Scalar.addi v21 c0_i32_157
  let v197 : BitVec 32 := v196
  let v198 : Index := Scalar.indexCast v197
  let c0_159 : Index := 0#32
  ![0, v198.toNat, 0]
def k0_mult21 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c1024_i32 : BitVec 32 := 1024#32
  let v21 : BitVec 32 := Scalar.muli arg9 c1024_i32
  let c512_i32_163 : BitVec 32 := 512#32
  let v208 : BitVec 32 := Scalar.addi v21 c512_i32_163
  v208
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x16x8192x256 : Shape := ⟨4, ![2, 16, 8192, 256]⟩
abbrev S2x16x256x8192 : Shape := ⟨4, ![2, 16, 256, 8192]⟩
abbrev S2x16x8192x128 : Shape := ⟨4, ![2, 16, 8192, 128]⟩
abbrev S2x16x8192x8192 : Shape := ⟨4, ![2, 16, 8192, 8192]⟩
abbrev S_ : Shape := ⟨0, ![]⟩
abbrev S2x16x8192 : Shape := ⟨3, ![2, 16, 8192]⟩
abbrev S2x16x8192x1 : Shape := ⟨4, ![2, 16, 8192, 1]⟩
abbrev S2x16x128x8192 : Shape := ⟨4, ![2, 16, 128, 8192]⟩
abbrev S2x8192x16x128 : Shape := ⟨4, ![2, 8192, 16, 128]⟩
abbrev S2x8192x2048 : Shape := ⟨3, ![2, 8192, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x16x8192x256, .bf16⟩
  | .hbm, ⟨1, _⟩ => ⟨S2x16x256x8192, .bf16⟩
  | .hbm, ⟨2, _⟩ => ⟨S2x16x8192x256, .bf16⟩
  | .hbm, ⟨3, _⟩ => ⟨S2x16x8192x128, .bf16⟩
  | .hbm, ⟨4, _⟩ => ⟨S2x16x8192x8192, .f32⟩
  | .hbm, ⟨5, _⟩ => ⟨S_, .f32⟩
  | .hbm, ⟨6, _⟩ => ⟨S_, .f32⟩
  | .hbm, ⟨7, _⟩ => ⟨S2x16x8192x8192, .f32⟩
  | .hbm, ⟨8, _⟩ => ⟨S2x16x8192x8192, .f32⟩
  | .hbm, ⟨9, _⟩ => ⟨S_, .f32⟩
  | .hbm, ⟨10, _⟩ => ⟨S2x16x8192, .f32⟩
  | .hbm, ⟨11, _⟩ => ⟨S_, .f32⟩
  | .hbm, ⟨12, _⟩ => ⟨S2x16x8192, .f32⟩
  | .hbm, ⟨13, _⟩ => ⟨S2x16x8192, .f32⟩
  | .hbm, ⟨14, _⟩ => ⟨S2x16x8192x1, .f32⟩
  | .hbm, ⟨15, _⟩ => ⟨S2x16x8192x8192, .f32⟩
  | .hbm, ⟨16, _⟩ => ⟨S2x16x8192x8192, .f32⟩
  | .hbm, ⟨17, _⟩ => ⟨S2x16x8192x8192, .f32⟩
  | .hbm, ⟨18, _⟩ => ⟨S_, .f32⟩
  | .hbm, ⟨19, _⟩ => ⟨S2x16x8192, .f32⟩
  | .hbm, ⟨20, _⟩ => ⟨S2x16x8192x1, .f32⟩
  | .hbm, ⟨21, _⟩ => ⟨S2x16x8192x8192, .f32⟩
  | .hbm, ⟨22, _⟩ => ⟨S2x16x8192x8192, .f32⟩
  | .hbm, ⟨23, _⟩ => ⟨S2x16x8192x8192, .bf16⟩
  | .hbm, ⟨24, _⟩ => ⟨S2x16x128x8192, .f32⟩
  | .hbm, ⟨25, _⟩ => ⟨S2x8192x16x128, .f32⟩
  | .hbm, ⟨26, _⟩ => ⟨S2x8192x2048, .f32⟩
  | .hbm, ⟨27, _⟩ => ⟨S2x8192x2048, .bf16⟩
  | _, _ => ⟨S2x16x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FfnUp.lean ====
abbrev S16384x4096 : Shape := ⟨2, ![16384, 4096]⟩
abbrev S2x4096x22016 : Shape := ⟨3, ![2, 4096, 22016]⟩
abbrev S16384x11008 : Shape := ⟨2, ![16384, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 3
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .bf16⟩
  | .hbm, ⟨2, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S2048x256, .bf16⟩
  | .local _ .vmem, ⟨7, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S16384x4096 : Shape := ⟨2, ![16384, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .bf16⟩
  | .hbm, ⟨2, _⟩ => ⟨S1x4096x22016, .bf16⟩
  | .hbm, ⟨3, _⟩ => ⟨S4096x22016, .bf16⟩
  | .hbm, ⟨4, _⟩ => ⟨S16384x22016, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfnDown.lean ====
abbrev S16384x11008 : Shape := ⟨2, ![16384, 11008]⟩
abbrev S2x11008x4096 : Shape := ⟨3, ![2, 11008, 4096]⟩
abbrev S16384x4096 : Shape := ⟨2, ![16384, 4096]⟩
abbrev S1024x11008 : Shape := ⟨2, ![1024, 11008]⟩
abbrev S1x11008x256 : Shape := ⟨3, ![1, 11008, 256]⟩
abbrev S1024x256 : Shape := ⟨2, ![1024, 256]⟩
abbrev S11008x256 : Shape := ⟨2, ![11008, 256]⟩

abbrev nBuf : Space → Nat
  | .hbm => 4
  | .vmem => 7
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .bf16⟩
  | .hbm, ⟨2, _⟩ => ⟨S16384x4096, .f32⟩
  | .hbm, ⟨3, _⟩ => ⟨S16384x4096, .f32⟩
  | .local _ .vmem, ⟨0, _⟩ => ⟨S1024x11008, .bf16⟩
  | .local _ .vmem, ⟨1, _⟩ => ⟨S1x11008x256, .bf16⟩
  | .local _ .vmem, ⟨2, _⟩ => ⟨S1x11008x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S16384x11008 : Shape := ⟨2, ![16384, 11008]⟩
abbrev S2x11008x4096 : Shape := ⟨3, ![2, 11008, 4096]⟩
abbrev S16384x4096 : Shape := ⟨2, ![16384, 4096]⟩
abbrev S1x11008x4096 : Shape := ⟨3, ![1, 11008, 4096]⟩
abbrev S11008x4096 : Shape := ⟨2, ![11008, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .bf16⟩
  | .hbm, ⟨2, _⟩ => ⟨S16384x4096, .f32⟩
  | .hbm, ⟨3, _⟩ => ⟨S1x11008x4096, .bf16⟩
  | .hbm, ⟨4, _⟩ => ⟨S11008x4096, .bf16⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Merge.lean ====
abbrev S16384x4096 : Shape := ⟨2, ![16384, 4096]⟩
abbrev S3x16384x2048 : Shape := ⟨3, ![3, 16384, 2048]⟩
abbrev S2x4096x12288 : Shape := ⟨3, ![2, 4096, 12288]⟩
abbrev S2x3x2048x4096 : Shape := ⟨4, ![2, 3, 2048, 4096]⟩
abbrev S1024x4096 : Shape := ⟨2, ![1024, 4096]⟩
abbrev S1x1024x2048 : Shape := ⟨3, ![1, 1024, 2048]⟩
abbrev S1x4096x512 : Shape := ⟨3, ![1, 4096, 512]⟩
abbrev S1x1x2048x512 : Shape := ⟨4, ![1, 1, 2048, 512]⟩
abbrev S1024x512 : Shape := ⟨2, ![1024, 512]⟩
abbrev S4096x512 : Shape := ⟨2, ![4096, 512]⟩
abbrev S1024x2048 : Shape := ⟨2, ![1024, 2048]⟩
abbrev S2048x512 : Shape := ⟨2, ![2048, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S3x16384x2048, .bf16⟩
  | .hbm, ⟨2, _⟩ => ⟨S2x4096x12288, .bf16⟩
  | .hbm, ⟨3, _⟩ => ⟨S2x3x2048x4096, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 3], ![false, false, false]⟩

def k0_cond3 (i : grid0.Coords) : BitVec 1 :=
  let arg2 : BitVec 32 := BitVec.ofNat 32 (i 2).val
  let c2_i32 : BitVec 32 := 2#32
  let v17 : BitVec 1 := Scalar.cmpi .eq arg2 c2_i32
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MergeRefIdeal.lean ====
abbrev S16384x4096 : Shape := ⟨2, ![16384, 4096]⟩
abbrev S3x16384x2048 : Shape := ⟨3, ![3, 16384, 2048]⟩
abbrev S2x4096x12288 : Shape := ⟨3, ![2, 4096, 12288]⟩
abbrev S2x3x2048x4096 : Shape := ⟨4, ![2, 3, 2048, 4096]⟩
abbrev S1x3x2048x4096 : Shape := ⟨4, ![1, 3, 2048, 4096]⟩
abbrev S3x2048x4096 : Shape := ⟨3, ![3, 2048, 4096]⟩
abbrev S3x4096x16384 : Shape := ⟨3, ![3, 4096, 16384]⟩
abbrev S16384x3x4096 : Shape := ⟨3, ![16384, 3, 4096]⟩
abbrev S1x4096x12288 : Shape := ⟨3, ![1, 4096, 12288]⟩
abbrev S4096x12288 : Shape := ⟨2, ![4096, 12288]⟩
abbrev S16384x12288 : Shape := ⟨2, ![16384, 12288]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S3x16384x2048, .bf16⟩
  | .hbm, ⟨2, _⟩ => ⟨S2x4096x12288, .bf16⟩
  | .hbm, ⟨3, _⟩ => ⟨S2x3x2048x4096, .bf16⟩
  | .hbm, ⟨4, _⟩ => ⟨S1x3x2048x4096, .bf16⟩
  | .hbm, ⟨5, _⟩ => ⟨S3x2048x4096, .bf16⟩
  | .hbm, ⟨6, _⟩ => ⟨S3x4096x16384, .f32⟩
  | .hbm, ⟨7, _⟩ => ⟨S16384x3x4096, .f32⟩
  | .hbm, ⟨8, _⟩ => ⟨S1x4096x12288, .bf16⟩
  | .hbm, ⟨9, _⟩ => ⟨S4096x12288, .bf16⟩
  | .hbm, ⟨10, _⟩ => ⟨S16384x12288, .f32⟩
  | .hbm, ⟨11, _⟩ => ⟨S16384x12288, .f32⟩
  | .hbm, ⟨12, _⟩ => ⟨S16384x12288, .f32⟩
  | .hbm, ⟨13, _⟩ => ⟨S_, .f32⟩
  | .hbm, ⟨14, _⟩ => ⟨S16384x12288, .f32⟩
  | .hbm, ⟨15, _⟩ => ⟨S16384x12288, .f32⟩
  | .hbm, ⟨16, _⟩ => ⟨S_, .f32⟩
  | .hbm, ⟨17, _⟩ => ⟨S16384x12288, .f32⟩
  | .hbm, ⟨18, _⟩ => ⟨S16384x12288, .f32⟩
  | .hbm, ⟨19, _⟩ => ⟨S16384x3x4096, .f32⟩
  | .hbm, ⟨20, _⟩ => ⟨S16384x3x4096, .f32⟩
  | .hbm, ⟨21, _⟩ => ⟨S_, .f32⟩
  | .hbm, ⟨22, _⟩ => ⟨S16384x4096, .f32⟩
  | .hbm, ⟨23, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutProj.lean ====
abbrev S16384x4096 : Shape := ⟨2, ![16384, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S1x4096x4096, .bf16⟩
  | .hbm, ⟨4, _⟩ => ⟨S4096x4096, .bf16⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjA.lean ====
abbrev S16384x4096 : Shape := ⟨2, ![16384, 4096]⟩
abbrev S2x4096x13952 : Shape := ⟨3, ![2, 4096, 13952]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x13952, .bf16⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjARefIdeal.lean ====
abbrev S16384x4096 : Shape := ⟨2, ![16384, 4096]⟩
abbrev S2x4096x13952 : Shape := ⟨3, ![2, 4096, 13952]⟩
abbrev S1x4096x13952 : Shape := ⟨3, ![1, 4096, 13952]⟩
abbrev S4096x13952 : Shape := ⟨2, ![4096, 13952]⟩
abbrev S16384x13952 : Shape := ⟨2, ![16384, 13952]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x13952, .bf16⟩
  | .hbm, ⟨2, _⟩ => ⟨S1x4096x13952, .bf16⟩
  | .hbm, ⟨3, _⟩ => ⟨S4096x13952, .bf16⟩
  | .hbm, ⟨4, _⟩ => ⟨S16384x13952, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ProjB.lean ====
abbrev S16384x4096 : Shape := ⟨2, ![16384, 4096]⟩
abbrev S2x4096x13952 : Shape := ⟨3, ![2, 4096, 13952]⟩
abbrev S16384x8192 : Shape := ⟨2, ![16384, 8192]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x13952, .bf16⟩
  | .hbm, ⟨2, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S16384x4096 : Shape := ⟨2, ![16384, 4096]⟩
abbrev S2x4096x13952 : Shape := ⟨3, ![2, 4096, 13952]⟩
abbrev S1x4096x13952 : Shape := ⟨3, ![1, 4096, 13952]⟩
abbrev S4096x13952 : Shape := ⟨2, ![4096, 13952]⟩
abbrev S16384x13952 : Shape := ⟨2, ![16384, 13952]⟩
abbrev S16384x8192 : Shape := ⟨2, ![16384, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x13952, .bf16⟩
  | .hbm, ⟨2, _⟩ => ⟨S1x4096x13952, .bf16⟩
  | .hbm, ⟨3, _⟩ => ⟨S4096x13952, .bf16⟩
  | .hbm, ⟨4, _⟩ => ⟨S16384x13952, .f32⟩
  | .hbm, ⟨5, _⟩ => ⟨S16384x8192, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FinalNorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ProjDq.lean ====
abbrev S16384x4096 : Shape := ⟨2, ![16384, 4096]⟩
abbrev S2x4096x1024 : Shape := ⟨3, ![2, 4096, 1024]⟩
abbrev S16384x1024 : Shape := ⟨2, ![16384, 1024]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S2x4096x1024, .bf16⟩
  | .hbm, ⟨2, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1024x1024, .f32⟩
  | .local _ .vmem, ⟨4, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDqRefIdeal.lean ====
abbrev S16384x4096 : Shape := ⟨2, ![16384, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x1024, .bf16⟩
  | .hbm, ⟨2, _⟩ => ⟨S1x4096x1024, .bf16⟩
  | .hbm, ⟨3, _⟩ => ⟨S4096x1024, .bf16⟩
  | .hbm, ⟨4, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDkv.lean ====
abbrev S16384x4096 : Shape := ⟨2, ![16384, 4096]⟩
abbrev S2x4096x640 : Shape := ⟨3, ![2, 4096, 640]⟩
abbrev S16384x640 : Shape := ⟨2, ![16384, 640]⟩
abbrev S1024x4096 : Shape := ⟨2, ![1024, 4096]⟩
abbrev S1x4096x640 : Shape := ⟨3, ![1, 4096, 640]⟩
abbrev S1024x640 : Shape := ⟨2, ![1024, 640]⟩
abbrev S4096x640 : Shape := ⟨2, ![4096, 640]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S2x4096x640, .bf16⟩
  | .hbm, ⟨2, _⟩ => ⟨S16384x640, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x640, .bf16⟩
  | .local _ .vmem, ⟨3, _⟩ => ⟨S1024x640, .f32⟩
  | .local _ .vmem, ⟨4, _⟩ => ⟨S1024x640, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDkvRefIdeal.lean ====
abbrev S16384x4096 : Shape := ⟨2, ![16384, 4096]⟩
abbrev S2x4096x640 : Shape := ⟨3, ![2, 4096, 640]⟩
abbrev S1x4096x640 : Shape := ⟨3, ![1, 4096, 640]⟩
abbrev S4096x640 : Shape := ⟨2, ![4096, 640]⟩
abbrev S16384x640 : Shape := ⟨2, ![16384, 640]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x640, .bf16⟩
  | .hbm, ⟨2, _⟩ => ⟨S1x4096x640, .bf16⟩
  | .hbm, ⟨3, _⟩ => ⟨S4096x640, .bf16⟩
  | .hbm, ⟨4, _⟩ => ⟨S16384x640, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gmlp.lean ====
abbrev S16384x4096 : Shape := ⟨2, ![16384, 4096]⟩
abbrev S2048 : Shape := ⟨1, ![2048]⟩
abbrev S2x16x128x128 : Shape := ⟨4, ![2, 16, 128, 128]⟩
abbrev S16x128 : Shape := ⟨2, ![16, 128]⟩
abbrev S1x2048 : Shape := ⟨2, ![1, 2048]⟩
abbrev S128x16 : Shape := ⟨2, ![128, 16]⟩
abbrev S16384x2048 : Shape := ⟨2, ![16384, 2048]⟩
abbrev S256x2048 : Shape := ⟨2, ![256, 2048]⟩
abbrev S1x16x128x128 : Shape := ⟨4, ![1, 16, 128, 128]⟩
abbrev S256 : Shape := ⟨1, ![256]⟩
abbrev S256x1 : Shape := ⟨2, ![256, 1]⟩
abbrev S1x1x128x128 : Shape := ⟨4, ![1, 1, 128, 128]⟩
abbrev S128x128 : Shape := ⟨2, ![128, 128]⟩
abbrev S128x1 : Shape := ⟨2, ![128, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S2048, .f32⟩
  | .hbm, ⟨2, _⟩ => ⟨S2x16x128x128, .bf16⟩
  | .hbm, ⟨3, _⟩ => ⟨S16x128, .f32⟩
  | .hbm, ⟨4, _⟩ => ⟨S1x2048, .f32⟩
  | .hbm, ⟨5, _⟩ => ⟨S128x16, .f32⟩
  | .hbm, ⟨6, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x16x128x128, .bf16⟩
  | .local _ .vmem, ⟨6, _⟩ => ⟨S128x16, .f32⟩
  | .local _ .vmem, ⟨7, _⟩ => ⟨S256x2048, .bf16⟩
  | .local _ .vmem, ⟨8, _⟩ => ⟨S256x2048, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpRefIdeal.lean ====
abbrev S16384x4096 : Shape := ⟨2, ![16384, 4096]⟩
abbrev S2048 : Shape := ⟨1, ![2048]⟩
abbrev S2x16x128x128 : Shape := ⟨4, ![2, 16, 128, 128]⟩
abbrev S16x128 : Shape := ⟨2, ![16, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S128x128x16x128 : Shape := ⟨4, ![128, 128, 16, 128]⟩
abbrev S1x16x128x128 : Shape := ⟨4, ![1, 16, 128, 128]⟩
abbrev S16x128x128 : Shape := ⟨3, ![16, 128, 128]⟩
abbrev S16x128x128x128 : Shape := ⟨4, ![16, 128, 128, 128]⟩
abbrev S128x16 : Shape := ⟨2, ![128, 16]⟩
abbrev S1x128x16x1 : Shape := ⟨4, ![1, 128, 16, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2048, .f32⟩
  | .hbm, ⟨2, _⟩ => ⟨S2x16x128x128, .bf16⟩
  | .hbm, ⟨3, _⟩ => ⟨S16x128, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .bf16⟩
  | .hbm, ⟨23, _⟩ => ⟨S128x128x16x128, .bf16⟩
  | .hbm, ⟨24, _⟩ => ⟨S1x16x128x128, .bf16⟩
  | .hbm, ⟨25, _⟩ => ⟨S16x128x128, .bf16⟩
  | .hbm, ⟨26, _⟩ => ⟨S16x128x128x128, .f32⟩
  | .hbm, ⟨27, _⟩ => ⟨S128x128x16x128, .f32⟩
  | .hbm, ⟨28, _⟩ => ⟨S128x16, .f32⟩
  | .hbm, ⟨29, _⟩ => ⟨S1x128x16x1, .f32⟩
  | .hbm, ⟨30, _⟩ => ⟨S128x128x16x128, .f32⟩
  | .hbm, ⟨31, _⟩ => ⟨S128x128x16x128, .f32⟩
  | .hbm, ⟨32, _⟩ => ⟨S16384x2048, .f32⟩
  | .hbm, ⟨33, _⟩ => ⟨S16384x2048, .f32⟩
  | .hbm, ⟨34, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== GdnOut.lean ====
abbrev S16384x2048 : Shape := ⟨2, ![16384, 2048]⟩
abbrev S16384x8192 : Shape := ⟨2, ![16384, 8192]⟩
abbrev S128 : Shape := ⟨1, ![128]⟩
abbrev S1x128 : Shape := ⟨2, ![1, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x8192, .f32⟩
  | .hbm, ⟨3, _⟩ => ⟨S128, .f32⟩
  | .hbm, ⟨4, _⟩ => ⟨S1x128, .f32⟩
  | .hbm, ⟨5, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x128, .f32⟩
  | .local _ .vmem, ⟨7, _⟩ => ⟨S512x2048, .bf16⟩
  | .local _ .vmem, ⟨8, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnOutRefIdeal.lean ====
abbrev S16384x2048 : Shape := ⟨2, ![16384, 2048]⟩
abbrev S16384x8192 : Shape := ⟨2, ![16384, 8192]⟩
abbrev S128 : Shape := ⟨1, ![128]⟩
abbrev S16384x16x128 : Shape := ⟨3, ![16384, 16, 128]⟩
abbrev S_ : Shape := ⟨0, ![]⟩
abbrev S16384x16 : Shape := ⟨2, ![16384, 16]⟩
abbrev S16384x16x1 : Shape := ⟨3, ![16384, 16, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x8192, .f32⟩
  | .hbm, ⟨3, _⟩ => ⟨S128, .f32⟩
  | .hbm, ⟨4, _⟩ => ⟨S16384x2048, .f32⟩
  | .hbm, ⟨5, _⟩ => ⟨S16384x16x128, .f32⟩
  | .hbm, ⟨6, _⟩ => ⟨S16384x16x128, .f32⟩
  | .hbm, ⟨7, _⟩ => ⟨S_, .f32⟩
  | .hbm, ⟨8, _⟩ => ⟨S16384x16, .f32⟩
  | .hbm, ⟨9, _⟩ => ⟨S16384x16x1, .f32⟩
  | .hbm, ⟨10, _⟩ => ⟨S_, .f32⟩
  | .hbm, ⟨11, _⟩ => ⟨S16384x16x1, .f32⟩
  | .hbm, ⟨12, _⟩ => ⟨S16384x16x1, .f32⟩
  | .hbm, ⟨13, _⟩ => ⟨S_, .f32⟩
  | .hbm, ⟨14, _⟩ => ⟨S16384x16x1, .f32⟩
  | .hbm, ⟨15, _⟩ => ⟨S16384x16x1, .f32⟩
  | .hbm, ⟨16, _⟩ => ⟨S16384x16x1, .f32⟩
  | .hbm, ⟨17, _⟩ => ⟨S16384x16x128, .f32⟩
  | .hbm, ⟨18, _⟩ => ⟨S16384x16x128, .f32⟩
  | .hbm, ⟨19, _⟩ => ⟨S1x1x128, .f32⟩
  | .hbm, ⟨20, _⟩ => ⟨S16384x16x128, .f32⟩
  | .hbm, ⟨21, _⟩ => ⟨S16384x16x128, .f32⟩
  | .hbm, ⟨22, _⟩ => ⟨S16384x2048, .f32⟩
  | .hbm, ⟨23, _⟩ => ⟨S16384x16x128, .f32⟩
  | .hbm, ⟨24, _⟩ => ⟨S16384x16x128, .f32⟩
  | .hbm, ⟨25, _⟩ => ⟨S16384x16x128, .f32⟩
  | .hbm, ⟨26, _⟩ => ⟨S_, .f32⟩
  | .hbm, ⟨27, _⟩ => ⟨S16384x16x128, .f32⟩
  | .hbm, ⟨28, _⟩ => ⟨S16384x16x128, .f32⟩
  | .hbm, ⟨29, _⟩ => ⟨S_, .f32⟩
  | .hbm, ⟨30, _⟩ => ⟨S16384x16x128, .f32⟩
  | .hbm, ⟨31, _⟩ => ⟨S16384x16x128, .f32⟩
  | .hbm, ⟨32, _⟩ => ⟨S16384x16x128, .f32⟩
  | .hbm, ⟨33, _⟩ => ⟨S16384x16x128, .f32⟩
  | .hbm, ⟨34, _⟩ => ⟨S16384x2048, .f32⟩
  | .hbm, ⟨35, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== QProj.lean ====
abbrev S16384x1024 : Shape := ⟨2, ![16384, 1024]⟩
abbrev S1024 : Shape := ⟨1, ![1024]⟩
abbrev S2x1024x4096 : Shape := ⟨3, ![2, 1024, 4096]⟩
abbrev S16384x128 : Shape := ⟨2, ![16384, 128]⟩
abbrev S1x1024 : Shape := ⟨2, ![1, 1024]⟩
abbrev S2x16x8192x256 : Shape := ⟨4, ![2, 16, 8192, 256]⟩
abbrev S1024x1024 : Shape := ⟨2, ![1024, 1024]⟩
abbrev S1x1024x1024 : Shape := ⟨3, ![1, 1024, 1024]⟩
abbrev S1024x128 : Shape := ⟨2, ![1024, 128]⟩
abbrev S1x4x1024x256 : Shape := ⟨4, ![1, 4, 1024, 256]⟩
abbrev S1024x1 : Shape := ⟨2, ![1024, 1]⟩
abbrev S1x1x1024x128 : Shape := ⟨4, ![1, 1, 1024, 128]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x4096, .bf16⟩
  | .hbm, ⟨3, _⟩ => ⟨S16384x128, .f32⟩
  | .hbm, ⟨4, _⟩ => ⟨S16384x128, .f32⟩
  | .hbm, ⟨5, _⟩ => ⟨S1x1024, .f32⟩
  | .hbm, ⟨6, _⟩ => ⟨S2x16x8192x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x4x1024x256, .bf16⟩
  | .local _ .vmem, ⟨10, _⟩ => ⟨S1x4x1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QProjRefIdeal.lean ====
abbrev S16384x1024 : Shape := ⟨2, ![16384, 1024]⟩
abbrev S1024 : Shape := ⟨1, ![1024]⟩
abbrev S2x1024x4096 : Shape := ⟨3, ![2, 1024, 4096]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x4096 : Shape := ⟨3, ![1, 1024, 4096]⟩
abbrev S1024x4096 : Shape := ⟨2, ![1024, 4096]⟩
abbrev S16384x4096 : Shape := ⟨2, ![16384, 4096]⟩
abbrev S2x8192x16x256 : Shape := ⟨4, ![2, 8192, 16, 256]⟩
abbrev S2x8192x16x64 : Shape := ⟨4, ![2, 8192, 16, 64]⟩
abbrev S16384x64 : Shape := ⟨2, ![16384, 64]⟩
abbrev S2x8192x1x64 : Shape := ⟨4, ![2, 8192, 1, 64]⟩
abbrev S2x8192x16x32 : Shape := ⟨4, ![2, 8192, 16, 32]⟩
abbrev S2x8192x1x32 : Shape := ⟨4, ![2, 8192, 1, 32]⟩
abbrev S2x8192x16x128 : Shape := ⟨4, ![2, 8192, 16, 128]⟩
abbrev S2x16x8192x256 : Shape := ⟨4, ![2, 16, 8192, 256]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x4096, .bf16⟩
  | .hbm, ⟨3, _⟩ => ⟨S16384x128, .f32⟩
  | .hbm, ⟨4, _⟩ => ⟨S16384x128, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .bf16⟩
  | .hbm, ⟨22, _⟩ => ⟨S1x1024x4096, .bf16⟩
  | .hbm, ⟨23, _⟩ => ⟨S1024x4096, .bf16⟩
  | .hbm, ⟨24, _⟩ => ⟨S16384x4096, .f32⟩
  | .hbm, ⟨25, _⟩ => ⟨S2x8192x16x256, .f32⟩
  | .hbm, ⟨26, _⟩ => ⟨S2x8192x16x64, .f32⟩
  | .hbm, ⟨27, _⟩ => ⟨S16384x64, .f32⟩
  | .hbm, ⟨28, _⟩ => ⟨S2x8192x1x64, .f32⟩
  | .hbm, ⟨29, _⟩ => ⟨S16384x64, .f32⟩
  | .hbm, ⟨30, _⟩ => ⟨S2x8192x1x64, .f32⟩
  | .hbm, ⟨31, _⟩ => ⟨S2x8192x16x32, .f32⟩
  | .hbm, ⟨32, _⟩ => ⟨S2x8192x16x32, .f32⟩
  | .hbm, ⟨33, _⟩ => ⟨S2x8192x1x32, .f32⟩
  | .hbm, ⟨34, _⟩ => ⟨S2x8192x1x32, .f32⟩
  | .hbm, ⟨35, _⟩ => ⟨S2x8192x1x32, .f32⟩
  | .hbm, ⟨36, _⟩ => ⟨S2x8192x1x32, .f32⟩
  | .hbm, ⟨37, _⟩ => ⟨S2x8192x16x32, .f32⟩
  | .hbm, ⟨38, _⟩ => ⟨S2x8192x16x32, .f32⟩
  | .hbm, ⟨39, _⟩ => ⟨S2x8192x16x32, .f32⟩
  | .hbm, ⟨40, _⟩ => ⟨S2x8192x16x32, .f32⟩
  | .hbm, ⟨41, _⟩ => ⟨S2x8192x16x32, .f32⟩
  | .hbm, ⟨42, _⟩ => ⟨S2x8192x16x32, .f32⟩
  | .hbm, ⟨43, _⟩ => ⟨S2x8192x16x32, .f32⟩
  | .hbm, ⟨44, _⟩ => ⟨S2x8192x16x32, .f32⟩
  | .hbm, ⟨45, _⟩ => ⟨S2x8192x16x32, .f32⟩
  | .hbm, ⟨46, _⟩ => ⟨S2x8192x16x32, .f32⟩
  | .hbm, ⟨47, _⟩ => ⟨S2x8192x16x64, .f32⟩
  | .hbm, ⟨48, _⟩ => ⟨S2x8192x16x128, .f32⟩
  | .hbm, ⟨49, _⟩ => ⟨S_, .f32⟩
  | .hbm, ⟨50, _⟩ => ⟨S2x8192x16x64, .f32⟩
  | .hbm, ⟨51, _⟩ => ⟨S2x8192x16x256, .f32⟩
  | .hbm, ⟨52, _⟩ => ⟨S_, .f32⟩
  | .hbm, ⟨53, _⟩ => ⟨S2x8192x16x256, .f32⟩
  | .hbm, ⟨54, _⟩ => ⟨S2x8192x16x256, .f32⟩
  | .hbm, ⟨55, _⟩ => ⟨S2x8192x16x256, .bf16⟩
  | .hbm, ⟨56, _⟩ => ⟨S2x16x8192x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== KvProj.lean ====
abbrev S16384x640 : Shape := ⟨2, ![16384, 640]⟩
abbrev S512 : Shape := ⟨1, ![512]⟩
abbrev S2x512x4096 : Shape := ⟨3, ![2, 512, 4096]⟩
abbrev S16384x128 : Shape := ⟨2, ![16384, 128]⟩
abbrev S1x512 : Shape := ⟨2, ![1, 512]⟩
abbrev S2x16x256x8192 : Shape := ⟨4, ![2, 16, 256, 8192]⟩
abbrev S2x16x8192x256 : Shape := ⟨4, ![2, 16, 8192, 256]⟩
abbrev S1024x512 : Shape := ⟨2, ![1024, 512]⟩
abbrev S1x512x1024 : Shape := ⟨3, ![1, 512, 1024]⟩
abbrev S1024x128 : Shape := ⟨2, ![1024, 128]⟩
abbrev S1x4x256x1024 : Shape := ⟨4, ![1, 4, 256, 1024]⟩
abbrev S1x4x1024x256 : Shape := ⟨4, ![1, 4, 1024, 256]⟩
abbrev S1024 : Shape := ⟨1, ![1024]⟩
abbrev S1024x1 : Shape := ⟨2, ![1024, 1]⟩
abbrev S512x1024 : Shape := ⟨2, ![512, 1024]⟩
abbrev S1024x1024 : Shape := ⟨2, ![1024, 1024]⟩
abbrev S128x1024 : Shape := ⟨2, ![128, 1024]⟩
abbrev S1x1x128x1024 : Shape := ⟨4, ![1, 1, 128, 1024]⟩
abbrev S1x1x1024x128 : Shape := ⟨4, ![1, 1, 1024, 128]⟩

abbrev nBuf : Space → Nat
  | .hbm => 8
  | .vmem => 15
  | .smem => 0
  | _ => 0

abbrev bufTy : (tb : Table) → Fin (tcTables nBuf tb) → BufTy
  | .hbm, ⟨0, _⟩ => ⟨S16384x640, .f32⟩
  | .hbm, ⟨1, _⟩ => ⟨S512, .f32⟩
  | .hbm, ⟨2, _⟩ => ⟨S2x512x4096, .bf16⟩
  | .hbm, ⟨3, _⟩ => ⟨S16384x128, .f32⟩
  | .hbm, ⟨4, _⟩ => ⟨S16384x128, .f32⟩
  | .hbm, ⟨5, _⟩ => ⟨S1x512, .f32⟩
  | .hbm, ⟨6, _⟩ => ⟨S2x16x256x8192, .bf16⟩
  | .hbm, ⟨7, _⟩ => ⟨S2x16x8192x256, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512x1024, .bf16⟩
  | .local _ .vmem, ⟨4, _⟩ => ⟨S1x512x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x4x256x1024, .bf16⟩
  | .local _ .vmem, ⟨12, _⟩ => ⟨S1x4x256x1024, .bf16⟩
  | .local _ .vmem, ⟨13, _⟩ => ⟨S1x4x1024x256, .bf16⟩
  | .local _ .vmem, ⟨14, _⟩ => ⟨S1x4x1024x256, .bf16⟩
  | _, _ => ⟨S16384x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvProjRefIdeal.lean ====
abbrev S16384x640 : Shape := ⟨2, ![16384, 640]⟩
abbrev S512 : Shape := ⟨1, ![512]⟩
abbrev S2x512x4096 : Shape := ⟨3, ![2, 512, 4096]⟩
abbrev S16384x128 : Shape := ⟨2, ![16384, 128]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x512x4096 : Shape := ⟨3, ![1, 512, 4096]⟩
abbrev S512x4096 : Shape := ⟨2, ![512, 4096]⟩
abbrev S16384x4096 : Shape := ⟨2, ![16384, 4096]⟩
abbrev S2x8192x16x256 : Shape := ⟨4, ![2, 8192, 16, 256]⟩
abbrev S16384x64 : Shape := ⟨2, ![16384, 64]⟩
abbrev S2x8192x1x64 : Shape := ⟨4, ![2, 8192, 1, 64]⟩
abbrev S2x8192x1x32 : Shape := ⟨4, ![2, 8192, 1, 32]⟩
abbrev S2x8192x16x64 : Shape := ⟨4, ![2, 8192, 16, 64]⟩
abbrev S2x8192x16x128 : Shape := ⟨4, ![2, 8192, 16, 128]⟩
abbrev S2x16x256x8192 : Shape := ⟨4, ![2, 16, 256, 8192]⟩
abbrev S2x16x8192x256 : Shape := ⟨4, ![2, 16, 8192, 256]⟩

abbrev nBuf : Space → Nat
  | .hbm => 60
  | .vmem => 0
  | .smem => 0
  | _ => 0

abbrev bufTy : (tb : Table) → Fin (tcTables nBuf tb) → BufTy
  | .hbm, ⟨0, _⟩ => ⟨S16384x640, .f32⟩
  | .hbm, ⟨1, _⟩ => ⟨S512, .f32⟩
  | .hbm, ⟨2, _⟩ => ⟨S2x512x4096, .bf16⟩
  | .hbm, ⟨3, _⟩ => ⟨S16384x128, .f32⟩
  | .hbm, ⟨4, _⟩ => ⟨S16384x128, .f32⟩
  | .hbm, ⟨5, _⟩ => ⟨S16384x512, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x512, .f32⟩
  | .hbm, ⟨18, _⟩ => ⟨S16384x512, .f32⟩
  | .hbm, ⟨19, _⟩ => ⟨S1x512, .f32⟩
  | .hbm, ⟨20, _⟩ => ⟨S16384x512, .f32⟩
  | .hbm, ⟨21, _⟩ => ⟨S16384x512, .f32⟩
  | .hbm, ⟨22, _⟩ => ⟨S16384x512, .bf16⟩
  | .hbm, ⟨23, _⟩ => ⟨S1x512x4096, .bf16⟩
  | .hbm, ⟨24, _⟩ => ⟨S512x4096, .bf16⟩
  | .hbm, ⟨25, _⟩ => ⟨S16384x4096, .f32⟩
  | .hbm, ⟨26, _⟩ => ⟨S2x8192x16x256, .f32⟩
  | .hbm, ⟨27, _⟩ => ⟨S16384x128, .f32⟩
  | .hbm, ⟨28, _⟩ => ⟨S16384x64, .f32⟩
  | .hbm, ⟨29, _⟩ => ⟨S2x8192x1x64, .f32⟩
  | .hbm, ⟨30, _⟩ => ⟨S16384x64, .f32⟩
  | .hbm, ⟨31, _⟩ => ⟨S2x8192x1x64, .f32⟩
  | .hbm, ⟨32, _⟩ => ⟨S16384x64, .f32⟩
  | .hbm, ⟨33, _⟩ => ⟨S2x8192x1x64, .f32⟩
  | .hbm, ⟨34, _⟩ => ⟨S2x8192x1x32, .f32⟩
  | .hbm, ⟨35, _⟩ => ⟨S2x8192x1x32, .f32⟩
  | .hbm, ⟨36, _⟩ => ⟨S2x8192x1x32, .f32⟩
  | .hbm, ⟨37, _⟩ => ⟨S2x8192x1x32, .f32⟩
  | .hbm, ⟨38, _⟩ => ⟨S2x8192x1x32, .f32⟩
  | .hbm, ⟨39, _⟩ => ⟨S2x8192x1x32, .f32⟩
  | .hbm, ⟨40, _⟩ => ⟨S2x8192x1x32, .f32⟩
  | .hbm, ⟨41, _⟩ => ⟨S2x8192x1x32, .f32⟩
  | .hbm, ⟨42, _⟩ => ⟨S2x8192x1x32, .f32⟩
  | .hbm, ⟨43, _⟩ => ⟨S2x8192x1x32, .f32⟩
  | .hbm, ⟨44, _⟩ => ⟨S2x8192x1x32, .f32⟩
  | .hbm, ⟨45, _⟩ => ⟨S2x8192x1x32, .f32⟩
  | .hbm, ⟨46, _⟩ => ⟨S2x8192x1x64, .f32⟩
  | .hbm, ⟨47, _⟩ => ⟨S2x8192x16x64, .f32⟩
  | .hbm, ⟨48, _⟩ => ⟨S2x8192x16x128, .f32⟩
  | .hbm, ⟨49, _⟩ => ⟨S_, .f32⟩
  | .hbm, ⟨50, _⟩ => ⟨S2x8192x16x64, .f32⟩
  | .hbm, ⟨51, _⟩ => ⟨S2x8192x16x256, .f32⟩
  | .hbm, ⟨52, _⟩ => ⟨S2x8192x16x128, .f32⟩
  | .hbm, ⟨53, _⟩ => ⟨S_, .f32⟩
  | .hbm, ⟨54, _⟩ => ⟨S2x8192x16x128, .f32⟩
  | .hbm, ⟨55, _⟩ => ⟨S2x8192x16x256, .f32⟩
  | .hbm, ⟨56, _⟩ => ⟨S2x16x256x8192, .f32⟩
  | .hbm, ⟨57, _⟩ => ⟨S2x16x256x8192, .bf16⟩
  | .hbm, ⟨58, _⟩ => ⟨S2x16x8192x256, .f32⟩
  | .hbm, ⟨59, _⟩ => ⟨S2x16x8192x256, .bf16⟩
  | _, _ => ⟨S16384x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== GdnGate.lean ====
abbrev S16384x640 : Shape := ⟨2, ![16384, 640]⟩
abbrev S2x16 : Shape := ⟨2, ![2, 16]⟩
abbrev S1x32 : Shape := ⟨2, ![1, 32]⟩
abbrev S16384x32 : Shape := ⟨2, ![16384, 32]⟩
abbrev S512x128 : Shape := ⟨2, ![512, 128]⟩
abbrev S512x32 : Shape := ⟨2, ![512, 32]⟩
abbrev S64x64 : Shape := ⟨2, ![64, 64]⟩
abbrev S64x32 : Shape := ⟨2, ![64, 32]⟩

abbrev nBuf : Space → Nat
  | .hbm => 7
  | .vmem => 8
  | .smem => 0
  | _ => 0

abbrev bufTy : (tb : Table) → Fin (tcTables nBuf tb) → BufTy
  | .hbm, ⟨0, _⟩ => ⟨S16384x640, .f32⟩
  | .hbm, ⟨1, _⟩ => ⟨S2x16, .f32⟩
  | .hbm, ⟨2, _⟩ => ⟨S2x16, .f32⟩
  | .hbm, ⟨3, _⟩ => ⟨S1x32, .f32⟩
  | .hbm, ⟨4, _⟩ => ⟨S1x32, .f32⟩
  | .hbm, ⟨5, _⟩ => ⟨S16384x32, .f32⟩
  | .hbm, ⟨6, _⟩ => ⟨S16384x32, .f32⟩
  | .local _ .vmem, ⟨0, _⟩ => ⟨S512x128, .f32⟩
  | .local _ .vmem, ⟨1, _⟩ => ⟨S512x128, .f32⟩
  | .local _ .vmem, ⟨2, _⟩ => ⟨S1x32, .f32⟩
  | .local _ .vmem, ⟨3, _⟩ => ⟨S1x32, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | _, _ => ⟨S16384x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnGateRefIdeal.lean ====
abbrev S16384x640 : Shape := ⟨2, ![16384, 640]⟩
abbrev S2x16 : Shape := ⟨2, ![2, 16]⟩
abbrev S16384x32 : Shape := ⟨2, ![16384, 32]⟩
abbrev S16384x2x16 : Shape := ⟨3, ![16384, 2, 16]⟩
abbrev S1x2x16 : Shape := ⟨3, ![1, 2, 16]⟩
abbrev S_ : Shape := ⟨0, ![]⟩
abbrev S256x64x2x16 : Shape := ⟨4, ![256, 64, 2, 16]⟩
abbrev S256x64x1x16 : Shape := ⟨4, ![256, 64, 1, 16]⟩
abbrev S256x64x16 : Shape := ⟨3, ![256, 64, 16]⟩
abbrev S256x64x32 : Shape := ⟨3, ![256, 64, 32]⟩

abbrev nBuf : Space → Nat
  | .hbm => 51
  | .vmem => 0
  | .smem => 0
  | _ => 0

abbrev bufTy : (tb : Table) → Fin (tcTables nBuf tb) → BufTy
  | .hbm, ⟨0, _⟩ => ⟨S16384x640, .f32⟩
  | .hbm, ⟨1, _⟩ => ⟨S2x16, .f32⟩
  | .hbm, ⟨2, _⟩ => ⟨S2x16, .f32⟩
  | .hbm, ⟨3, _⟩ => ⟨S16384x32, .f32⟩
  | .hbm, ⟨4, _⟩ => ⟨S16384x2x16, .f32⟩
  | .hbm, ⟨5, _⟩ => ⟨S16384x32, .f32⟩
  | .hbm, ⟨6, _⟩ => ⟨S2x16, .f32⟩
  | .hbm, ⟨7, _⟩ => ⟨S2x16, .f32⟩
  | .hbm, ⟨8, _⟩ => ⟨S1x2x16, .f32⟩
  | .hbm, ⟨9, _⟩ => ⟨S16384x2x16, .f32⟩
  | .hbm, ⟨10, _⟩ => ⟨S16384x2x16, .f32⟩
  | .hbm, ⟨11, _⟩ => ⟨S_, .f32⟩
  | .hbm, ⟨12, _⟩ => ⟨S16384x2x16, .f32⟩
  | .hbm, ⟨13, _⟩ => ⟨S16384x2x16, .f32⟩
  | .hbm, ⟨14, _⟩ => ⟨S16384x2x16, .f32⟩
  | .hbm, ⟨15, _⟩ => ⟨S16384x2x16, .f32⟩
  | .hbm, ⟨16, _⟩ => ⟨S16384x2x16, .i1⟩
  | .hbm, ⟨17, _⟩ => ⟨S16384x2x16, .f32⟩
  | .hbm, ⟨18, _⟩ => ⟨S16384x2x16, .f32⟩
  | .hbm, ⟨19, _⟩ => ⟨S16384x2x16, .f32⟩
  | .hbm, ⟨20, _⟩ => ⟨S16384x2x16, .f32⟩
  | .hbm, ⟨21, _⟩ => ⟨S16384x2x16, .f32⟩
  | .hbm, ⟨22, _⟩ => ⟨S16384x2x16, .f32⟩
  | .hbm, ⟨23, _⟩ => ⟨S16384x2x16, .f32⟩
  | .hbm, ⟨24, _⟩ => ⟨S16384x2x16, .f32⟩
  | .hbm, ⟨25, _⟩ => ⟨S1x2x16, .f32⟩
  | .hbm, ⟨26, _⟩ => ⟨S16384x2x16, .f32⟩
  | .hbm, ⟨27, _⟩ => ⟨S16384x2x16, .f32⟩
  | .hbm, ⟨28, _⟩ => ⟨S256x64x2x16, .f32⟩
  | .hbm, ⟨29, _⟩ => ⟨S256x64x1x16, .f32⟩
  | .hbm, ⟨30, _⟩ => ⟨S256x64x16, .f32⟩
  | .hbm, ⟨31, _⟩ => ⟨S_, .f32⟩
  | .hbm, ⟨32, _⟩ => ⟨S_, .f32⟩
  | .hbm, ⟨33, _⟩ => ⟨S256x64x16, .f32⟩
  | .hbm, ⟨34, _⟩ => ⟨S256x64x1x16, .f32⟩
  | .hbm, ⟨35, _⟩ => ⟨S256x64x16, .f32⟩
  | .hbm, ⟨36, _⟩ => ⟨S256x64x16, .f32⟩
  | .hbm, ⟨37, _⟩ => ⟨S_, .f32⟩
  | .hbm, ⟨38, _⟩ => ⟨S_, .f32⟩
  | .hbm, ⟨39, _⟩ => ⟨S256x64x16, .f32⟩
  | .hbm, ⟨40, _⟩ => ⟨S256x64x16, .f32⟩
  | .hbm, ⟨41, _⟩ => ⟨S256x64x32, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S_, .f32⟩
  | .hbm, ⟨46, _⟩ => ⟨S16384x32, .f32⟩
  | .hbm, ⟨47, _⟩ => ⟨S16384x32, .f32⟩
  | .hbm, ⟨48, _⟩ => ⟨S_, .f32⟩
  | .hbm, ⟨49, _⟩ => ⟨S16384x32, .f32⟩
  | .hbm, ⟨50, _⟩ => ⟨S16384x32, .f32⟩
  | _, _ => ⟨S16384x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_call0_cst : Ref sig .tc := ⟨.hbm, 31, rfl⟩
abbrev main_call1_call0_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call3_call0_cst : Ref sig .tc := ⟨.hbm, 37, rfl⟩
abbrev main_call3_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_cst_0 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== GdnConv.lean ====
abbrev S16384x8192 : Shape := ⟨2, ![16384, 8192]⟩
abbrev S5x6144 : Shape := ⟨2, ![5, 6144]⟩
abbrev S2x8192x8192 : Shape := ⟨3, ![2, 8192, 8192]⟩
abbrev S2x8192x6144 : Shape := ⟨3, ![2, 8192, 6144]⟩
abbrev S1x256x2048 : Shape := ⟨3, ![1, 256, 2048]⟩
abbrev S1x8x2048 : Shape := ⟨3, ![1, 8, 2048]⟩
abbrev S5x2048 : Shape := ⟨2, ![5, 2048]⟩
abbrev S272x2048 : Shape := ⟨2, ![272, 2048]⟩
abbrev S8x2048 : Shape := ⟨2, ![8, 2048]⟩
abbrev S256x2048 : Shape := ⟨2, ![256, 2048]⟩
abbrev S1x2048 : Shape := ⟨2, ![1, 2048]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 4
  | .vmem => 11
  | .smem => 0
  | _ => 0

abbrev bufTy : (tb : Table) → Fin (tcTables nBuf tb) → BufTy
  | .hbm, ⟨0, _⟩ => ⟨S16384x8192, .f32⟩
  | .hbm, ⟨1, _⟩ => ⟨S5x6144, .f32⟩
  | .hbm, ⟨2, _⟩ => ⟨S2x8192x8192, .f32⟩
  | .hbm, ⟨3, _⟩ => ⟨S2x8192x6144, .f32⟩
  | .local _ .vmem, ⟨0, _⟩ => ⟨S1x256x2048, .f32⟩
  | .local _ .vmem, ⟨1, _⟩ => ⟨S1x256x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S5x2048, .f32⟩
  | .local _ .vmem, ⟨7, _⟩ => ⟨S5x2048, .f32⟩
  | .local _ .vmem, ⟨8, _⟩ => ⟨S1x256x2048, .f32⟩
  | .local _ .vmem, ⟨9, _⟩ => ⟨S1x256x2048, .f32⟩
  | .local _ .vmem, ⟨10, _⟩ => ⟨S272x2048, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 32, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![arg0.toNat, v2.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GdnConvRefIdeal.lean ====
abbrev S16384x8192 : Shape := ⟨2, ![16384, 8192]⟩
abbrev S5x6144 : Shape := ⟨2, ![5, 6144]⟩
abbrev S2x8192x8192 : Shape := ⟨3, ![2, 8192, 8192]⟩
abbrev S2x8192x6144 : Shape := ⟨3, ![2, 8192, 6144]⟩
abbrev S_ : Shape := ⟨0, ![]⟩
abbrev S2x8196x6144 : Shape := ⟨3, ![2, 8196, 6144]⟩
abbrev S1x6144 : Shape := ⟨2, ![1, 6144]⟩
abbrev S6144 : Shape := ⟨1, ![6144]⟩
abbrev S1x1x6144 : Shape := ⟨3, ![1, 1, 6144]⟩
abbrev S2x8192x48x128 : Shape := ⟨4, ![2, 8192, 48, 128]⟩
abbrev S2x8192x16x128 : Shape := ⟨4, ![2, 8192, 16, 128]⟩
abbrev S2x8192x16 : Shape := ⟨3, ![2, 8192, 16]⟩
abbrev S2x8192x16x1 : Shape := ⟨4, ![2, 8192, 16, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S5x6144, .f32⟩
  | .hbm, ⟨2, _⟩ => ⟨S2x8192x8192, .f32⟩
  | .hbm, ⟨3, _⟩ => ⟨S2x8192x6144, .f32⟩
  | .hbm, ⟨4, _⟩ => ⟨S_, .i32⟩
  | .hbm, ⟨5, _⟩ => ⟨S_, .f32⟩
  | .hbm, ⟨6, _⟩ => ⟨S2x8196x6144, .f32⟩
  | .hbm, ⟨7, _⟩ => ⟨S1x6144, .f32⟩
  | .hbm, ⟨8, _⟩ => ⟨S6144, .f32⟩
  | .hbm, ⟨9, _⟩ => ⟨S2x8192x6144, .f32⟩
  | .hbm, ⟨10, _⟩ => ⟨S1x1x6144, .f32⟩
  | .hbm, ⟨11, _⟩ => ⟨S2x8192x6144, .f32⟩
  | .hbm, ⟨12, _⟩ => ⟨S2x8192x6144, .f32⟩
  | .hbm, ⟨13, _⟩ => ⟨S1x6144, .f32⟩
  | .hbm, ⟨14, _⟩ => ⟨S6144, .f32⟩
  | .hbm, ⟨15, _⟩ => ⟨S2x8192x6144, .f32⟩
  | .hbm, ⟨16, _⟩ => ⟨S1x1x6144, .f32⟩
  | .hbm, ⟨17, _⟩ => ⟨S2x8192x6144, .f32⟩
  | .hbm, ⟨18, _⟩ => ⟨S2x8192x6144, .f32⟩
  | .hbm, ⟨19, _⟩ => ⟨S1x6144, .f32⟩
  | .hbm, ⟨20, _⟩ => ⟨S6144, .f32⟩
  | .hbm, ⟨21, _⟩ => ⟨S2x8192x6144, .f32⟩
  | .hbm, ⟨22, _⟩ => ⟨S1x1x6144, .f32⟩
  | .hbm, ⟨23, _⟩ => ⟨S2x8192x6144, .f32⟩
  | .hbm, ⟨24, _⟩ => ⟨S2x8192x6144, .f32⟩
  | .hbm, ⟨25, _⟩ => ⟨S1x6144, .f32⟩
  | .hbm, ⟨26, _⟩ => ⟨S6144, .f32⟩
  | .hbm, ⟨27, _⟩ => ⟨S2x8192x6144, .f32⟩
  | .hbm, ⟨28, _⟩ => ⟨S1x1x6144, .f32⟩
  | .hbm, ⟨29, _⟩ => ⟨S2x8192x6144, .f32⟩
  | .hbm, ⟨30, _⟩ => ⟨S2x8192x6144, .f32⟩
  | .hbm, ⟨31, _⟩ => ⟨S1x6144, .f32⟩
  | .hbm, ⟨32, _⟩ => ⟨S6144, .f32⟩
  | .hbm, ⟨33, _⟩ => ⟨S2x8192x6144, .f32⟩
  | .hbm, ⟨34, _⟩ => ⟨S1x1x6144, .f32⟩
  | .hbm, ⟨35, _⟩ => ⟨S2x8192x6144, .f32⟩
  | .hbm, ⟨36, _⟩ => ⟨S2x8192x6144, .f32⟩
  | .hbm, ⟨37, _⟩ => ⟨S2x8192x6144, .f32⟩
  | .hbm, ⟨38, _⟩ => ⟨S2x8192x6144, .f32⟩
  | .hbm, ⟨39, _⟩ => ⟨S2x8192x6144, .f32⟩
  | .hbm, ⟨40, _⟩ => ⟨S2x8192x6144, .f32⟩
  | .hbm, ⟨41, _⟩ => ⟨S2x8192x6144, .f32⟩
  | .hbm, ⟨42, _⟩ => ⟨S2x8192x6144, .f32⟩
  | .hbm, ⟨43, _⟩ => ⟨S_, .f32⟩
  | .hbm, ⟨44, _⟩ => ⟨S2x8192x6144, .f32⟩
  | .hbm, ⟨45, _⟩ => ⟨S2x8192x6144, .f32⟩
  | .hbm, ⟨46, _⟩ => ⟨S_, .f32⟩
  | .hbm, ⟨47, _⟩ => ⟨S2x8192x6144, .f32⟩
  | .hbm, ⟨48, _⟩ => ⟨S2x8192x6144, .f32⟩
  | .hbm, ⟨49, _⟩ => ⟨S2x8192x6144, .f32⟩
  | .hbm, ⟨50, _⟩ => ⟨S2x8192x48x128, .f32⟩
  | .hbm, ⟨51, _⟩ => ⟨S2x8192x16x128, .f32⟩
  | .hbm, ⟨52, _⟩ => ⟨S2x8192x16x128, .f32⟩
  | .hbm, ⟨53, _⟩ => ⟨S2x8192x16x128, .f32⟩
  | .hbm, ⟨54, _⟩ => ⟨S2x8192x16x128, .f32⟩
  | .hbm, ⟨55, _⟩ => ⟨S_, .f32⟩
  | .hbm, ⟨56, _⟩ => ⟨S2x8192x16, .f32⟩
  | .hbm, ⟨57, _⟩ => ⟨S2x8192x16x1, .f32⟩
  | .hbm, ⟨58, _⟩ => ⟨S_, .f32⟩
  | .hbm, ⟨59, _⟩ => ⟨S2x8192x16x1, .f32⟩
  | .hbm, ⟨60, _⟩ => ⟨S2x8192x16x1, .f32⟩
  | .hbm, ⟨61, _⟩ => ⟨S2x8192x16x1, .f32⟩
  | .hbm, ⟨62, _⟩ => ⟨S2x8192x16x128, .f32⟩
  | .hbm, ⟨63, _⟩ => ⟨S2x8192x16x128, .f32⟩
  | .hbm, ⟨64, _⟩ => ⟨S_, .f32⟩
  | .hbm, ⟨65, _⟩ => ⟨S2x8192x16x128, .f32⟩
  | .hbm, ⟨66, _⟩ => ⟨S2x8192x16x128, .f32⟩
  | .hbm, ⟨67, _⟩ => ⟨S2x8192x16x128, .f32⟩
  | .hbm, ⟨68, _⟩ => ⟨S_, .f32⟩
  | .hbm, ⟨69, _⟩ => ⟨S2x8192x16, .f32⟩
  | .hbm, ⟨70, _⟩ => ⟨S2x8192x16x1, .f32⟩
  | .hbm, ⟨71, _⟩ => ⟨S_, .f32⟩
  | .hbm, ⟨72, _⟩ => ⟨S2x8192x16x1, .f32⟩
  | .hbm, ⟨73, _⟩ => ⟨S2x8192x16x1, .f32⟩
  | .hbm, ⟨74, _⟩ => ⟨S2x8192x16x1, .f32⟩
  | .hbm, ⟨75, _⟩ => ⟨S2x8192x16x128, .f32⟩
  | .hbm, ⟨76, _⟩ => ⟨S2x8192x16x128, .f32⟩
  | .hbm, ⟨77, _⟩ => ⟨S2x8192x48x128, .f32⟩
  | .hbm, ⟨78, _⟩ => ⟨S2x8192x6144, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_cst_0 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_1 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_2 : Ref sig .tc := ⟨.hbm, 68, rfl⟩
abbrev main_v53 : Ref sig .tc := ⟨.hbm, 69, rfl⟩
abbrev main_v54 : Ref sig .tc := ⟨.hbm, 70, rfl⟩
abbrev main_cst_3 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== RopeTables.lean ====
abbrev S2x8192 : Shape := ⟨2, ![2, 8192]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S1024x1 : Shape := ⟨2, ![1024, 1]⟩
abbrev S1024x128 : Shape := ⟨2, ![1024, 128]⟩

abbrev nBuf : Space → Nat
  | .hbm => 22
  | .vmem => 7
  | .smem => 0
  | _ => 0

abbrev bufTy : (tb : Table) → Fin (tcTables nBuf tb) → BufTy
  | .hbm, ⟨0, _⟩ => ⟨S2x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S1x128, .f32⟩
  | .hbm, ⟨19, _⟩ => ⟨S16384x1, .i32⟩
  | .hbm, ⟨20, _⟩ => ⟨S16384x128, .f32⟩
  | .hbm, ⟨21, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeTablesRefIdeal.lean ====
abbrev S2x8192 : Shape := ⟨2, ![2, 8192]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S1x2x1x8192x1x32 : Shape := ⟨6, ![1, 2, 1, 8192, 1, 32]⟩
abbrev S1x2x1x8192x4x32 : Shape := ⟨6, ![1, 2, 1, 8192, 4, 32]⟩
abbrev S2x8192x128 : Shape := ⟨3, ![2, 8192, 128]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2x8192, .f32⟩
  | .hbm, ⟨16, _⟩ => ⟨S2x8192x1, .f32⟩
  | .hbm, ⟨17, _⟩ => ⟨S1x1x32, .f32⟩
  | .hbm, ⟨18, _⟩ => ⟨S2x8192x32, .f32⟩
  | .hbm, ⟨19, _⟩ => ⟨S2x8192x32, .f32⟩
  | .hbm, ⟨20, _⟩ => ⟨S2x8192x32, .f32⟩
  | .hbm, ⟨21, _⟩ => ⟨S2x8192x32, .f32⟩
  | .hbm, ⟨22, _⟩ => ⟨S1x2x1x8192x1x32, .f32⟩
  | .hbm, ⟨23, _⟩ => ⟨S1x2x1x8192x4x32, .f32⟩
  | .hbm, ⟨24, _⟩ => ⟨S2x8192x128, .f32⟩
  | .hbm, ⟨25, _⟩ => ⟨S16384x128, .f32⟩
  | .hbm, ⟨26, _⟩ => ⟨S2x8192x32, .f32⟩
  | .hbm, ⟨27, _⟩ => ⟨S1x2x1x8192x1x32, .f32⟩
  | .hbm, ⟨28, _⟩ => ⟨S1x2x1x8192x4x32, .f32⟩
  | .hbm, ⟨29, _⟩ => ⟨S2x8192x128, .f32⟩
  | .hbm, ⟨30, _⟩ => ⟨S16384x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Proof.Tile.lean ====
module

public import proofs.«01_k».proof.Proof.Gen.KernelIdeal.Frame
public import proofs.«01_k».proof.Proof.Gen.KernelIdeal.Loops
import all proofs.«01_k».proof.Proof.Gen.KernelIdeal.Loops
public import Idealize.ShloMosaic.Lib.Pipeline.ValueKit
public import Idealize.ShloMosaic.Lib.Pipeline.ReadBack

@[expose] public section

set_option maxRecDepth 16384
set_option maxHeartbeats 800000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## What the kernel computes, in numbers of rows and columns -/

/-- 512 rows of the queries from row `r`. -/
def qAt (x : Vec F S1x1x8192x256 .bf16) (r : ℕ) : Vec F S1x1x512x256 .bf16 :=
  fun i => x (ix4 (0 : Fin 1) (0 : Fin 1) (⟨(r + (i 2).val) % 8192, Nat.mod_lt _ (by decide)⟩ : Fin 8192) (i 3 : Fin 256))

/-- 1024 columns of the keys from column `j`. -/
def kAt (x : Vec F S1x1x256x8192 .bf16) (j : ℕ) : Vec F S1x1x256x1024 .bf16 :=
  fun i => x (ix4 (0 : Fin 1) (0 : Fin 1) (i 2 : Fin 256) (⟨(j + (i 3).val) % 8192, Nat.mod_lt _ (by decide)⟩ : Fin 8192))

/-- 1024 rows of the values from row `j`. -/
def vAt (x : Vec F S1x1x8192x256 .bf16) (j : ℕ) : Vec F S1x1x1024x256 .bf16 :=
  fun i => x (ix4 (0 : Fin 1) (0 : Fin 1) (⟨(j + (i 2).val) % 8192, Nat.mod_lt _ (by decide)⟩ : Fin 8192) (i 3 : Fin 256))

/-- The scores of rows `r …` against keys `j …`. -/
def SC (x0 : Vec F S1x1x8192x256 .bf16) (x1 : Vec F S1x1x256x8192 .bf16) (r j : ℕ) : Vec F S1x1x512x1024 .f32 :=
  k0_pay2 (kAt x1 j) (qAt x0 r)

/-- The running maximum and the running sums of rows `r …` after `b` blocks of 1024 keys. -/
def St (x0 : Vec F S1x1x8192x256 .bf16) (x1 : Vec F S1x1x256x8192 .bf16) (x2 : Vec F S1x1x8192x256 .bf16) (r : ℕ) :
    ℕ → Vec F S1x512x128 .f32 × Vec F S1x512x256 .f32
  | 0 => (constant S1x512x128 .f32 0xFF800000#32, constant S1x512x256 .f32 0x00000000#32)
  | b + 1 => (k0_pay13 (SC x0 x1 r (1024 * b)) (St x0 x1 x2 r b).1,
      k0_pay12 (vAt x2 (1024 * b)) (SC x0 x1 r (1024 * b)) (St x0 x1 x2 r b).1 (St x0 x1 x2 r b).2)

/-! ## Reading what stores left -/

section Reads
variable {sig : RefSig} {κ : Kind} {sp : Space} {s : Shape} {e : EltTy} {Val : EltTy → Type}

theorem rd_hit (v : View sig κ sp s e) (f : v.ty.Contents Val) (r : Rect s) (p : r.shape.Idx → Val e) (L : List (View.Piece Val s e)) :
    v.readAt Val r.toLoadRect (v.writes Val f (⟨r, p⟩ :: L)) = p := by
  funext j
  rw [View.readAt_apply]
  exact View.read_writes_cons_emb v f r p L j

theorem rd_miss (v : View sig κ sp s e) (f : v.ty.Contents Val) (r : Rect s) (p : r.shape.Idx → Val e) (L : List (View.Piece Val s e))
    (B : LoadRect s) (h : LoadRect.disj r B = true) :
    v.readAt Val B (v.writes Val f (⟨r, p⟩ :: L)) = v.readAt Val B (v.writes Val f L) := by
  funext j
  rw [View.readAt_apply, View.readAt_apply, View.writes_cons]
  exact View.read_slice_write_of_not_mem _ _ _ _ (by
    rw [Rect.map_emb_univ]
    exact LoadRect.idx_not_mem_of_disj h j)

end Reads

theorem ld_q (v : View sig .tc .vmem S1x1x8192x256 .bf16) (X : BufTy.Contents (Elt F) v.ty) {off : Fin 4 → ℕ} (inb) (r : ℕ)
    (h : off = ![0, 0, r, 0]) :
    v.readAt (Elt F) (Rect.unit (s := S1x1x8192x256) off S1x1x512x256.size inb).toLoadRect X = qAt (v.read (Elt F) X) r := by
  subst h
  funext i
  rw [View.readAt_apply]
  unfold qAt
  congr 1
  have hr : r + 512 ≤ 8192 := inb 2
  have h2 : (i 2).val < 512 := (i 2).isLt
  funext a
  apply Fin.ext
  fin_cases a
  · show 0 + 1 * (i 0).val = 0
    have : (i 0).val < 1 := (i 0).isLt
    omega
  · show 0 + 1 * (i 1).val = 0
    have : (i 1).val < 1 := (i 1).isLt
    omega
  · show r + 1 * (i 2).val = (r + (i 2).val) % 8192
    rw [Nat.mod_eq_of_lt (by omega)]; omega
  · show 0 + 1 * (i 3).val = (i 3).val
    omega

theorem ld_k (v : View sig .tc .vmem S1x1x256x8192 .bf16) (X : BufTy.Contents (Elt F) v.ty) {off : Fin 4 → ℕ} (inb) (r : ℕ)
    (h : off = ![0, 0, 0, r]) :
    v.readAt (Elt F) (Rect.unit (s := S1x1x256x8192) off S1x1x256x1024.size inb).toLoadRect X = kAt (v.read (Elt F) X) r := by
  subst h
  funext i
  rw [View.readAt_apply]
  unfold kAt
  congr 1
  have hr : r + 1024 ≤ 8192 := inb 3
  have h2 : (i 3).val < 1024 := (i 3).isLt
  funext a
  apply Fin.ext
  fin_cases a
  · show 0 + 1 * (i 0).val = 0
    have : (i 0).val < 1 := (i 0).isLt
    omega
  · show 0 + 1 * (i 1).val = 0
    have : (i 1).val < 1 := (i 1).isLt
    omega
  · show 0 + 1 * (i 2).val = (i 2).val
    omega
  · show r + 1 * (i 3).val = (r + (i 3).val) % 8192
    rw [Nat.mod_eq_of_lt (by omega)]; omega

theorem ld_v (v : View sig .tc .vmem S1x1x8192x256 .bf16) (X : BufTy.Contents (Elt F) v.ty) {off : Fin 4 → ℕ} (inb) (r : ℕ)
    (h : off = ![0, 0, r, 0]) :
    v.readAt (Elt F) (Rect.unit (s := S1x1x8192x256) off S1x1x1024x256.size inb).toLoadRect X = vAt (v.read (Elt F) X) r := by
  subst h
  funext i
  rw [View.readAt_apply]
  unfold vAt
  congr 1
  have hr : r + 1024 ≤ 8192 := inb 2
  have h2 : (i 2).val < 1024 := (i 2).isLt
  funext a
  apply Fin.ext
  fin_cases a
  · show 0 + 1 * (i 0).val = 0
    have : (i 0).val < 1 := (i 0).isLt
    omega
  · show 0 + 1 * (i 1).val = 0
    have : (i 1).val < 1 := (i 1).isLt
    omega
  · show r + 1 * (i 2).val = (r + (i 2).val) % 8192
    rw [Nat.mod_eq_of_lt (by omega)]; omega
  · show 0 + 1 * (i 3).val = (i 3).val
    omega

theorem off_k1 : ∀ k : Fin k0_t2_loop.trips, k0_off1 k 1#32 = ![0, 0, 0, 1024 * (2 * k.val + 1)] := by decide +kernel
theorem off_k2 : ∀ k : Fin k0_t2_loop.trips, k0_off1 k 2#32 = ![0, 0, 0, 1024 * (2 * k.val + 1 + 1)] := by decide +kernel
theorem off_q0 : ∀ k : Fin k0_t1_loop.trips, k0_off2 k 0#32 = ![0, 0, 1024 * k.val, 0] := by decide +kernel
theorem off_q1 : ∀ k : Fin k0_t1_loop.trips, k0_off2 k 512#32 = ![0, 0, 1024 * k.val + 512, 0] := by decide +kernel
theorem off_v0 : ∀ k : Fin k0_t2_loop.trips, k0_off3 k = ![0, 0, 1024 * (2 * k.val), 0] := by decide +kernel
theorem off_v1 : ∀ k : Fin k0_t2_loop.trips, k0_off4 k = ![0, 0, 1024 * (2 * k.val + 1), 0] := by decide +kernel
theorem off_p0 : ∀ k : Fin k0_t1_loop.trips, k0_off5 k 0#32 = ![0, 0, 1024 * k.val, 0] := by decide +kernel
theorem off_p1 : ∀ k : Fin k0_t1_loop.trips, k0_off5 k 512#32 = ![0, 0, 1024 * k.val + 512, 0] := by decide +kernel
theorem off_n0 : ∀ k : Fin k0_t1_loop.trips, k0_off6 k 0#32 = ![0, 0, 1024 * min (k.val + 1) 7, 0] := by decide +kernel
theorem off_n1 : ∀ k : Fin k0_t1_loop.trips, k0_off6 k 512#32 = ![0, 0, 1024 * min (k.val + 1) 7 + 512, 0] := by decide +kernel
theorem off_o0 : ∀ k : Fin k0_t1_loop.trips, k0_off7 k 0#32 = ![0, 1024 * k.val, 0] := by decide +kernel
theorem off_o1 : ∀ k : Fin k0_t1_loop.trips, k0_off7 k 512#32 = ![0, 1024 * k.val + 512, 0] := by decide +kernel

theorem St_succ (x0 : Vec F S1x1x8192x256 .bf16) (x1 : Vec F S1x1x256x8192 .bf16) (x2 : Vec F S1x1x8192x256 .bf16) (r b : ℕ) :
    St x0 x1 x2 r (b + 1) = (k0_pay13 (SC x0 x1 r (1024 * b)) (St x0 x1 x2 r b).1,
      k0_pay12 (vAt x2 (1024 * b)) (SC x0 x1 r (1024 * b)) (St x0 x1 x2 r b).1 (St x0 x1 x2 r b).2) := rfl
/-- The three scratch buffers between two blocks: slot 0 holds the scores of keys `1024 b …`, for the two halves of the
    tile at rows `r`, and the running maxima and sums are those after `b` blocks. -/
structure Good (x0 : Vec F S1x1x8192x256 .bf16) (x1 : Vec F S1x1x256x8192 .bf16) (x2 : Vec F S1x1x8192x256 .bf16) (r b : ℕ)
    (arg6 : Memref sig .tc .vmem S2x2x512x1024 .f32) (arg7 : Memref sig .tc .vmem S2x512x128 .f32) (arg8 : Memref sig .tc .vmem S2x512x256 .f32)
    (f6 : BufTy.Contents (Elt F) arg6.view.ty) (f7 : BufTy.Contents (Elt F) arg7.view.ty) (f8 : BufTy.Contents (Elt F) arg8.view.ty) : Prop where
  s0 : arg6.view.readAt (Elt F) (Rect.unit (s := S2x2x512x1024) ![0, 0, 0, 0] S1x1x512x1024.size inb_S2x2x512x1024_S1x1x512x1024_0_0_0_0).toLoadRect f6 = SC x0 x1 r (1024 * b)
  s1 : arg6.view.readAt (Elt F) (Rect.unit (s := S2x2x512x1024) ![0, 1, 0, 0] S1x1x512x1024.size inb_S2x2x512x1024_S1x1x512x1024_0_1_0_0).toLoadRect f6 = SC x0 x1 (r + 512) (1024 * b)
  m0 : arg7.view.readAt (Elt F) (Rect.unit (s := S2x512x128) ![0, 0, 0] S1x512x128.size inb_S2x512x128_S1x512x128_0_0_0).toLoadRect f7 = (St x0 x1 x2 r b).1
  m1 : arg7.view.readAt (Elt F) (Rect.unit (s := S2x512x128) ![1, 0, 0] S1x512x128.size inb_S2x512x128_S1x512x128_1_0_0).toLoadRect f7 = (St x0 x1 x2 (r + 512) b).1
  a0 : arg8.view.readAt (Elt F) (Rect.unit (s := S2x512x256) ![0, 0, 0] S1x512x256.size inb_S2x512x256_S1x512x256_0_0_0).toLoadRect f8 = (St x0 x1 x2 r b).2
  a1 : arg8.view.readAt (Elt F) (Rect.unit (s := S2x512x256) ![1, 0, 0] S1x512x256.size inb_S2x512x256_S1x512x256_1_0_0).toLoadRect f8 = (St x0 x1 x2 (r + 512) b).2

theorem inner (c : Dev nD) (i : grid0.Coords) (arg2 : Memref sig .tc .vmem S1x1x8192x256 .bf16) (harg2 : arg2.IsWhole) (arg3 : Memref sig .tc .vmem S1x1x256x8192 .bf16) (harg3 : arg3.IsWhole) (arg4 : Memref sig .tc .vmem S1x1x8192x256 .bf16) (harg4 : arg4.IsWhole) (arg5 : Memref sig .tc .vmem S1x8192x128 .bf16) (harg5 : arg5.IsWhole) (arg6 : Memref sig .tc .vmem S2x2x512x1024 .f32) (harg6 : arg6.IsWhole) (arg7 : Memref sig .tc .vmem S2x512x128 .f32) (harg7 : arg7.IsWhole) (arg8 : Memref sig .tc .vmem S2x512x256 .f32) (harg8 : arg8.IsWhole) (X2 : BufTy.Contents (Elt F) arg2.view.ty) (X3 : BufTy.Contents (Elt F) arg3.view.ty) (X4 : BufTy.Contents (Elt F) arg4.view.ty) (k0_t1 : Fin k0_t1_loop.trips) (v21 : BitVec 32) (k : Fin k0_t2_loop.trips)
    (f6 : BufTy.Contents (Elt F) arg6.view.ty) (f7 : BufTy.Contents (Elt F) arg7.view.ty) (f8 : BufTy.Contents (Elt F) arg8.view.ty)
    (h : Good (arg2.view.read (Elt F) X2) (arg3.view.read (Elt F) X3) (arg4.view.read (Elt F) X4) (1024 * k0_t1.val) (2 * k.val) arg6 arg7 arg8 f6 f7 f8) :
    Good (arg2.view.read (Elt F) X2) (arg3.view.read (Elt F) X3) (arg4.view.read (Elt F) X4) (1024 * k0_t1.val) (2 * (k.val + 1)) arg6 arg7 arg8
      (arg6.view.writes (Elt F) f6 ((trip_k0_t2 (F := F) Variants.none c none i arg2 harg2 arg3 harg3 arg4 harg4 arg5 harg5 arg6 harg6 arg7 harg7 arg8 harg8 0#32 1#32 k0_t1 v21 X2 X3 X4 k).1 f6 f7 f8))
      (arg7.view.writes (Elt F) f7 ((trip_k0_t2 (F := F) Variants.none c none i arg2 harg2 arg3 harg3 arg4 harg4 arg5 harg5 arg6 harg6 arg7 harg7 arg8 harg8 0#32 1#32 k0_t1 v21 X2 X3 X4 k).2.1 f6 f7 f8))
      (arg8.view.writes (Elt F) f8 ((trip_k0_t2 (F := F) Variants.none c none i arg2 harg2 arg3 harg3 arg4 harg4 arg5 harg5 arg6 harg6 arg7 harg7 arg8 harg8 0#32 1#32 k0_t1 v21 X2 X3 X4 k).2.2.1 f6 f7 f8)) := by
  unfold trip_k0_t2
  dsimp only
  sl_unfold_words
  obtain ⟨s0, s1, m0, m1, a0, a1⟩ := h
  refine ⟨?_, ?_, ?_, ?_, ?_, ?_⟩
  all_goals repeat (first | rw [rd_hit] | rw [View.readCov_cons_toLoadRect] | (rw [rd_miss]; on_goal 2 => decide) | (rw [View.readCov_skip]; on_goal 2 => decide))
  all_goals rw [show 2 * (k.val + 1) = 2 * k.val + 1 + 1 from by ring]
  all_goals first
    | rw [s0] | rw [s1] | skip
  all_goals first
    | rw [m0] | rw [m1] | skip
  all_goals first
    | rw [a0] | rw [a1] | skip
  · show k0_pay2 (arg3.view.readAt (Elt F) (Rect.unit (s := S1x1x256x8192) (k0_off1 k 2#32) S1x1x256x1024.size (k0_off1_inb k 1)).toLoadRect X3) (arg2.view.readAt (Elt F) (Rect.unit (s := S1x1x8192x256) (k0_off2 k0_t1 0#32) S1x1x512x256.size (k0_off2_inb k0_t1 0)).toLoadRect X2) = _
    rw [ld_k _ _ _ _ (off_k2 k), ld_q _ _ _ _ (off_q0 k0_t1)]
    rfl
  · show k0_pay2 (arg3.view.readAt (Elt F) (Rect.unit (s := S1x1x256x8192) (k0_off1 k 2#32) S1x1x256x1024.size (k0_off1_inb k 1)).toLoadRect X3) (arg2.view.readAt (Elt F) (Rect.unit (s := S1x1x8192x256) (k0_off2 k0_t1 512#32) S1x1x512x256.size (k0_off2_inb k0_t1 1)).toLoadRect X2) = _
    rw [ld_k _ _ _ _ (off_k2 k), ld_q _ _ _ _ (off_q1 k0_t1)]
    rfl
  · show k0_pay13 (k0_pay2 (arg3.view.readAt (Elt F) (Rect.unit (s := S1x1x256x8192) (k0_off1 k 1#32) S1x1x256x1024.size (k0_off1_inb k 0)).toLoadRect X3) (arg2.view.readAt (Elt F) (Rect.unit (s := S1x1x8192x256) (k0_off2 k0_t1 0#32) S1x1x512x256.size (k0_off2_inb k0_t1 0)).toLoadRect X2)) (k0_pay13 (SC (arg2.view.read (Elt F) X2) (arg3.view.read (Elt F) X3) (1024 * k0_t1.val) (1024 * (2 * k.val))) (St (arg2.view.read (Elt F) X2) (arg3.view.read (Elt F) X3) (arg4.view.read (Elt F) X4) (1024 * k0_t1.val) (2 * k.val)).1) = _
    rw [ld_k _ _ _ _ (off_k1 k), ld_q _ _ _ _ (off_q0 k0_t1)]
    rfl
  · show k0_pay13 (k0_pay2 (arg3.view.readAt (Elt F) (Rect.unit (s := S1x1x256x8192) (k0_off1 k 1#32) S1x1x256x1024.size (k0_off1_inb k 0)).toLoadRect X3) (arg2.view.readAt (Elt F) (Rect.unit (s := S1x1x8192x256) (k0_off2 k0_t1 512#32) S1x1x512x256.size (k0_off2_inb k0_t1 1)).toLoadRect X2)) (k0_pay13 (SC (arg2.view.read (Elt F) X2) (arg3.view.read (Elt F) X3) (1024 * k0_t1.val + 512) (1024 * (2 * k.val))) (St (arg2.view.read (Elt F) X2) (arg3.view.read (Elt F) X3) (arg4.view.read (Elt F) X4) (1024 * k0_t1.val + 512) (2 * k.val)).1) = _
    rw [ld_k _ _ _ _ (off_k1 k), ld_q _ _ _ _ (off_q1 k0_t1)]
    rfl
  · show k0_pay12 (arg4.view.readAt (Elt F) (Rect.unit (s := S1x1x8192x256) (k0_off4 k) S1x1x1024x256.size (k0_off4_inb k)).toLoadRect X4) (k0_pay2 (arg3.view.readAt (Elt F) (Rect.unit (s := S1x1x256x8192) (k0_off1 k 1#32) S1x1x256x1024.size (k0_off1_inb k 0)).toLoadRect X3) (arg2.view.readAt (Elt F) (Rect.unit (s := S1x1x8192x256) (k0_off2 k0_t1 0#32) S1x1x512x256.size (k0_off2_inb k0_t1 0)).toLoadRect X2)) (k0_pay13 (SC (arg2.view.read (Elt F) X2) (arg3.view.read (Elt F) X3) (1024 * k0_t1.val) (1024 * (2 * k.val))) (St (arg2.view.read (Elt F) X2) (arg3.view.read (Elt F) X3) (arg4.view.read (Elt F) X4) (1024 * k0_t1.val) (2 * k.val)).1) (k0_pay12 (arg4.view.readAt (Elt F) (Rect.unit (s := S1x1x8192x256) (k0_off3 k) S1x1x1024x256.size (k0_off3_inb k)).toLoadRect X4) (SC (arg2.view.read (Elt F) X2) (arg3.view.read (Elt F) X3) (1024 * k0_t1.val) (1024 * (2 * k.val))) (St (arg2.view.read (Elt F) X2) (arg3.view.read (Elt F) X3) (arg4.view.read (Elt F) X4) (1024 * k0_t1.val) (2 * k.val)).1 (St (arg2.view.read (Elt F) X2) (arg3.view.read (Elt F) X3) (arg4.view.read (Elt F) X4) (1024 * k0_t1.val) (2 * k.val)).2) = _
    rw [ld_k _ _ _ _ (off_k1 k), ld_q _ _ _ _ (off_q0 k0_t1), ld_v _ _ _ _ (off_v0 k), ld_v _ _ _ _ (off_v1 k)]
    rfl
  · show k0_pay12 (arg4.view.readAt (Elt F) (Rect.unit (s := S1x1x8192x256) (k0_off4 k) S1x1x1024x256.size (k0_off4_inb k)).toLoadRect X4) (k0_pay2 (arg3.view.readAt (Elt F) (Rect.unit (s := S1x1x256x8192) (k0_off1 k 1#32) S1x1x256x1024.size (k0_off1_inb k 0)).toLoadRect X3) (arg2.view.readAt (Elt F) (Rect.unit (s := S1x1x8192x256) (k0_off2 k0_t1 512#32) S1x1x512x256.size (k0_off2_inb k0_t1 1)).toLoadRect X2)) (k0_pay13 (SC (arg2.view.read (Elt F) X2) (arg3.view.read (Elt F) X3) (1024 * k0_t1.val + 512) (1024 * (2 * k.val))) (St (arg2.view.read (Elt F) X2) (arg3.view.read (Elt F) X3) (arg4.view.read (Elt F) X4) (1024 * k0_t1.val + 512) (2 * k.val)).1) (k0_pay12 (arg4.view.readAt (Elt F) (Rect.unit (s := S1x1x8192x256) (k0_off3 k) S1x1x1024x256.size (k0_off3_inb k)).toLoadRect X4) (SC (arg2.view.read (Elt F) X2) (arg3.view.read (Elt F) X3) (1024 * k0_t1.val + 512) (1024 * (2 * k.val))) (St (arg2.view.read (Elt F) X2) (arg3.view.read (Elt F) X3) (arg4.view.read (Elt F) X4) (1024 * k0_t1.val + 512) (2 * k.val)).1 (St (arg2.view.read (Elt F) X2) (arg3.view.read (Elt F) X3) (arg4.view.read (Elt F) X4) (1024 * k0_t1.val + 512) (2 * k.val)).2) = _
    rw [ld_k _ _ _ _ (off_k1 k), ld_q _ _ _ _ (off_q1 k0_t1), ld_v _ _ _ _ (off_v0 k), ld_v _ _ _ _ (off_v1 k)]
    rfl

theorem inner_all (c : Dev nD) (i : grid0.Coords) (arg2 : Memref sig .tc .vmem S1x1x8192x256 .bf16) (harg2 : arg2.IsWhole) (arg3 : Memref sig .tc .vmem S1x1x256x8192 .bf16) (harg3 : arg3.IsWhole) (arg4 : Memref sig .tc .vmem S1x1x8192x256 .bf16) (harg4 : arg4.IsWhole) (arg5 : Memref sig .tc .vmem S1x8192x128 .bf16) (harg5 : arg5.IsWhole) (arg6 : Memref sig .tc .vmem S2x2x512x1024 .f32) (harg6 : arg6.IsWhole) (arg7 : Memref sig .tc .vmem S2x512x128 .f32) (harg7 : arg7.IsWhole) (arg8 : Memref sig .tc .vmem S2x512x256 .f32) (harg8 : arg8.IsWhole) (X2 : BufTy.Contents (Elt F) arg2.view.ty) (X3 : BufTy.Contents (Elt F) arg3.view.ty) (X4 : BufTy.Contents (Elt F) arg4.view.ty) (k0_t1 : Fin k0_t1_loop.trips) (v21 : BitVec 32)
    (f6 : BufTy.Contents (Elt F) arg6.view.ty) (f7 : BufTy.Contents (Elt F) arg7.view.ty) (f8 : BufTy.Contents (Elt F) arg8.view.ty)
    (h : Good (arg2.view.read (Elt F) X2) (arg3.view.read (Elt F) X3) (arg4.view.read (Elt F) X4) (1024 * k0_t1.val) 0 arg6 arg7 arg8 f6 f7 f8) :
    ∀ n : ℕ, n ≤ k0_t2_loop.trips →
    Good (arg2.view.read (Elt F) X2) (arg3.view.read (Elt F) X3) (arg4.view.read (Elt F) X4) (1024 * k0_t1.val) (2 * n) arg6 arg7 arg8
      (arg6.view.writes (Elt F) f6 (pb_k0_t2 (F := F) Variants.none c none i arg2 harg2 arg3 harg3 arg4 harg4 arg5 harg5 arg6 harg6 arg7 harg7 arg8 harg8 0#32 1#32 k0_t1 v21 X2 X3 X4 f6 f7 f8 n).1)
      (arg7.view.writes (Elt F) f7 (pb_k0_t2 (F := F) Variants.none c none i arg2 harg2 arg3 harg3 arg4 harg4 arg5 harg5 arg6 harg6 arg7 harg7 arg8 harg8 0#32 1#32 k0_t1 v21 X2 X3 X4 f6 f7 f8 n).2.1)
      (arg8.view.writes (Elt F) f8 (pb_k0_t2 (F := F) Variants.none c none i arg2 harg2 arg3 harg3 arg4 harg4 arg5 harg5 arg6 harg6 arg7 harg7 arg8 harg8 0#32 1#32 k0_t1 v21 X2 X3 X4 f6 f7 f8 n).2.2)
  | 0, _ => h
  | n + 1, hn => by
    have ih := inner_all c i arg2 harg2 arg3 harg3 arg4 harg4 arg5 harg5 arg6 harg6 arg7 harg7 arg8 harg8 X2 X3 X4 k0_t1 v21 f6 f7 f8 h n (Nat.le_of_succ_le hn)
    have e := pb_k0_t2_succ (F := F) Variants.none c none i arg2 harg2 arg3 harg3 arg4 harg4 arg5 harg5 arg6 harg6 arg7 harg7 arg8 harg8 0#32 1#32 k0_t1 v21 X2 X3 X4 f6 f7 f8 ⟨n, hn⟩
    dsimp only at e
    rw [e]
    dsimp only
    rw [View.writes_append, View.writes_append, View.writes_append]
    exact inner c i arg2 harg2 arg3 harg3 arg4 harg4 arg5 harg5 arg6 harg6 arg7 harg7 arg8 harg8 X2 X3 X4 k0_t1 v21 ⟨n, hn⟩ _ _ _ ih

/-- What one query tile holds: the blocks it reads, the output block and the three scratch buffers. -/
abbrev Held (c : Dev nD) (arg2 : Memref sig .tc .vmem S1x1x8192x256 .bf16) (arg3 : Memref sig .tc .vmem S1x1x256x8192 .bf16) (arg4 : Memref sig .tc .vmem S1x1x8192x256 .bf16) (arg5 : Memref sig .tc .vmem S1x8192x128 .bf16) (arg6 : Memref sig .tc .vmem S2x2x512x1024 .f32) (arg7 : Memref sig .tc .vmem S2x512x128 .f32) (arg8 : Memref sig .tc .vmem S2x512x256 .f32) (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- One query tile, run: the stores it makes, as functions of what it finds. -/
@[irreducible] def tile (c : Dev nD) (i : grid0.Coords) (arg2 : Memref sig .tc .vmem S1x1x8192x256 .bf16) (harg2 : arg2.IsWhole) (arg3 : Memref sig .tc .vmem S1x1x256x8192 .bf16) (harg3 : arg3.IsWhole) (arg4 : Memref sig .tc .vmem S1x1x8192x256 .bf16) (harg4 : arg4.IsWhole) (arg5 : Memref sig .tc .vmem S1x8192x128 .bf16) (harg5 : arg5.IsWhole) (arg6 : Memref sig .tc .vmem S2x2x512x1024 .f32) (harg6 : arg6.IsWhole) (arg7 : Memref sig .tc .vmem S2x512x128 .f32) (harg7 : arg7.IsWhole) (arg8 : Memref sig .tc .vmem S2x512x256 .f32) (harg8 : arg8.IsWhole) (X2 : BufTy.Contents (Elt F) arg2.view.ty) (X3 : BufTy.Contents (Elt F) arg3.view.ty) (X4 : BufTy.Contents (Elt F) arg4.view.ty) (k : Fin k0_t1_loop.trips) :
    Σ' (L5 : BufTy.Contents (Elt F) arg6.view.ty → BufTy.Contents (Elt F) arg7.view.ty → BufTy.Contents (Elt F) arg8.view.ty → List (View.Piece (Elt F) S1x8192x128 .bf16))
      (L6 : BufTy.Contents (Elt F) arg6.view.ty → BufTy.Contents (Elt F) arg7.view.ty → BufTy.Contents (Elt F) arg8.view.ty → List (View.Piece (Elt F) S2x2x512x1024 .f32))
      (L7 : BufTy.Contents (Elt F) arg6.view.ty → BufTy.Contents (Elt F) arg7.view.ty → BufTy.Contents (Elt F) arg8.view.ty → BufTy.Contents (Elt F) arg7.view.ty),
      { L8 : BufTy.Contents (Elt F) arg6.view.ty → BufTy.Contents (Elt F) arg7.view.ty → BufTy.Contents (Elt F) arg8.view.ty → BufTy.Contents (Elt F) arg8.view.ty //
        ∀ (E : Set ℕ) (f5 : BufTy.Contents (Elt F) arg5.view.ty) (f6 : BufTy.Contents (Elt F) arg6.view.ty) (f7 : BufTy.Contents (Elt F) arg7.view.ty) (f8 : BufTy.Contents (Elt F) arg8.view.ty),
          Held (F := F) c arg2 arg3 arg4 arg5 arg6 arg7 arg8 X2 X3 X4 f5 f6 f7 f8
          ⊢ wp frame (wpE (defs₀ (F := F)) Variants.none (c : Thread nD τ) none) E (k0_t1_body (F := F) i arg2 harg2 arg3 harg3 arg4 harg4 arg5 harg5 arg6 harg6 arg7 harg7 arg8 harg8 k PUnit.unit)
              (fun _ => Held (F := F) c arg2 arg3 arg4 arg5 arg6 arg7 arg8 X2 X3 X4 (arg5.view.writes (Elt F) f5 (L5 f6 f7 f8)) (arg6.view.writes (Elt F) f6 (L6 f6 f7 f8)) (L7 f6 f7 f8) (L8 f6 f7 f8)) } := by
  have hk : k.val < 8 := Nat.lt_of_lt_of_le k.isLt k0_t1_abs.2.1
  refine ⟨?_, ?_, ?_, ?_, fun E f5 f6 f7 f8 => ?run⟩
  case run =>
    unfold k0_t1_body
    iintro ⟨HR2, HR3, HR4, HW5, HW6, HW7, HW8⟩
    sl_exec
    sl_step
    sl_close

theorem init7 (v : View sig .tc .vmem S2x512x128 .f32) (r : Rect S2x512x128) :
    v.readAt (Elt F) r.toLoadRect (v.writes (Elt F) v.junk [(⟨Rect.unit (s := S2x512x128) ![0, 0, 0] S2x512x128.size inb_S2x512x128_S2x512x128_0_0_0, k0_pay36⟩ : View.Piece (Elt F) S2x512x128 .f32)]) = fun _ => FloatOps.ofBits .f32 0xFF800000#32 := by
  refine (View.readCov_fill (Val := Elt F) v inb_S2x512x128_S2x512x128_0_0_0 k0_pay36 [] r (by decide)).trans ?_
  rfl

theorem init8 (v : View sig .tc .vmem S2x512x256 .f32) (r : Rect S2x512x256) :
    v.readAt (Elt F) r.toLoadRect (v.writes (Elt F) v.junk [(⟨Rect.unit (s := S2x512x256) ![0, 0, 0] S2x512x256.size inb_S2x512x256_S2x512x256_0_0_0, k0_pay37⟩ : View.Piece (Elt F) S2x512x256 .f32)]) = fun _ => FloatOps.ofBits .f32 0x00000000#32 := by
  refine (View.readCov_fill (Val := Elt F) v inb_S2x512x256_S2x512x256_0_0_0 k0_pay37 [] r (by decide)).trans ?_
  rfl

/-- The output rows of a half tile, from the running sums after the last block. -/
def half (x0 : Vec F S1x1x8192x256 .bf16) (x1 : Vec F S1x1x256x8192 .bf16) (x2 : Vec F S1x1x8192x256 .bf16) (r : ℕ) : Vec F S1x512x128 .bf16 :=
  k0_pay70 (St x0 x1 x2 r 8).2

theorem tile_out (c : Dev nD) (i : grid0.Coords) (arg2 : Memref sig .tc .vmem S1x1x8192x256 .bf16) (harg2 : arg2.IsWhole) (arg3 : Memref sig .tc .vmem S1x1x256x8192 .bf16) (harg3 : arg3.IsWhole) (arg4 : Memref sig .tc .vmem S1x1x8192x256 .bf16) (harg4 : arg4.IsWhole) (arg5 : Memref sig .tc .vmem S1x8192x128 .bf16) (harg5 : arg5.IsWhole) (arg6 : Memref sig .tc .vmem S2x2x512x1024 .f32) (harg6 : arg6.IsWhole) (arg7 : Memref sig .tc .vmem S2x512x128 .f32) (harg7 : arg7.IsWhole) (arg8 : Memref sig .tc .vmem S2x512x256 .f32) (harg8 : arg8.IsWhole) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty)
    (s0 : arg6.view.readAt (Elt F) (Rect.unit (s := S2x2x512x1024) ![0, 0, 0, 0] S1x1x512x1024.size inb_S2x2x512x1024_S1x1x512x1024_0_0_0_0).toLoadRect f6 = SC (arg2.view.read (Elt F) X2) (arg3.view.read (Elt F) X3) (1024 * k.val) 0)
    (s1 : arg6.view.readAt (Elt F) (Rect.unit (s := S2x2x512x1024) ![0, 1, 0, 0] S1x1x512x1024.size inb_S2x2x512x1024_S1x1x512x1024_0_1_0_0).toLoadRect f6 = SC (arg2.view.read (Elt F) X2) (arg3.view.read (Elt F) X3) (1024 * k.val + 512) 0) :
    (tile (F := F) c i arg2 harg2 arg3 harg3 arg4 harg4 arg5 harg5 arg6 harg6 arg7 harg7 arg8 harg8 X2 X3 X4 k).1 f6 f7 f8 = [(⟨Rect.unit (s := S1x8192x128) (k0_off7 k 512#32) S1x512x128.size (k0_off7_inb k 1), half (arg2.view.read (Elt F) X2) (arg3.view.read (Elt F) X3) (arg4.view.read (Elt F) X4) (1024 * k.val + 512)⟩ : View.Piece (Elt F) S1x8192x128 .bf16), (⟨Rect.unit (s := S1x8192x128) (k0_off7 k 0#32) S1x512x128.size (k0_off7_inb k 0), half (arg2.view.read (Elt F) X2) (arg3.view.read (Elt F) X3) (arg4.view.read (Elt F) X4) (1024 * k.val)⟩ : View.Piece (Elt F) S1x8192x128 .bf16)] := by
  have hG := inner_all c i arg2 harg2 arg3 harg3 arg4 harg4 arg5 harg5 arg6 harg6 arg7 harg7 arg8 harg8 X2 X3 X4 k (Scalar.muli (Scf.iv 0#32 1#32 k.val) 1024#32) f6 (arg7.view.writes (Elt F) arg7.view.junk [(⟨Rect.unit (s := S2x512x128) ![0, 0, 0] S2x512x128.size inb_S2x512x128_S2x512x128_0_0_0, k0_pay36⟩ : View.Piece (Elt F) S2x512x128 .f32)]) (arg8.view.writes (Elt F) arg8.view.junk [(⟨Rect.unit (s := S2x512x256) ![0, 0, 0] S2x512x256.size inb_S2x512x256_S2x512x256_0_0_0, k0_pay37⟩ : View.Piece (Elt F) S2x512x256 .f32)])
    ⟨s0, s1, init7 _ _, init7 _ _, init8 _ _, init8 _ _⟩ (Scf.trips k0_t2_loop.lb k0_t2_loop.ub k0_t2_loop.st) le_rfl
  unfold tile
  dsimp only
  sl_unfold_words
  repeat (first | rw [rd_hit] | rw [View.readCov_cons_toLoadRect] | (rw [rd_miss]; on_goal 2 => decide) | (rw [View.readCov_skip]; on_goal 2 => decide))
  generalize (pb_k0_t2 (F := F) Variants.none c none i arg2 harg2 arg3 harg3 arg4 harg4 arg5 harg5 arg6 harg6 arg7 harg7 arg8 harg8 0#32 1#32 k (Scalar.muli (Scf.iv 0#32 1#32 k.val) 1024#32) X2 X3 X4 f6 (arg7.view.writes (Elt F) arg7.view.junk [(⟨Rect.unit (s := S2x512x128) ![0, 0, 0] S2x512x128.size inb_S2x512x128_S2x512x128_0_0_0, k0_pay36⟩ : View.Piece (Elt F) S2x512x128 .f32)]) (arg8.view.writes (Elt F) arg8.view.junk [(⟨Rect.unit (s := S2x512x256) ![0, 0, 0] S2x512x256.size inb_S2x512x256_S2x512x256_0_0_0, k0_pay37⟩ : View.Piece (Elt F) S2x512x256 .f32)]) (Scf.trips k0_t2_loop.lb k0_t2_loop.ub k0_t2_loop.st)) = TT at hG ⊢
  rw [show 2 * (Scf.trips k0_t2_loop.lb k0_t2_loop.ub k0_t2_loop.st) = 6 from by decide, ← View.writes_append, ← View.writes_append] at hG
  obtain ⟨s0, s1, m0, m1, a0, a1⟩ := hG
  replace m0 : arg7.view.readCov _ _ = _ := m0
  replace m1 : arg7.view.readCov _ _ = _ := m1
  replace a0 : arg8.view.readCov _ _ = _ := a0
  replace a1 : arg8.view.readCov _ _ = _ := a1
  rw [s0, s1, m0, m1, a0, a1]
  show [(⟨Rect.unit (s := S1x8192x128) (k0_off7 k 512#32) S1x512x128.size (k0_off7_inb k 1), k0_pay70 (k0_pay12 (arg4.view.readAt (Elt F) (Rect.unit (s := S1x1x8192x256) (![0, 0, 7168, 0]) S1x1x1024x256.size (inb_S1x1x8192x256_S1x1x1024x256_0_0_7168_0)).toLoadRect X4) (k0_pay2 (arg3.view.readAt (Elt F) (Rect.unit (s := S1x1x256x8192) (![0, 0, 0, 7168]) S1x1x256x1024.size (inb_S1x1x256x8192_S1x1x256x1024_0_0_0_7168)).toLoadRect X3) (arg2.view.readAt (Elt F) (Rect.unit (s := S1x1x8192x256) (k0_off5 k 512#32) S1x1x512x256.size (k0_off5_inb k 1)).toLoadRect X2)) (k0_pay13 (SC (arg2.view.read (Elt F) X2) (arg3.view.read (Elt F) X3) (1024 * k.val + 512) (1024 * 6)) (St (arg2.view.read (Elt F) X2) (arg3.view.read (Elt F) X3) (arg4.view.read (Elt F) X4) (1024 * k.val + 512) 6).1) (k0_pay12 (arg4.view.readAt (Elt F) (Rect.unit (s := S1x1x8192x256) (![0, 0, 6144, 0]) S1x1x1024x256.size (inb_S1x1x8192x256_S1x1x1024x256_0_0_6144_0)).toLoadRect X4) (SC (arg2.view.read (Elt F) X2) (arg3.view.read (Elt F) X3) (1024 * k.val + 512) (1024 * 6)) (St (arg2.view.read (Elt F) X2) (arg3.view.read (Elt F) X3) (arg4.view.read (Elt F) X4) (1024 * k.val + 512) 6).1 (St (arg2.view.read (Elt F) X2) (arg3.view.read (Elt F) X3) (arg4.view.read (Elt F) X4) (1024 * k.val + 512) 6).2))⟩ : View.Piece (Elt F) S1x8192x128 .bf16), (⟨Rect.unit (s := S1x8192x128) (k0_off7 k 0#32) S1x512x128.size (k0_off7_inb k 0), k0_pay70 (k0_pay12 (arg4.view.readAt (Elt F) (Rect.unit (s := S1x1x8192x256) (![0, 0, 7168, 0]) S1x1x1024x256.size (inb_S1x1x8192x256_S1x1x1024x256_0_0_7168_0)).toLoadRect X4) (k0_pay2 (arg3.view.readAt (Elt F) (Rect.unit (s := S1x1x256x8192) (![0, 0, 0, 7168]) S1x1x256x1024.size (inb_S1x1x256x8192_S1x1x256x1024_0_0_0_7168)).toLoadRect X3) (arg2.view.readAt (Elt F) (Rect.unit (s := S1x1x8192x256) (k0_off5 k 0#32) S1x1x512x256.size (k0_off5_inb k 0)).toLoadRect X2)) (k0_pay13 (SC (arg2.view.read (Elt F) X2) (arg3.view.read (Elt F) X3) (1024 * k.val) (1024 * 6)) (St (arg2.view.read (Elt F) X2) (arg3.view.read (Elt F) X3) (arg4.view.read (Elt F) X4) (1024 * k.val) 6).1) (k0_pay12 (arg4.view.readAt (Elt F) (Rect.unit (s := S1x1x8192x256) (![0, 0, 6144, 0]) S1x1x1024x256.size (inb_S1x1x8192x256_S1x1x1024x256_0_0_6144_0)).toLoadRect X4) (SC (arg2.view.read (Elt F) X2) (arg3.view.read (Elt F) X3) (1024 * k.val) (1024 * 6)) (St (arg2.view.read (Elt F) X2) (arg3.view.read (Elt F) X3) (arg4.view.read (Elt F) X4) (1024 * k.val) 6).1 (St (arg2.view.read (Elt F) X2) (arg3.view.read (Elt F) X3) (arg4.view.read (Elt F) X4) (1024 * k.val) 6).2))⟩ : View.Piece (Elt F) S1x8192x128 .bf16)] = _
  rw [ld_k _ _ _ 7168 rfl, ld_q _ _ _ _ (off_p0 k), ld_q _ _ _ _ (off_p1 k), ld_v _ _ _ 6144 rfl, ld_v _ _ _ 7168 rfl]
  unfold half
  rw [show (8 : ℕ) = 6 + 1 + 1 from rfl, St_succ, St_succ, St_succ, St_succ]
  rfl

theorem tile_next0 (c : Dev nD) (i : grid0.Coords) (arg2 : Memref sig .tc .vmem S1x1x8192x256 .bf16) (harg2 : arg2.IsWhole) (arg3 : Memref sig .tc .vmem S1x1x256x8192 .bf16) (harg3 : arg3.IsWhole) (arg4 : Memref sig .tc .vmem S1x1x8192x256 .bf16) (harg4 : arg4.IsWhole) (arg5 : Memref sig .tc .vmem S1x8192x128 .bf16) (harg5 : arg5.IsWhole) (arg6 : Memref sig .tc .vmem S2x2x512x1024 .f32) (harg6 : arg6.IsWhole) (arg7 : Memref sig .tc .vmem S2x512x128 .f32) (harg7 : arg7.IsWhole) (arg8 : Memref sig .tc .vmem S2x512x256 .f32) (harg8 : arg8.IsWhole) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    arg6.view.readAt (Elt F) (Rect.unit (s := S2x2x512x1024) ![0, 0, 0, 0] S1x1x512x1024.size inb_S2x2x512x1024_S1x1x512x1024_0_0_0_0).toLoadRect (arg6.view.writes (Elt F) f6 ((tile (F := F) c i arg2 harg2 arg3 harg3 arg4 harg4 arg5 harg5 arg6 harg6 arg7 harg7 arg8 harg8 X2 X3 X4 k).2.1 f6 f7 f8)) = SC (arg2.view.read (Elt F) X2) (arg3.view.read (Elt F) X3) (1024 * min (k.val + 1) 7) 0 := by
  unfold tile
  dsimp only
  sl_unfold_words
  repeat (first | rw [rd_hit] | (rw [rd_miss]; on_goal 2 => decide))
  show k0_pay2 (arg3.view.readAt (Elt F) (Rect.unit (s := S1x1x256x8192) (![0, 0, 0, 0]) S1x1x256x1024.size (inb_S1x1x256x8192_S1x1x256x1024_0_0_0_0)).toLoadRect X3) (arg2.view.readAt (Elt F) (Rect.unit (s := S1x1x8192x256) (k0_off6 k 0#32) S1x1x512x256.size (k0_off6_inb k 0)).toLoadRect X2) = _
  rw [ld_k _ _ _ 0 rfl, ld_q _ _ _ _ (off_n0 k)]
  rfl

theorem tile_next1 (c : Dev nD) (i : grid0.Coords) (arg2 : Memref sig .tc .vmem S1x1x8192x256 .bf16) (harg2 : arg2.IsWhole) (arg3 : Memref sig .tc .vmem S1x1x256x8192 .bf16) (harg3 : arg3.IsWhole) (arg4 : Memref sig .tc .vmem S1x1x8192x256 .bf16) (harg4 : arg4.IsWhole) (arg5 : Memref sig .tc .vmem S1x8192x128 .bf16) (harg5 : arg5.IsWhole) (arg6 : Memref sig .tc .vmem S2x2x512x1024 .f32) (harg6 : arg6.IsWhole) (arg7 : Memref sig .tc .vmem S2x512x128 .f32) (harg7 : arg7.IsWhole) (arg8 : Memref sig .tc .vmem S2x512x256 .f32) (harg8 : arg8.IsWhole) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    arg6.view.readAt (Elt F) (Rect.unit (s := S2x2x512x1024) ![0, 1, 0, 0] S1x1x512x1024.size inb_S2x2x512x1024_S1x1x512x1024_0_1_0_0).toLoadRect (arg6.view.writes (Elt F) f6 ((tile (F := F) c i arg2 harg2 arg3 harg3 arg4 harg4 arg5 harg5 arg6 harg6 arg7 harg7 arg8 harg8 X2 X3 X4 k).2.1 f6 f7 f8)) = SC (arg2.view.read (Elt F) X2) (arg3.view.read (Elt F) X3) (1024 * min (k.val + 1) 7 + 512) 0 := by
  unfold tile
  dsimp only
  sl_unfold_words
  repeat (first | rw [rd_hit] | (rw [rd_miss]; on_goal 2 => decide))
  show k0_pay2 (arg3.view.readAt (Elt F) (Rect.unit (s := S1x1x256x8192) (![0, 0, 0, 0]) S1x1x256x1024.size (inb_S1x1x256x8192_S1x1x256x1024_0_0_0_0)).toLoadRect X3) (arg2.view.readAt (Elt F) (Rect.unit (s := S1x1x8192x256) (k0_off6 k 512#32) S1x1x512x256.size (k0_off6_inb k 1)).toLoadRect X2) = _
  rw [ld_k _ _ _ 0 rfl, ld_q _ _ _ _ (off_n1 k)]
  rfl

end Cert.KernelIdeal.Attn
end
-- ==== Proof.Frame.lean ====
module

public import proofs.«01_k».proof.Proof.Gen.KernelIdeal.Frame
public import proofs.«01_k».proof.Proof.Gen.KernelIdeal.Launch
public import proofs.«01_k».proof.Proof.Gen.KernelIdeal.Points
public import Idealize.ShloMosaic.Lib.WritesUnit
public import proofs.«01_k».proof.Proof.Tile
public import Idealize.ShloMosaic.Lib.Pipeline.ValueKit
public import Idealize.ShloMosaic.Lib.Pipeline.ReadBack

@[expose] public section

set_option maxRecDepth 16384
set_option maxHeartbeats 800000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄G" => MT nD τ sig Unit (Elt F) ℕ (UR sig nD τ) ℕ

/-- The output block: row `512 a + b` is row `b` of half tile `a`. -/
def outAt (x0 : Vec F S1x1x8192x256 .bf16) (x1 : Vec F S1x1x256x8192 .bf16) (x2 : Vec F S1x1x8192x256 .bf16) : Vec F S1x8192x128 .bf16 :=
  fun y => half x0 x1 x2 (512 * ((y 1).val / 512)) (ix3 (0 : Fin 1) (⟨(y 1).val % 512, Nat.mod_lt _ (by decide)⟩ : Fin 512) (y 2 : Fin 128))

theorem outAt_of (x0 : Vec F S1x1x8192x256 .bf16) (x1 : Vec F S1x1x256x8192 .bf16) (x2 : Vec F S1x1x8192x256 .bf16) (y : S1x8192x128.Idx) (r : ℕ)
    (hr : r % 512 = 0) (x : S1x512x128.Idx) (h1 : (y 1).val = r + (x 1).val) (h2 : (y 2).val = (x 2).val) :
    half x0 x1 x2 r x = outAt x0 x1 x2 y := by
  have hx : (x 1).val < 512 := (x 1).isLt
  unfold outAt
  rw [show 512 * ((y 1).val / 512) = r by omega]
  congr 1
  funext a
  apply Fin.ext
  fin_cases a
  · have : (x 0).val < 1 := (x 0).isLt
    show (x 0).val = 0
    omega
  · show (x 1).val = (y 1).val % 512
    omega
  · exact h2.symm

theorem out_step (x0 : Vec F S1x1x8192x256 .bf16) (x1 : Vec F S1x1x256x8192 .bf16) (x2 : Vec F S1x1x8192x256 .bf16)
    (v : View sig .tc .vmem S1x8192x128 .bf16) (f5 : BufTy.Contents (Elt F) v.ty) (k : Fin k0_t1_loop.trips)
    (h : ∀ y : S1x8192x128.Idx, (y 1).val < 1024 * k.val → v.read (Elt F) f5 y = outAt x0 x1 x2 y) (y : S1x8192x128.Idx) (hy : (y 1).val < 1024 * (k.val + 1)) :
    v.read (Elt F) (v.writes (Elt F) f5 [(⟨Rect.unit (s := S1x8192x128) (k0_off7 k 512#32) S1x512x128.size (k0_off7_inb k 1), half x0 x1 x2 (1024 * k.val + 512)⟩ : View.Piece (Elt F) S1x8192x128 .bf16), (⟨Rect.unit (s := S1x8192x128) (k0_off7 k 0#32) S1x512x128.size (k0_off7_inb k 0), half x0 x1 x2 (1024 * k.val)⟩ : View.Piece (Elt F) S1x8192x128 .bf16)]) y = outAt x0 x1 x2 y := by
  have h0 : (y 0).val < 1 := (y 0).isLt
  have h2 : (y 2).val < 128 := (y 2).isLt
  by_cases c1 : (y 1).val < 1024 * k.val + 512
  · refine (View.read_writes_cons_unit_of_not_mem v f5 _ _ _ y (off_o1 k) 1 (Or.inl c1)).trans ?_
    by_cases c2 : (y 1).val < 1024 * k.val
    · refine (View.read_writes_cons_unit_of_not_mem v f5 _ _ _ y (off_o0 k) 1 (Or.inl c2)).trans ?_
      exact h y c2
    · refine (View.read_writes_cons_unit_of_mem v f5 _ _ _ y (ix3 (0 : Fin 1) (⟨(y 1).val - 1024 * k.val, by omega⟩ : Fin 512) (y 2 : Fin 128)) (off_o0 k) (by
        intro a
        fin_cases a
        · show (y 0).val = 0 + 0
          omega
        · show (y 1).val = 1024 * k.val + ((y 1).val - 1024 * k.val)
          omega
        · show (y 2).val = 0 + (y 2).val
          omega)).trans ?_
      exact outAt_of x0 x1 x2 y _ (by omega) _ (by show (y 1).val = 1024 * k.val + ((y 1).val - 1024 * k.val); omega) rfl
  · refine (View.read_writes_cons_unit_of_mem v f5 _ _ _ y (ix3 (0 : Fin 1) (⟨(y 1).val - (1024 * k.val + 512), by omega⟩ : Fin 512) (y 2 : Fin 128)) (off_o1 k) (by
        intro a
        fin_cases a
        · show (y 0).val = 0 + 0
          omega
        · show (y 1).val = 1024 * k.val + 512 + ((y 1).val - (1024 * k.val + 512))
          omega
        · show (y 2).val = 0 + (y 2).val
          omega)).trans ?_
    exact outAt_of x0 x1 x2 y _ (by omega) _ (by show (y 1).val = 1024 * k.val + 512 + ((y 1).val - (1024 * k.val + 512)); omega) rfl

/-- Between two tiles: the output rows of the tiles before are done and slot 0 holds the next tile's first scores. -/
abbrev tileInv (c : Dev nD) (arg2 : Memref sig .tc .vmem S1x1x8192x256 .bf16) (arg3 : Memref sig .tc .vmem S1x1x256x8192 .bf16) (arg4 : Memref sig .tc .vmem S1x1x8192x256 .bf16) (arg5 : Memref sig .tc .vmem S1x8192x128 .bf16) (arg6 : Memref sig .tc .vmem S2x2x512x1024 .f32) (arg7 : Memref sig .tc .vmem S2x512x128 .f32) (arg8 : Memref sig .tc .vmem S2x512x256 .f32) (X2 : BufTy.Contents (Elt F) arg2.view.ty) (X3 : BufTy.Contents (Elt F) arg3.view.ty) (X4 : BufTy.Contents (Elt F) arg4.view.ty) (k : ℕ) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f5, (arg5.view.loc (c : Thread nD τ) ↦[arg5.view.set]{fullShare} f5) ∗ ⌜∀ y : S1x8192x128.Idx, (y 1).val < 1024 * k → arg5.view.read (Elt F) f5 y = outAt (arg2.view.read (Elt F) X2) (arg3.view.read (Elt F) X3) (arg4.view.read (Elt F) X4) y⌝)
    ∗ (∃ f6, (arg6.view.loc (c : Thread nD τ) ↦[arg6.view.set]{fullShare} f6) ∗ ⌜arg6.view.readAt (Elt F) (Rect.unit (s := S2x2x512x1024) ![0, 0, 0, 0] S1x1x512x1024.size inb_S2x2x512x1024_S1x1x512x1024_0_0_0_0).toLoadRect f6 = SC (arg2.view.read (Elt F) X2) (arg3.view.read (Elt F) X3) (1024 * min k 7) 0 ∧ arg6.view.readAt (Elt F) (Rect.unit (s := S2x2x512x1024) ![0, 1, 0, 0] S1x1x512x1024.size inb_S2x2x512x1024_S1x1x512x1024_0_1_0_0).toLoadRect f6 = SC (arg2.view.read (Elt F) X2) (arg3.view.read (Elt F) X3) (1024 * min k 7 + 512) 0⌝)
    ∗ (∃ f7, (arg7.view.loc (c : Thread nD τ) ↦[arg7.view.set]{fullShare} f7)) ∗ (∃ f8, (arg8.view.loc (c : Thread nD τ) ↦[arg8.view.set]{fullShare} f8)))

theorem tile_step (c : Dev nD) (i : grid0.Coords) (arg2 : Memref sig .tc .vmem S1x1x8192x256 .bf16) (harg2 : arg2.IsWhole) (arg3 : Memref sig .tc .vmem S1x1x256x8192 .bf16) (harg3 : arg3.IsWhole) (arg4 : Memref sig .tc .vmem S1x1x8192x256 .bf16) (harg4 : arg4.IsWhole) (arg5 : Memref sig .tc .vmem S1x8192x128 .bf16) (harg5 : arg5.IsWhole) (arg6 : Memref sig .tc .vmem S2x2x512x1024 .f32) (harg6 : arg6.IsWhole) (arg7 : Memref sig .tc .vmem S2x512x128 .f32) (harg7 : arg7.IsWhole) (arg8 : Memref sig .tc .vmem S2x512x256 .f32) (harg8 : arg8.IsWhole) (X2 : BufTy.Contents (Elt F) arg2.view.ty) (X3 : BufTy.Contents (Elt F) arg3.view.ty) (X4 : BufTy.Contents (Elt F) arg4.view.ty) (k : Fin k0_t1_loop.trips) (u : Unit) :
    tileInv (F := F) c arg2 arg3 arg4 arg5 arg6 arg7 arg8 X2 X3 X4 k.val
      ⊢ wp frame (wpE (defs₀ (F := F)) Variants.none (c : Thread nD τ) none) Set.univ (k0_t1_body (F := F) i arg2 harg2 arg3 harg3 arg4 harg4 arg5 harg5 arg6 harg6 arg7 harg7 arg8 harg8 k u)
          (fun _ => tileInv (F := F) c arg2 arg3 arg4 arg5 arg6 arg7 arg8 X2 X3 X4 (k.val + 1)) := by
  have hk : k.val < 8 := Nat.lt_of_lt_of_le k.isLt k0_t1_abs.2.1
  iintro ⟨H2, H3, H4, ⟨%f5, H5, %h5⟩, ⟨%f6, H6, %h6⟩, ⟨%f7, H7⟩, ⟨%f8, H8⟩⟩
  iapply (wp_wand_r Idealize.ShloMosaic.frame (wpE (defs₀ (F := F)) Variants.none (c : Thread nD τ) none) Set.univ)
  isplitl [H2 H3 H4 H5 H6 H7 H8]
  · iapply ((tile (F := F) c i arg2 harg2 arg3 harg3 arg4 harg4 arg5 harg5 arg6 harg6 arg7 harg7 arg8 harg8 X2 X3 X4 k).2.2.2.2 Set.univ f5 f6 f7 f8)
    isplitl [H2]; · iexact H2
    isplitl [H3]; · iexact H3
    isplitl [H4]; · iexact H4
    isplitl [H5]; · iexact H5
    isplitl [H6]; · iexact H6
    isplitl [H7]; · iexact H7
    iexact H8
  iintro %_ ⟨H2, H3, H4, H5, H6, H7, H8⟩
  rw [show min k.val 7 = k.val by omega] at h6
  isplitl [H2]; · iexact H2
  isplitl [H3]; · iexact H3
  isplitl [H4]; · iexact H4
  isplitl [H5]
  · iexists _; isplitl
    · iexact H5
    · ipureintro
      rw [tile_out c i arg2 harg2 arg3 harg3 arg4 harg4 arg5 harg5 arg6 harg6 arg7 harg7 arg8 harg8 X2 X3 X4 k f6 f7 f8 h6.1 h6.2]
      exact fun y hy => out_step _ _ _ arg5.view f5 k h5 y hy
  isplitl [H6]
  · iexists _; isplitl
    · iexact H6
    · ipureintro
      exact ⟨tile_next0 c i arg2 harg2 arg3 harg3 arg4 harg4 arg5 harg5 arg6 harg6 arg7 harg7 arg8 harg8 X2 X3 X4 k f6 f7 f8, tile_next1 c i arg2 harg2 arg3 harg3 arg4 harg4 arg5 harg5 arg6 harg6 arg7 harg7 arg8 harg8 X2 X3 X4 k f6 f7 f8⟩
  isplitl [H7]
  · iexists _; iexact H7
  · iexists _; iexact H8

theorem sound_kernel (c : Dev nD) (i : grid0.Coords) (arg2 : Memref sig .tc .vmem S1x1x8192x256 .bf16) (harg2 : arg2.IsWhole) (arg3 : Memref sig .tc .vmem S1x1x256x8192 .bf16) (harg3 : arg3.IsWhole) (arg4 : Memref sig .tc .vmem S1x1x8192x256 .bf16) (harg4 : arg4.IsWhole) (arg5 : Memref sig .tc .vmem S1x8192x128 .bf16) (harg5 : arg5.IsWhole) (arg6 : Memref sig .tc .vmem S2x2x512x1024 .f32) (harg6 : arg6.IsWhole) (arg7 : Memref sig .tc .vmem S2x512x128 .f32) (harg7 : arg7.IsWhole) (arg8 : Memref sig .tc .vmem S2x512x256 .f32) (harg8 : arg8.IsWhole)
    (x0 : Vec F S1x1x8192x256 .bf16) (x1 : Vec F S1x1x256x8192 .bf16) (x2 : Vec F S1x1x8192x256 .bf16) (K : PUnit → sProp 𝕄G) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f))
        ∗ (iprop(owns (c : Thread nD τ) arg2 fullShare x0 ∗ owns (c : Thread nD τ) arg3 fullShare x1 ∗ owns (c : Thread nD τ) arg4 fullShare x2 ∗ owns (c : Thread nD τ) arg5 fullShare (outAt x0 x1 x2)
          ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f))) -∗ K ⟨⟩))
      ⊢ wp frame (wpE (defs₀ (F := F)) Variants.none c none) Set.univ (cc0_mla_attention i arg2 harg2 arg3 harg3 arg4 harg4 arg5 harg5 arg6 harg6 arg7 harg7 arg8 harg8) K := by
  simp only [cc0_mla_attention_eq_skeleton]; unfold cc0_mla_attention_skel
  unfold owns
  iintro ⟨⟨%f0, %hf0, H0⟩, ⟨%f1, %hf1, H1⟩, ⟨%f2, %hf2, H2⟩, ⟨%d3, %f3, -, H3⟩, ⟨%f6, H6⟩, ⟨%f7, H7⟩, ⟨%f8, H8⟩, Hk⟩
  subst hf0 hf1 hf2
  generalize hP : Scf.Loop.for k0_t1_loop k0_t1_ok ⟨⟩ (k0_t1_body (F := F) i arg2 harg2 arg3 harg3 arg4 harg4 arg5 harg5 arg6 harg6 arg7 harg7 arg8 harg8) = P
  sl_exec
  subst hP
  rw [wp_bind]
  iapply (Scf.wp_for Idealize.ShloMosaic.frame (wpE (defs₀ (F := F)) Variants.none (c : Thread nD τ) none) Set.univ _ _ _ k0_t1_ok () (k0_t1_body (F := F) i arg2 harg2 arg3 harg3 arg4 harg4 arg5 harg5 arg6 harg6 arg7 harg7 arg8 harg8)
    (fun k _ => tileInv (F := F) c arg2 arg3 arg4 arg5 arg6 arg7 arg8 f0 f1 f2 k) (fun k u => tile_step c i arg2 harg2 arg3 harg3 arg4 harg4 arg5 harg5 arg6 harg6 arg7 harg7 arg8 harg8 f0 f1 f2 k u))
  isplitl [H0 H1 H2 H3 H6 H7 H8]
  · isplitl [H0]; · iexact H0
    isplitl [H1]; · iexact H1
    isplitl [H2]; · iexact H2
    isplitl [H3]
    · iexists f3; isplitl
      · iexact H3
      · ipureintro
        exact fun y hy => absurd hy (Nat.not_lt_zero _)
    isplitl [H6]
    · iexists _; isplitl
      · iexact H6
      · ipureintro
        constructor
        · rw [rd_miss, rd_hit, ld_k _ _ _ 0 rfl, ld_q _ _ _ 0 rfl]
          · rfl
          · decide
        · rw [rd_hit, ld_k _ _ _ 0 rfl, ld_q _ _ _ 512 rfl]
          rfl
    isplitl [H7]
    · iexists f7; iexact H7
    · iexists f8; iexact H8
  iintro %_ ⟨H0, H1, H2, ⟨%f5, H5, %h5⟩, ⟨%g6, H6, -⟩, ⟨%g7, H7⟩, ⟨%g8, H8⟩⟩
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr
    · ipureintro
      exact funext fun y => h5 y (lt_of_lt_of_le (y 1).isLt (by decide))
    iexact H5
  isplitl [H6]; · iexists g6; iexact H6
  isplitl [H7]; · iexists g7; iexact H7
  iexists g8; iexact H8

section Launch

local notation "𝕄" => MT nD τ sig Unit (Elt F) ℕ (UR sig nD τ) ℕ

variable (m : (ℓ : Loc nD τ sig) → Buf (Elt F) ℓ) (ρ : Dev nD → PrngReg)

/-- The proof data: the inputs' blocks stay, the output block is `outAt` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (iblk m c 0 t) (iblk m c 1 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A scratch buffer held whole, through its memref. -/
theorem scr (c : Dev nD) (b : Ref sig .tc) (f : Buf (Elt F) ((c : Thread nD τ).loc b)) :
    iprop(((Memref.whole b).view.loc (c : Thread nD τ)) ↦[(Memref.whole b).view.set]{fullShare} f)
      = (iprop(((c : Thread nD τ).loc b) ↦{fullShare} f) : sProp 𝕄) := by
  show iprop(((c : Thread nD τ).loc b) ↦[(View.whole b).set]{fullShare} f) = _
  rw [View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3]
  unfold Pipeline.ΦA
  rw [scopedRest0_eq]
  simp only [← scr]
  iintro ⟨⟨⟨H6, H7, H8⟩, Hp⟩, Ho, ⟨%d0, H0⟩, ⟨%d1, H1⟩, ⟨%d2, H2⟩, ⟨%d3, H3⟩⟩
  iapply (sound_kernel c (grid0.coords t) _ _ _ _ _ _ _ _ (Memref.whole cc0_scratch0) (Memref.isWhole_whole _) (Memref.whole cc0_scratch1) (Memref.isWhole_whole _) (Memref.whole cc0_scratch2) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [H6]; · iexact H6
  isplitl [H7]; · iexact H7
  isplitl [H8]; · iexact H8
  iintro ⟨H0, H1, H2, H3, H6, H7, H8⟩
  isplitl [Hp H6 H7 H8]
  · isplitl [H6 H7 H8]
    · isplitl [H6]; · iexact H6
      isplitl [H7]; · iexact H7
      iexact H8
    iexact Hp
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Launch

end Cert.KernelIdeal.Attn
end
-- ==== Proof.Rows.lean ====
module

public import Idealize.ShloMosaic.PureOps.Ideal
public import Idealize.ShloMosaic.Lib.IdealHost

@[expose] public section

noncomputable section

namespace Cert.Rows

open Idealize.ShloMosaic

/-- A real factor that is not negative goes into a sum of extended reals. -/
theorem mul_sum_real {ι : Type} (r : ℝ) (hr : 0 ≤ r) (S : Finset ι) (f : ι → EReal) :
    (r : EReal) * ∑ j ∈ S, f j = ∑ j ∈ S, (r : EReal) * f j := by
  classical
  induction S using Finset.induction_on with
  | empty => simp
  | insert a S ha ih =>
    rw [Finset.sum_insert ha, Finset.sum_insert ha,
      EReal.left_distrib_of_nonneg_of_ne_top (EReal.coe_nonneg.2 hr) (EReal.coe_ne_top r), ih]

/-- A sum of reals is a real. -/
theorem sum_real {ι : Type} (S : Finset ι) (f : ι → ℝ) : ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- The largest of the first `n` scores. -/
def top (s : ℕ → ℝ) (n : ℕ) : EReal := (Finset.range n).sup fun j => ((s j : ℝ) : EReal)

/-- The weighted sum of the first `n` values, scaled to the largest score. -/
def acc (s : ℕ → ℝ) (v : ℕ → EReal) (n : ℕ) : EReal := ∑ j ∈ Finset.range n, Ideal.exp2 ((s j : EReal) - top s n) * v j

theorem top_real (s : ℕ → ℝ) (n : ℕ) (hn : 0 < n) : ∃ μ : ℝ, top s n = (μ : EReal) ∧ (∀ j < n, s j ≤ μ) ∧ ∃ j < n, s j = μ := by
  obtain ⟨j, hj, e⟩ := Finset.exists_mem_eq_sup (Finset.range n) ⟨0, Finset.mem_range.2 hn⟩ (fun j => ((s j : ℝ) : EReal))
  refine ⟨s j, e, fun i hi => ?_, j, Finset.mem_range.1 hj, rfl⟩
  have h : ((s i : ℝ) : EReal) ≤ (Finset.range n).sup (fun j => ((s j : ℝ) : EReal)) :=
    Finset.le_sup (f := fun j => ((s j : ℝ) : EReal)) (Finset.mem_range.2 hi)
  rw [e] at h
  exact EReal.coe_le_coe_iff.1 h

theorem exp2_sub (a b : ℝ) : Ideal.exp2 ((a : EReal) - (b : EReal)) = (((2 : ℝ) ^ (a - b) : ℝ) : EReal) := by
  rw [← EReal.coe_sub]; rfl

theorem top_add (s : ℕ → ℝ) (n k : ℕ) : top s (n + k) = max (top s n) (Finset.univ.sup fun j : Fin k => ((s (n + j.val) : ℝ) : EReal)) := by
  unfold top
  apply le_antisymm
  · refine Finset.sup_le fun j hj => ?_
    have hj := Finset.mem_range.1 hj
    by_cases h : j < n
    · exact le_max_of_le_left (Finset.le_sup (f := fun j => ((s j : ℝ) : EReal)) (Finset.mem_range.2 h))
    · refine le_max_of_le_right ?_
      have := Finset.le_sup (f := fun j : Fin k => ((s (n + j.val) : ℝ) : EReal)) (Finset.mem_univ (⟨j - n, by omega⟩ : Fin k))
      simpa [show n + (j - n) = j by omega] using this
  · refine max_le (Finset.sup_le fun j hj => ?_) (Finset.sup_le fun j _ => ?_)
    · exact Finset.le_sup (f := fun j => ((s j : ℝ) : EReal)) (Finset.mem_range.2 (by have := Finset.mem_range.1 hj; omega))
    · exact Finset.le_sup (f := fun j => ((s j : ℝ) : EReal)) (Finset.mem_range.2 (by have := j.isLt; omega))

/-- One more block: the old sum is scaled to the new largest score. -/
theorem acc_add (s : ℕ → ℝ) (v : ℕ → EReal) (n k : ℕ) (hk : 0 < k) :
    Ideal.exp2 (top s n - top s (n + k)) * acc s v n + ∑ j : Fin k, Ideal.exp2 ((s (n + j.val) : EReal) - top s (n + k)) * v (n + j.val)
      = acc s v (n + k) := by
  have e : Ideal.exp2 (top s n - top s (n + k)) * acc s v n = ∑ j ∈ Finset.range n, Ideal.exp2 ((s j : EReal) - top s (n + k)) * v j := by
    rcases Nat.eq_zero_or_pos n with rfl | hn
    · simp [acc]
    · obtain ⟨μ, h1, -, -⟩ := top_real s n hn
      obtain ⟨μ', h2, -, -⟩ := top_real s (n + k) (by omega)
      unfold acc
      rw [h1, h2, exp2_sub, mul_sum_real _ (Real.rpow_nonneg (by norm_num) _)]
      refine Finset.sum_congr rfl fun j _ => ?_
      rw [exp2_sub, exp2_sub, ← mul_assoc, ← EReal.coe_mul]
      congr 2
      rw [← Real.rpow_add (by norm_num)]
      congr 1; ring
  rw [e]
  unfold acc
  rw [Finset.sum_range_add, Finset.sum_range (fun x => Ideal.exp2 ((s (n + x) : EReal) - top s (n + k)) * v (n + x))]

theorem two_f32 : Ideal.ofBits .f32 0x40000000#32 = ((2 : ℝ) : EReal) := by
  simp [Ideal.ofBits, Ideal.ieee, -EReal.coe_mul]
  norm_num

theorem neg_inf_f32 : Ideal.ofBits .f32 0xFF800000#32 = ⊥ := by
  simp [Ideal.ofBits, Ideal.ieee]

theorem inf_f32 : Ideal.ofBits .f32 0x7F800000#32 = ⊤ := by
  simp [Ideal.ofBits, Ideal.ieee]

theorem log_two : Ideal.log (Ideal.ofBits .f32 0x40000000#32) = ((Real.log 2 : ℝ) : EReal) := by
  rw [two_f32]
  show (if (2 : ℝ) ≤ 0 then (⊥ : EReal) else ((Real.log 2 : ℝ) : EReal)) = _
  rw [if_neg (by norm_num)]

theorem exp_sub (a b : ℝ) : Ideal.exp ((a : EReal) - (b : EReal)) = ((Real.exp (a - b) : ℝ) : EReal) := by
  rw [← EReal.coe_sub]; rfl

theorem fold_max {ι : Type} (S : Finset ι) (f : ι → EReal) : S.fold max ⊥ f = S.sup f := rfl

/-- The normalised weights in base two are the softmax in base e of the scores times log 2, whatever the values are. -/
theorem softmax (s : ℕ → ℝ) (v o : ℕ → EReal) (ho : ∀ j, o j = 1) (n : ℕ) (hn : 0 < n) :
    Ideal.div (acc s v n) (acc s o n)
      = ∑ k : Fin n, v k.val * Ideal.div
          (Ideal.exp ((s k.val : EReal) * ((Real.log 2 : ℝ) : EReal) - max ⊥ (Finset.univ.fold max ⊥ fun j : Fin n => (s j.val : EReal) * ((Real.log 2 : ℝ) : EReal))))
          (0 + ∑ i : Fin n, Ideal.exp ((s i.val : EReal) * ((Real.log 2 : ℝ) : EReal) - max ⊥ (Finset.univ.fold max ⊥ fun j : Fin n => (s j.val : EReal) * ((Real.log 2 : ℝ) : EReal)))) := by
  obtain ⟨μ, h1, h2, j0, hj0, h3⟩ := top_real s n hn
  have l2 : 0 ≤ Real.log 2 := Real.log_nonneg (by norm_num)
  have hm : max ⊥ (Finset.univ.fold max ⊥ fun j : Fin n => (s j.val : EReal) * ((Real.log 2 : ℝ) : EReal)) = ((μ * Real.log 2 : ℝ) : EReal) := by
    rw [fold_max, max_eq_right bot_le]
    apply le_antisymm
    · refine Finset.sup_le fun j _ => ?_
      rw [← EReal.coe_mul]
      exact EReal.coe_le_coe_iff.2 (mul_le_mul_of_nonneg_right (h2 _ j.isLt) l2)
    · have := Finset.le_sup (f := fun j : Fin n => (s j.val : EReal) * ((Real.log 2 : ℝ) : EReal)) (Finset.mem_univ (⟨j0, hj0⟩ : Fin n))
      rwa [h3, ← EReal.coe_mul] at this
  rw [hm]
  have hE : ∀ k : ℕ, Ideal.exp ((s k : EReal) * ((Real.log 2 : ℝ) : EReal) - ((μ * Real.log 2 : ℝ) : EReal)) = (((2 : ℝ) ^ (s k - μ) : ℝ) : EReal) := by
    intro k
    rw [← EReal.coe_mul, exp_sub, Real.rpow_def_of_pos (by norm_num)]
    congr 2; ring
  simp only [hE, zero_add]
  have hL : acc s o n = ((∑ j : Fin n, (2 : ℝ) ^ (s j.val - μ) : ℝ) : EReal) := by
    unfold acc
    rw [h1, Finset.sum_range, ← sum_real]
    refine Finset.sum_congr rfl fun j _ => ?_
    rw [ho, mul_one, exp2_sub]
  have hpos : 0 < ∑ j : Fin n, (2 : ℝ) ^ (s j.val - μ) :=
    Finset.sum_pos (fun j _ => Real.rpow_pos_of_pos (by norm_num) _) ⟨⟨0, hn⟩, Finset.mem_univ _⟩
  rw [hL, sum_real]
  have hne : ((∑ j : Fin n, (2 : ℝ) ^ (s j.val - μ) : ℝ) : EReal) ≠ 0 := by
    exact_mod_cast hpos.ne'
  generalize (∑ j : Fin n, (2 : ℝ) ^ (s j.val - μ) : ℝ) = L at hpos hne
  simp only [Ideal.div, if_neg hne, ← EReal.coe_inv]
  unfold acc
  rw [h1, mul_comm, Finset.sum_range, mul_sum_real _ (inv_nonneg.2 hpos.le)]
  refine Finset.sum_congr rfl fun j _ => ?_
  rw [exp2_sub, mul_comm, mul_comm _ (v j.val), mul_assoc]

end Cert.Rows
end
-- ==== Proof.Ref.lean ====
module

public import proofs.«01_k».proof.Proof.Gen.ReferenceIdeal.Run
public import proofs.«01_k».proof.Proof.Gen.ReferenceIdeal.Read
public import proofs.«01_k».proof.Proof.Rows
public import Idealize.ShloMosaic.Lib.Pipeline.ValueKit

@[expose] public section

set_option maxRecDepth 16384
set_option maxHeartbeats 800000

noncomputable section

namespace Cert.ReferenceIdeal.Soft

open Cert.ReferenceIdeal.Gen Cert.ReferenceIdeal.Value Cert.ReferenceIdeal.Read
open Idealize.ShloMosaic Idealize.ShloMosaic.TcCoe Idealize.ShloMosaic.Tactic

abbrev Q := FVec Ideal S2x16x8192x256 .bf16
abbrev K := FVec Ideal S2x16x256x8192 .bf16

theorem v4_at (x0 : Q) (x1 : K) (b : Fin 2) (h : Fin 16) (i j : Fin 8192) :
    val_main_v4 (F := Ideal) x0 x1 (ix4 b h i j) = (∑ k : Fin 256, x0 (ix4 b h i k) * x1 (ix4 b h k j)) * ((Real.log 2 : ℝ) : EReal) := by
  rw [← Rows.log_two]
  pointwise [val_main_v4, val_main_v3, val_main_v2, val_main_v1, val_main_cst]

theorem max_at (y : FVec Ideal S2x16x8192x8192 .f32) (z : FVec Ideal S_ .f32) (b : Fin 2) (h : Fin 16) (i : Fin 8192) :
    Host.reduce (FloatOps.maximumf (F := Ideal) (φ := .f32)) y z reducesTo_S2x16x8192x8192_S2x16x8192_d3 h_S_ (ix3 b h i)
      = Finset.univ.fold max (z (Shape.Idx.first h_S_)) fun j : Fin 8192 => y (ix4 b h i j) := by
  pointwise []

theorem v7_at (x0 : Q) (x1 : K) (b : Fin 2) (h : Fin 16) (i : Fin 8192) :
    val_main_v7 (F := Ideal) x0 x1 (ix3 b h i) = max ⊥ (Finset.univ.fold max ⊥ fun j : Fin 8192 => val_main_v4 (F := Ideal) x0 x1 (ix4 b h i j)) := by
  rw [val_main_v7_apply, val_main_v6_apply]
  unfold val_main_v5
  generalize val_main_v4 (F := Ideal) x0 x1 = y
  rw [max_at]
  generalize (fun j : Fin 8192 => y (ix4 b h i j)) = f
  rw [val_main_cst_0_apply, val_main_cst_1_apply]
  show max (Ideal.ofBits .f32 0xFF800000#32) (Finset.univ.fold max (Ideal.ofBits .f32 0xFF800000#32) f) = _
  rw [Rows.neg_inf_f32]

theorem v11_at (x0 : Q) (x1 : K) (b : Fin 2) (h : Fin 16) (i j : Fin 8192) :
    val_main_v11 (F := Ideal) x0 x1 (ix4 b h i j) = Ideal.exp (val_main_v4 (F := Ideal) x0 x1 (ix4 b h i j) - val_main_v7 (F := Ideal) x0 x1 (ix3 b h i)) := by
  pointwise [val_main_v11, val_main_v10, val_main_v9, val_main_v8]

theorem v15_at (x0 : Q) (x1 : K) (b : Fin 2) (h : Fin 16) (i j : Fin 8192) :
    val_main_v15 (F := Ideal) x0 x1 (ix4 b h i j) = Ideal.div (val_main_v11 (F := Ideal) x0 x1 (ix4 b h i j)) (0 + ∑ k : Fin 8192, val_main_v11 (F := Ideal) x0 x1 (ix4 b h i k)) := by
  pointwise [val_main_v15, val_main_v14, val_main_v13, val_main_v12, val_main_cst_2]

theorem v20_at (x0 : Q) (x1 : K) (x2 : Q) (b : Fin 2) (i : Fin 8192) (c : Fin 2048) :
    val_main_v20 (F := Ideal) x0 x1 x2 (ix3 b i c)
      = ∑ k : Fin 8192, x2 (ix4 b (⟨c.val / 128, by omega⟩ : Fin 16) k (⟨c.val % 128, by omega⟩ : Fin 256)) * val_main_v15 (F := Ideal) x0 x1 (ix4 b (⟨c.val / 128, by omega⟩ : Fin 16) i k) := by
  pointwise [val_main_v20, val_main_v19, val_main_v18, val_main_v17, val_main_v16, val_main_v0]

/-- The reference at a position: the softmax of the row's scores times log 2 against a column of the values. -/
theorem ref_at (x0 : Q) (x1 : K) (x2 : Q) (b : Fin 2) (i : Fin 8192) (c : Fin 2048) (h : Fin 16) (hh : h.val = c.val / 128) (d : Fin 256) (hd : d.val = c.val % 128)
    (s : ℕ → ℝ) (hs : ∀ j : Fin 8192, ∑ k : Fin 256, x0 (ix4 b h i k) * x1 (ix4 b h k j) = (s j.val : EReal))
    (v : ℕ → EReal) (hv : ∀ j : Fin 8192, x2 (ix4 b h j d) = v j.val) (o : ℕ → EReal) (ho : ∀ j, o j = 1) :
    val_main_v20 (F := Ideal) x0 x1 x2 (ix3 b i c) = Ideal.div (Rows.acc s v 8192) (Rows.acc s o 8192) := by
  rw [Rows.softmax s v o ho 8192 (by decide), v20_at]
  rw [show (⟨c.val / 128, by omega⟩ : Fin 16) = h from Fin.ext hh.symm, show (⟨c.val % 128, by omega⟩ : Fin 256) = d from Fin.ext hd.symm]
  simp only [v15_at, v11_at, v7_at, v4_at, hs, hv]

end Cert.ReferenceIdeal.Soft
end
-- ==== Proof.Values.lean ====
module

public import proofs.«01_k».proof.Proof.Tile
public import proofs.«01_k».proof.Proof.Rows
public import Idealize.ShloMosaic.Lib.Pipeline.ValueKit

@[expose] public section

set_option maxRecDepth 16384
set_option maxHeartbeats 800000

noncomputable section

namespace Cert.KernelIdeal.Attn

open Cert.KernelIdeal.Gen
open Idealize.ShloMosaic Idealize.ShloMosaic.TcCoe Idealize.ShloMosaic.Tactic

theorem pay2_at (v2 : Vec Ideal S1x1x256x1024 .bf16) (v6 : Vec Ideal S1x1x512x256 .bf16) (i : Fin 512) (j : Fin 1024) :
    k0_pay2 v2 v6 (ix4 (0 : Fin 1) (0 : Fin 1) i j) = ∑ k : Fin 256, v6 (ix4 (0 : Fin 1) (0 : Fin 1) i k) * v2 (ix4 (0 : Fin 1) (0 : Fin 1) k j) := by
  pointwise [k0_pay2, k0_pay1]

theorem pay11_at (s : Vec Ideal S1x1x512x1024 .f32) (m : Vec Ideal S1x512x128 .f32) (i : Fin 512) (c : Fin 128) :
    k0_pay11 s m (ix2 i c) = max (m (ix3 (0 : Fin 1) i c)) (Finset.univ.sup fun j : Fin 1024 => s (ix4 (0 : Fin 1) (0 : Fin 1) i j)) := by
  pointwise [k0_pay11, k0_pay10, k0_pay9]
  rw [Rows.neg_inf_f32]; rfl

theorem pay13_at (s : Vec Ideal S1x1x512x1024 .f32) (m : Vec Ideal S1x512x128 .f32) (i : Fin 512) (c : Fin 128) :
    k0_pay13 s m (ix3 (0 : Fin 1) i c) = k0_pay11 s m (ix2 i c) := by
  pointwise [k0_pay13]

theorem pay70_at (a : Vec Ideal S1x512x256 .f32) (i : Fin 512) (c : Fin 128) :
    k0_pay70 a (ix3 (0 : Fin 1) i c) = Ideal.div (a (ix3 (0 : Fin 1) i (⟨c.val, by omega⟩ : Fin 256))) (a (ix3 (0 : Fin 1) i (⟨128 + c.val, by omega⟩ : Fin 256))) := by
  pointwise [k0_pay70]

theorem pay12_at (v : Vec Ideal S1x1x1024x256 .bf16) (s : Vec Ideal S1x1x512x1024 .f32) (m : Vec Ideal S1x512x128 .f32) (a : Vec Ideal S1x512x256 .f32) (i : Fin 512) (c : Fin 256)
    (M : EReal) (hM : ∀ c, k0_pay11 s m (ix2 i c) = M) (m0 : EReal) (hm : ∀ c, m (ix3 (0 : Fin 1) i c) = m0) :
    k0_pay12 v s m a (ix3 (0 : Fin 1) i c) = Ideal.exp2 (m0 - M) * a (ix3 (0 : Fin 1) i c)
      + ∑ j : Fin 1024, Ideal.exp2 (s (ix4 (0 : Fin 1) (0 : Fin 1) i j) - M) * v (ix4 (0 : Fin 1) (0 : Fin 1) j c) := by
  generalize hx : k0_pay11 s m = x at *
  unfold k0_pay12
  rw [hx]
  pointwise [k0_pay10, k0_pay9, k0_pay8]
  simp only [hm, hM, dite_eq_ite, ite_self]
  rfl

/-- Row `(r + i) % 8192` of the scores: the product of a query row with every key. -/
def score (x0 : Vec Ideal S1x1x8192x256 .bf16) (x1 : Vec Ideal S1x1x256x8192 .bf16) (n j : ℕ) : EReal :=
  ∑ k : Fin 256, (show EReal from x0 (ix4 (0 : Fin 1) (0 : Fin 1) (⟨n % 8192, Nat.mod_lt _ (by decide)⟩ : Fin 8192) k))
    * (show EReal from x1 (ix4 (0 : Fin 1) (0 : Fin 1) k (⟨j % 8192, Nat.mod_lt _ (by decide)⟩ : Fin 8192)))

/-- Column `c` of the values. -/
def vcol (x2 : Vec Ideal S1x1x8192x256 .bf16) (c : Fin 256) (j : ℕ) : EReal :=
  x2 (ix4 (0 : Fin 1) (0 : Fin 1) (⟨j % 8192, Nat.mod_lt _ (by decide)⟩ : Fin 8192) c)

theorem SC_at (x0 : Vec Ideal S1x1x8192x256 .bf16) (x1 : Vec Ideal S1x1x256x8192 .bf16) (r b : ℕ) (i : Fin 512) (j : Fin 1024) :
    SC x0 x1 r b (ix4 (0 : Fin 1) (0 : Fin 1) i j) = score x0 x1 (r + i.val) (b + j.val) := by
  unfold SC
  rw [pay2_at]
  rfl

/-- What the scratch holds of one row after `b` blocks. -/
theorem St_at (x0 : Vec Ideal S1x1x8192x256 .bf16) (x1 : Vec Ideal S1x1x256x8192 .bf16) (x2 : Vec Ideal S1x1x8192x256 .bf16) (r : ℕ) (i : Fin 512)
    (s : ℕ → ℝ) (hs : ∀ j, score x0 x1 (r + i.val) j = (s j : EReal)) (b : ℕ) :
    (∀ c : Fin 128, (St x0 x1 x2 r b).1 (ix3 (0 : Fin 1) i c) = Rows.top s (1024 * b))
      ∧ (∀ c : Fin 256, (St x0 x1 x2 r b).2 (ix3 (0 : Fin 1) i c) = Rows.acc s (vcol x2 c) (1024 * b)) := by
  induction b with
  | zero =>
    refine ⟨fun c => ?_, fun c => ?_⟩
    · show Ideal.ofBits .f32 0xFF800000#32 = _
      rw [Rows.neg_inf_f32]; rfl
    · show Ideal.ofBits .f32 0x00000000#32 = _
      rw [Ideal.ofBits_zero_f32]; rfl
  | succ b ih =>
    obtain ⟨ih1, ih2⟩ := ih
    have hM : ∀ c : Fin 128, k0_pay11 (SC x0 x1 r (1024 * b)) (St x0 x1 x2 r b).1 (ix2 i c) = Rows.top s (1024 * (b + 1)) := by
      intro c
      rw [pay11_at, ih1, show 1024 * (b + 1) = 1024 * b + 1024 by ring, Rows.top_add]
      simp only [SC_at, hs]
    refine ⟨fun c => ?_, fun c => ?_⟩
    · show k0_pay13 (SC x0 x1 r (1024 * b)) (St x0 x1 x2 r b).1 (ix3 (0 : Fin 1) i c) = _
      rw [pay13_at, hM]
    · show k0_pay12 (vAt x2 (1024 * b)) (SC x0 x1 r (1024 * b)) (St x0 x1 x2 r b).1 (St x0 x1 x2 r b).2 (ix3 (0 : Fin 1) i c) = _
      rw [pay12_at _ _ _ _ _ _ _ hM _ ih1, ih2, show 1024 * (b + 1) = 1024 * b + 1024 by ring, ← Rows.acc_add s _ (1024 * b) 1024 (by decide)]
      simp only [SC_at, hs]
      rfl

theorem half_at (x0 : Vec Ideal S1x1x8192x256 .bf16) (x1 : Vec Ideal S1x1x256x8192 .bf16) (x2 : Vec Ideal S1x1x8192x256 .bf16) (r : ℕ) (i : Fin 512)
    (s : ℕ → ℝ) (hs : ∀ j, score x0 x1 (r + i.val) j = (s j : EReal)) (c : Fin 128) :
    half x0 x1 x2 r (ix3 (0 : Fin 1) i c)
      = Ideal.div (Rows.acc s (vcol x2 ⟨c.val, by omega⟩) 8192) (Rows.acc s (vcol x2 ⟨128 + c.val, by omega⟩) 8192) := by
  unfold half
  rw [pay70_at, (St_at x0 x1 x2 r i s hs 8).2, (St_at x0 x1 x2 r i s hs 8).2]

end Cert.KernelIdeal.Attn
end
-- ==== Proof.Final.lean ====
module

public import proofs.«01_k».proof.Proof.Frame
public import proofs.«01_k».proof.Proof.Values
public import proofs.«01_k».proof.Proof.Ref
public import proofs.«01_k».proof.Pre_operands
public import Idealize.ShloMosaic.Lib.Pipeline.ValueKit

@[expose] public section

set_option maxRecDepth 16384
set_option maxHeartbeats 800000

noncomputable section

/-! ## What the precondition says of the operands -/

namespace Cert.Pre_operands

open Idealize.ShloMosaic

instance facts : Facts where
  bitsLt_bf16_f32 := by decide
  bcast_S_S2x16x8192x256 := by decide
  bcast_S_S2x16x256x8192 := by decide
  slices_S2x16x8192x256_S2x16x8192x128_0_0_0_128 := by decide
  bcast_S_S2x16x8192x128 := by decide

theorem real_of (x : EReal) (h : Ideal.cmp .olt (max x (-x)) (Ideal.ofBits .f32 0x7F800000#32) = 1#1) : ∃ r : ℝ, x = (r : EReal) := by
  rw [Rows.inf_f32] at h
  induction x with
  | bot => simp [Ideal.cmp] at h
  | top => simp [Ideal.cmp] at h
  | coe r => exact ⟨r, rfl⟩

theorem q_real (x0 : FVec Ideal S2x16x8192x256 .bf16) (x1 : FVec Ideal S2x16x256x8192 .bf16) (x2 : FVec Ideal S2x16x8192x256 .bf16)
    (h : (fn (F := Ideal) x0 x1 x2).1 = fun _ => 1#1) (i : S2x16x8192x256.Idx) : ∃ r : ℝ, x0 i = (r : EReal) :=
  real_of _ (congrFun h i)

theorem k_real (x0 : FVec Ideal S2x16x8192x256 .bf16) (x1 : FVec Ideal S2x16x256x8192 .bf16) (x2 : FVec Ideal S2x16x8192x256 .bf16)
    (h : (fn (F := Ideal) x0 x1 x2).2.1 = fun _ => 1#1) (i : S2x16x256x8192.Idx) : ∃ r : ℝ, x1 i = (r : EReal) :=
  real_of _ (congrFun h i)

theorem v_one (x0 : FVec Ideal S2x16x8192x256 .bf16) (x1 : FVec Ideal S2x16x256x8192 .bf16) (x2 : FVec Ideal S2x16x8192x256 .bf16)
    (h : (fn (F := Ideal) x0 x1 x2).2.2 = fun _ => 1#1) (b : Fin 2) (g : Fin 16) (j : Fin 8192) (c : Fin 128) :
    x2 (ix4 b g j (⟨128 + c.val, by omega⟩ : Fin 256)) = (1 : EReal) := by
  have h1 := congrFun h (ix4 b g j c)
  unfold fn at h1
  pointwise at h1
  by_contra hx
  simp [hx] at h1

end Cert.Pre_operands

namespace Cert.KernelIdeal.Attn

open Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ)

theorem idx : ∀ t : Fin cfg0.N, win0_0.index t = ![t.val / 16, t.val % 16, 0, 0] ∧ win0_1.index t = ![t.val / 16, t.val % 16, 0, 0]
    ∧ win0_2.index t = ![t.val / 16, t.val % 16, 0, 0] ∧ win0_3.index t = ![t.val / 16, 0, t.val % 16] ∧ t.val / 16 < 2 :=
  (by decide +kernel : ∀ t : Fin grid0.N, _)

theorem blk0 (c : Dev nD) (t : Fin cfg0.N) (b : Fin 2) (g : Fin 16) (hb : b.val = t.val / 16) (hg : g.val = t.val % 16) (i : Fin 8192) (k : Fin 256) :
    iblk m c 0 t (ix4 (0 : Fin 1) (0 : Fin 1) i k) = m ((c : Thread nD τ).loc main_arg0) (ix4 b g i k) := by
  blk_ext [iblk, V, idx t]

theorem blk1 (c : Dev nD) (t : Fin cfg0.N) (b : Fin 2) (g : Fin 16) (hb : b.val = t.val / 16) (hg : g.val = t.val % 16) (k : Fin 256) (j : Fin 8192) :
    iblk m c 1 t (ix4 (0 : Fin 1) (0 : Fin 1) k j) = m ((c : Thread nD τ).loc main_arg1) (ix4 b g k j) := by
  blk_ext [iblk, V, idx t]

theorem blk2 (c : Dev nD) (t : Fin cfg0.N) (b : Fin 2) (g : Fin 16) (hb : b.val = t.val / 16) (hg : g.val = t.val % 16) (i : Fin 8192) (k : Fin 256) :
    iblk m c 2 t (ix4 (0 : Fin 1) (0 : Fin 1) i k) = m ((c : Thread nD τ).loc main_arg2) (ix4 b g i k) := by
  blk_ext [iblk, V, idx t]

theorem blk3 (t : Fin cfg0.N) (b : Fin 2) (hb : b.val = t.val / 16) (a : Fin 1) (i : Fin 8192) (k : Fin 128) (q : Fin 2048) (hq : q.val = t.val % 16 * 128 + k.val) :
    ((cfg0.win 3).blk t).view.emb (ix3 a i k) = ix3 b i q := by
  blk_ext [idx t]

/-- A product of a row of reals with a column of reals is a real. -/
theorem score_real (x0 : Vec Ideal S1x1x8192x256 .bf16) (x1 : Vec Ideal S1x1x256x8192 .bf16)
    (h0 : ∀ (i : Fin 8192) (k : Fin 256), ∃ r : ℝ, (show EReal from x0 (ix4 (0 : Fin 1) (0 : Fin 1) i k)) = (r : EReal))
    (h1 : ∀ (k : Fin 256) (j : Fin 8192), ∃ r : ℝ, (show EReal from x1 (ix4 (0 : Fin 1) (0 : Fin 1) k j)) = (r : EReal)) (n j : ℕ) :
    ∃ r : ℝ, score x0 x1 n j = (r : EReal) := by
  choose a ha using h0
  choose b hb using h1
  refine ⟨∑ k : Fin 256, a ⟨n % 8192, Nat.mod_lt _ (by decide)⟩ k * b k ⟨j % 8192, Nat.mod_lt _ (by decide)⟩, ?_⟩
  unfold score
  rw [← Rows.sum_real]
  refine Finset.sum_congr rfl fun k _ => ?_
  rw [ha, hb, ← EReal.coe_mul]

/-- The block of one sample and head: each element is the reference's. -/
theorem block_at (x0 : Vec Ideal S1x1x8192x256 .bf16) (x1 : Vec Ideal S1x1x256x8192 .bf16) (x2 : Vec Ideal S1x1x8192x256 .bf16)
    (X0 : FVec Ideal S2x16x8192x256 .bf16) (X1 : FVec Ideal S2x16x256x8192 .bf16) (X2 : FVec Ideal S2x16x8192x256 .bf16)
    (b : Fin 2) (g : Fin 16)
    (e0 : ∀ (i : Fin 8192) (k : Fin 256), x0 (ix4 (0 : Fin 1) (0 : Fin 1) i k) = X0 (ix4 b g i k))
    (e1 : ∀ (k : Fin 256) (j : Fin 8192), x1 (ix4 (0 : Fin 1) (0 : Fin 1) k j) = X1 (ix4 b g k j))
    (e2 : ∀ (j : Fin 8192) (k : Fin 256), x2 (ix4 (0 : Fin 1) (0 : Fin 1) j k) = X2 (ix4 b g j k))
    (h0 : ∀ i, ∃ r : ℝ, X0 i = (r : EReal)) (h1 : ∀ i, ∃ r : ℝ, X1 i = (r : EReal))
    (h2 : ∀ (b : Fin 2) (g : Fin 16) (j : Fin 8192) (c : Fin 128), X2 (ix4 b g j (⟨128 + c.val, by omega⟩ : Fin 256)) = (1 : EReal))
    (a : Fin 1) (i : Fin 8192) (k : Fin 128) (q : Fin 2048) (hq : q.val = g.val * 128 + k.val) :
    outAt x0 x1 x2 (ix3 a i k) = Cert.ReferenceIdeal.Read.val_main_v20 (F := Ideal) X0 X1 X2 (ix3 b i q) := by
  have hs := score_real x0 x1 (fun i k => by rw [e0]; exact h0 _) (fun k j => by rw [e1]; exact h1 _) i.val
  choose s hs using hs
  have hi : 512 * (i.val / 512) + i.val % 512 = i.val := Nat.div_add_mod _ _
  show half x0 x1 x2 (512 * (i.val / 512)) (ix3 (0 : Fin 1) (⟨i.val % 512, Nat.mod_lt _ (by decide)⟩ : Fin 512) k) = _
  rw [half_at x0 x1 x2 (512 * (i.val / 512)) ⟨i.val % 512, Nat.mod_lt _ (by decide)⟩ s (fun j => by rw [← hs j]; show score x0 x1 (512 * (i.val / 512) + i.val % 512) j = _; rw [hi]) k]
  refine (Cert.ReferenceIdeal.Soft.ref_at X0 X1 X2 b i q g (by omega) (⟨k.val, by omega⟩ : Fin 256) (by show k.val = _; omega) s (fun j => ?_) _ (fun j => ?_) _ (fun j => ?_)).symm
  · rw [← hs j.val]
    unfold score
    refine Finset.sum_congr rfl fun d _ => ?_
    have ei : (⟨i.val % 8192, Nat.mod_lt _ (by decide)⟩ : Fin 8192) = i := Fin.ext (Nat.mod_eq_of_lt i.isLt)
    have ej : (⟨j.val % 8192, Nat.mod_lt _ (by decide)⟩ : Fin 8192) = j := Fin.ext (Nat.mod_eq_of_lt j.isLt)
    rw [e0, e1, ei, ej]
  · unfold vcol
    rw [e2]
    exact congrArg X2 (congrArg (fun z => ix4 b g z (⟨k.val, by omega⟩ : Fin 256)) (Fin.ext (Nat.mod_eq_of_lt j.isLt).symm))
  · unfold vcol
    rw [e2]
    exact h2 _ _ _ _

/-- The result array is the reference's, of operands that meet the precondition. -/
theorem final (c : Dev nD) (h0 : ∀ i : S2x16x8192x256.Idx, ∃ r : ℝ, (show EReal from m ((c : Thread nD τ).loc main_arg0) i) = (r : EReal))
    (h1 : ∀ i : S2x16x256x8192.Idx, ∃ r : ℝ, (show EReal from m ((c : Thread nD τ).loc main_arg1) i) = (r : EReal))
    (h2 : ∀ (b : Fin 2) (g : Fin 16) (j : Fin 8192) (d : Fin 128), (show EReal from m ((c : Thread nD τ).loc main_arg2) (ix4 b g j (⟨128 + d.val, by omega⟩ : Fin 256))) = (1 : EReal)) :
    (dats m 0 c).arrAt 3 (cfgs 0).N
      = Cert.ReferenceIdeal.Read.val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨a, i, k, rfl⟩ : ∃ (a : Fin 1) (i : Fin 8192) (k : Fin 128), y = ix3 a i k := ⟨y 0, y 1, y 2, eq_ix3 y⟩
  have ht := (idx t).2.2.2.2
  refine (block_at (iblk m c 0 t) (iblk m c 1 t) (iblk m c 2 t) _ _ _ ⟨t.val / 16, ht⟩ ⟨t.val % 16, Nat.mod_lt _ (by decide)⟩
    (blk0 m c t _ _ rfl rfl) (blk1 m c t _ _ rfl rfl) (blk2 m c t _ _ rfl rfl) h0 h1 h2 a i k ⟨t.val % 16 * 128 + k.val, by omega⟩ rfl).trans ?_
  exact congrArg _ (blk3 t ⟨t.val / 16, ht⟩ rfl a i k _ rfl).symm

end Cert.KernelIdeal.Attn
end
-- ==== Proof.FfnUp.lean ====
/- The first product of the feed-forward part with its gated unit: the array that the launch leaves is the reference's. -/
module

public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit

@[expose] public section

set_option maxRecDepth 16384

noncomputable section

open Idealize.ShloMosaic Idealize.ShloMosaic.TcCoe Idealize.SL.Sem

namespace Cert.FfnUpRefIdeal.Swiglu
open Cert.FfnUpRefIdeal Cert.FfnUpRefIdeal.Gen Cert.FfnUpRefIdeal.Read

/-- The reference's product of a row with a column of the first weight. -/
theorem prod_at (X : FVec Ideal S16384x4096 .bf16) (W : FVec Ideal S2x4096x22016 .bf16) (r : Fin 16384) (q : Fin 22016) :
    val_main_v2 (F := Ideal) X W (ix2 r q) = ∑ k : Fin 4096, X (ix2 r k) * W (ix3 (0 : Fin 2) k q) := by
  pointwise [val_main_v2, val_main_v1, val_main_v0]

/-- The reference's element: the gated unit of a column of the first half and its partner in the second. -/
theorem ref_at (X : FVec Ideal S16384x4096 .bf16) (W : FVec Ideal S2x4096x22016 .bf16) (r : Fin 16384) (q : Fin 11008) :
    val_main_v7 (F := Ideal) X W (ix2 r q)
      = val_main_v2 (F := Ideal) X W (ix2 r (⟨q.val, by omega⟩ : Fin 22016)) * Ideal.logistic (val_main_v2 (F := Ideal) X W (ix2 r (⟨q.val, by omega⟩ : Fin 22016)))
        * val_main_v2 (F := Ideal) X W (ix2 r (⟨11008 + q.val, by omega⟩ : Fin 22016)) := by
  rw [Ideal.logistic]
  pointwise [val_main_v7, val_main_v6, val_main_v5, val_main_v4, val_main_v3, val_main_call0_v5, val_main_call0_v4, val_main_call0_v3, val_main_call0_v2, val_main_call0_v1, val_main_call0_v0, val_main_call0_cst, val_main_call0_cst_0]

end Cert.FfnUpRefIdeal.Swiglu

namespace Cert.FfnUpIdeal.Tiles
open Cert.FfnUpIdeal Cert.FfnUpIdeal.Gen
open Idealize.ShloMosaic.Pipeline (Dat)
variable (m : (ℓ : Loc nD τ sig) → Buf (Elt Ideal) ℓ)

theorem idx : ∀ t : Fin cfg0.N, win0_0.index t = ![t.val / 43, 0] ∧ win0_1.index t = ![0, 0, t.val % 43] ∧ win0_2.index t = ![0, 0, 43 + t.val % 43]
    ∧ win0_3.index t = ![t.val / 43, t.val % 43] ∧ t.val / 43 < 8 :=
  (by decide +kernel : ∀ t : Fin grid0.N, _)

/-- What a point stores, from the blocks that it loads. -/
theorem pay_at (x : Vec Ideal S2048x4096 .bf16) (g u : Vec Ideal S1x4096x256 .bf16) (r : Fin 2048) (q : Fin 256) :
    k0_pay1 (F := Ideal) x g u (ix2 r q)
      = (∑ k : Fin 4096, x (ix2 r k) * g (ix3 (0 : Fin 1) k q)) * Ideal.logistic (∑ k : Fin 4096, x (ix2 r k) * g (ix3 (0 : Fin 1) k q))
        * (∑ k : Fin 4096, x (ix2 r k) * u (ix3 (0 : Fin 1) k q)) := by
  pointwise [k0_pay1]

theorem rows (c : Dev nD) (t : Fin cfg0.N) (r : Fin 2048) (k : Fin 4096) (p : Fin 16384) (hp : p.val = t.val / 43 * 2048 + r.val) :
    iblk m c 0 t (ix2 r k) = m ((c : Thread nD τ).loc main_arg0) (ix2 p k) := by
  blk_ext [iblk, V, idx t]

theorem gates (c : Dev nD) (t : Fin cfg0.N) (k : Fin 4096) (q : Fin 256) (p : Fin 22016) (hp : p.val = t.val % 43 * 256 + q.val) :
    iblk m c 1 t (ix3 (0 : Fin 1) k q) = m ((c : Thread nD τ).loc main_arg1) (ix3 (0 : Fin 2) k p) := by
  blk_ext [iblk, V, idx t]

theorem ups (c : Dev nD) (t : Fin cfg0.N) (k : Fin 4096) (q : Fin 256) (p : Fin 22016) (hp : p.val = 11008 + (t.val % 43 * 256 + q.val)) :
    iblk m c 2 t (ix3 (0 : Fin 1) k q) = m ((c : Thread nD τ).loc main_arg1) (ix3 (0 : Fin 2) k p) := by
  blk_ext [iblk, V, idx t]

theorem place (t : Fin cfg0.N) (r : Fin 2048) (q : Fin 256) (p : Fin 16384) (hp : p.val = t.val / 43 * 2048 + r.val) (s : Fin 11008) (hs : s.val = t.val % 43 * 256 + q.val) :
    ((cfg0.win 3).blk t).view.emb (ix2 r q) = ix2 p s := by
  blk_ext [idx t]

/-- The result array is the reference's. -/
theorem final (c : Dev nD) : (dats m 0 c).arrAt 3 (cfgs 0).N
    = Cert.FfnUpRefIdeal.Read.val_main_v7 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  obtain ⟨r, q, rfl⟩ : ∃ (r : Fin 2048) (q : Fin 256), y = ix2 r q := ⟨y 0, y 1, eq_ix2 y⟩
  have ht := (idx t).2.2.2.2
  have hm := Nat.mod_lt t.val (show 43 > 0 by decide)
  refine (pay_at _ _ _ r q).trans ?_
  refine Eq.trans ?_ (congrArg _ (place t r q ⟨t.val / 43 * 2048 + r.val, by omega⟩ rfl ⟨t.val % 43 * 256 + q.val, by omega⟩ rfl).symm)
  refine Eq.trans ?_ (Cert.FfnUpRefIdeal.Swiglu.ref_at _ _ _ _).symm
  rw [Cert.FfnUpRefIdeal.Swiglu.prod_at, Cert.FfnUpRefIdeal.Swiglu.prod_at]
  have hg : (∑ k : Fin 4096, (show EReal from iblk m c 0 t (ix2 r k)) * (show EReal from iblk m c 1 t (ix3 (0 : Fin 1) k q))) = _ :=
    Finset.sum_congr rfl fun k _ => by rw [rows m c t r k ⟨t.val / 43 * 2048 + r.val, by omega⟩ rfl, gates m c t k q ⟨t.val % 43 * 256 + q.val, by omega⟩ rfl]
  have hu : (∑ k : Fin 4096, (show EReal from iblk m c 0 t (ix2 r k)) * (show EReal from iblk m c 2 t (ix3 (0 : Fin 1) k q))) = _ :=
    Finset.sum_congr rfl fun k _ => by rw [rows m c t r k ⟨t.val / 43 * 2048 + r.val, by omega⟩ rfl, ups m c t k q ⟨11008 + (t.val % 43 * 256 + q.val), by omega⟩ rfl]
  exact congrArg₂ (fun a b : EReal => a * Ideal.logistic a * b) hg hu

end Cert.FfnUpIdeal.Tiles
end
-- ==== Proof.FfnDown.lean ====
/- The second product of the feed-forward part, halved and added to the residual: the array that the launch leaves is the reference's. -/
module

public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pipeline.ValueKit

@[expose] public section

set_option maxRecDepth 16384

noncomputable section

open Idealize.ShloMosaic Idealize.ShloMosaic.TcCoe Idealize.SL.Sem

namespace Cert.FfnDownRefIdeal.Half
open Cert.FfnDownRefIdeal Cert.FfnDownRefIdeal.Gen Cert.FfnDownRefIdeal.Read

/-- The reference's product of a row with a column of the weight. -/
theorem prod_at (A : FVec Ideal S16384x11008 .bf16) (W : FVec Ideal S2x11008x4096 .bf16) (r : Fin 16384) (q : Fin 4096) :
    val_main_v2 (F := Ideal) A W (ix2 r q) = ∑ k : Fin 11008, A (ix2 r k) * W (ix3 (0 : Fin 2) k q) := by
  pointwise [val_main_v2, val_main_v1, val_main_v0]

/-- The reference's element. -/
theorem ref_at (A : FVec Ideal S16384x11008 .bf16) (W : FVec Ideal S2x11008x4096 .bf16) (X : FVec Ideal S16384x4096 .f32) (r : Fin 16384) (q : Fin 4096) :
    val_main_v5 (F := Ideal) A W X (ix2 r q) = X (ix2 r q) + Ideal.ofBits .f32 0x3F000000#32 * val_main_v2 (F := Ideal) A W (ix2 r q) := by
  pointwise [val_main_v5, val_main_v4, val_main_v3, val_main_cst]

end Cert.FfnDownRefIdeal.Half

namespace Cert.FfnDownIdeal.Tiles
open Cert.FfnDownIdeal Cert.FfnDownIdeal.Gen
open Idealize.ShloMosaic.Pipeline (Dat)
variable (m : (ℓ : Loc nD τ sig) → Buf (Elt Ideal) ℓ)

theorem idx : ∀ t : Fin cfg0.N, win0_0.index t = ![t.val / 16, 0] ∧ win0_1.index t = ![0, 0, t.val % 16] ∧ win0_2.index t = ![t.val / 16, t.val % 16]
    ∧ win0_3.index t = ![t.val / 16, t.val % 16] ∧ t.val / 16 < 16 :=
  (by decide +kernel : ∀ t : Fin grid0.N, _)

/-- What a point stores, from the blocks that it loads. -/
theorem pay_at (x : Vec Ideal S1024x256 .f32) (a : Vec Ideal S1024x11008 .bf16) (w : Vec Ideal S1x11008x256 .bf16) (r : Fin 1024) (q : Fin 256) :
    k0_pay1 (F := Ideal) x a w (ix2 r q) = x (ix2 r q) + Ideal.ofBits .f32 0x3F000000#32 * ∑ k : Fin 11008, a (ix2 r k) * w (ix3 (0 : Fin 1) k q) := by
  pointwise [k0_pay1]

theorem rows (c : Dev nD) (t : Fin cfg0.N) (r : Fin 1024) (k : Fin 11008) (p : Fin 16384) (hp : p.val = t.val / 16 * 1024 + r.val) :
    iblk m c 0 t (ix2 r k) = m ((c : Thread nD τ).loc main_arg0) (ix2 p k) := by
  blk_ext [iblk, V, idx t]

theorem cols (c : Dev nD) (t : Fin cfg0.N) (k : Fin 11008) (q : Fin 256) (s : Fin 4096) (hs : s.val = t.val % 16 * 256 + q.val) :
    iblk m c 1 t (ix3 (0 : Fin 1) k q) = m ((c : Thread nD τ).loc main_arg1) (ix3 (0 : Fin 2) k s) := by
  blk_ext [iblk, V, idx t]

theorem res (c : Dev nD) (t : Fin cfg0.N) (r : Fin 1024) (q : Fin 256) (p : Fin 16384) (hp : p.val = t.val / 16 * 1024 + r.val) (s : Fin 4096) (hs : s.val = t.val % 16 * 256 + q.val) :
    iblk m c 2 t (ix2 r q) = m ((c : Thread nD τ).loc main_arg2) (ix2 p s) := by
  blk_ext [iblk, V, idx t]

theorem place (t : Fin cfg0.N) (r : Fin 1024) (q : Fin 256) (p : Fin 16384) (hp : p.val = t.val / 16 * 1024 + r.val) (s : Fin 4096) (hs : s.val = t.val % 16 * 256 + q.val) :
    ((cfg0.win 3).blk t).view.emb (ix2 r q) = ix2 p s := by
  blk_ext [idx t]

/-- The result array is the reference's. -/
theorem final (c : Dev nD) : (dats m 0 c).arrAt 3 (cfgs 0).N
    = Cert.FfnDownRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, q, rfl⟩ : ∃ (r : Fin 1024) (q : Fin 256), y = ix2 r q := ⟨y 0, y 1, eq_ix2 y⟩
  have ht := (idx t).2.2.2.2
  have hm := Nat.mod_lt t.val (show 16 > 0 by decide)
  refine (pay_at _ _ _ r q).trans ?_
  refine Eq.trans ?_ (congrArg _ (place t r q ⟨t.val / 16 * 1024 + r.val, by omega⟩ rfl ⟨t.val % 16 * 256 + q.val, by omega⟩ rfl).symm)
  refine Eq.trans ?_ (Cert.FfnDownRefIdeal.Half.ref_at _ _ _ _ _).symm
  rw [Cert.FfnDownRefIdeal.Half.prod_at]
  have hp : (∑ k : Fin 11008, (show EReal from iblk m c 0 t (ix2 r k)) * (show EReal from iblk m c 1 t (ix3 (0 : Fin 1) k q))) = _ :=
    Finset.sum_congr rfl fun k _ => by rw [rows m c t r k ⟨t.val / 16 * 1024 + r.val, by omega⟩ rfl, cols m c t k q ⟨t.val % 16 * 256 + q.val, by omega⟩ rfl]
  exact congrArg₂ (fun a b : EReal => a + Ideal.ofBits .f32 0x3F000000#32 * b) (res m c t r q _ rfl _ rfl) hp

end Cert.FfnDownIdeal.Tiles
end
-- ==== Proof.Merge.lean ====
/- The merge of the three branches: each gated by a sigmoid and added up. The launch adds them one point after
   another in a scratch array and stores at the third; the array that it leaves is the reference's. -/
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem

namespace Cert.MergeRefIdeal.Branches
open Cert.MergeRefIdeal Cert.MergeRefIdeal.Gen Cert.MergeRefIdeal.Read

/-- The gate's product. -/
theorem gate_at (H : FVec Ideal S16384x4096 .bf16) (G : FVec Ideal S2x4096x12288 .bf16) (r : Fin 16384) (s : Fin 12288) :
    val_main_v6 (F := Ideal) H G (ix2 r s) = ∑ k : Fin 4096, H (ix2 r k) * G (ix3 (0 : Fin 2) k s) := by
  pointwise [val_main_v6, val_main_v5, val_main_v4]

/-- The branch's product. -/
theorem branch_at (Y : FVec Ideal S3x16384x2048 .bf16) (W : FVec Ideal S2x3x2048x4096 .bf16) (b : Fin 3) (r : Fin 16384) (q : Fin 4096) :
    val_main_v2 (F := Ideal) Y W (ix3 b q r) = ∑ k : Fin 2048, Y (ix3 b r k) * W (ix4 (0 : Fin 2) b k q) := by
  refine Eq.trans ?_ (Finset.sum_congr rfl fun k _ => mul_comm (show EReal from W (ix4 (0 : Fin 2) b k q)) (show EReal from Y (ix3 b r k)))
  pointwise [val_main_v2, val_main_v1, val_main_v0]

/-- One branch's gated element. -/
theorem term_at (H : FVec Ideal S16384x4096 .bf16) (Y : FVec Ideal S3x16384x2048 .bf16) (G : FVec Ideal S2x4096x12288 .bf16) (W : FVec Ideal S2x3x2048x4096 .bf16)
    (b : Fin 3) (r : Fin 16384) (q : Fin 4096) (s : Fin 12288) (hs : s.val = b.val * 4096 + q.val) :
    val_main_v14 (F := Ideal) H Y G W (ix3 r b q) = Ideal.logistic (val_main_v6 (F := Ideal) H G (ix2 r s)) * val_main_v2 (F := Ideal) Y W (ix3 b q r) := by
  rw [Ideal.logistic]
  have lt : b.val * 4096 + q.val < 12288 := by clear hs; have := q.isLt; have := b.isLt; omega
  obtain rfl : s = ⟨b.val * 4096 + q.val, lt⟩ := Fin.ext hs
  pointwise [val_main_v14, val_main_v13, val_main_v12, val_main_v11, val_main_v10, val_main_v9, val_main_v8, val_main_v7, val_main_v3, val_main_cst, val_main_cst_0]

/-- The reference's element: the three branches' sum. -/
theorem ref_at (H : FVec Ideal S16384x4096 .bf16) (Y : FVec Ideal S3x16384x2048 .bf16) (G : FVec Ideal S2x4096x12288 .bf16) (W : FVec Ideal S2x3x2048x4096 .bf16)
    (r : Fin 16384) (q : Fin 4096) :
    val_main_v16 (F := Ideal) H Y G W (ix2 r q) = ∑ b : Fin 3, val_main_v14 (F := Ideal) H Y G W (ix3 r b q) := by
  refine Eq.trans ?_ (zero_add (∑ b : Fin 3, (show EReal from val_main_v14 (F := Ideal) H Y G W (ix3 r b q))))
  pointwise [val_main_v16, val_main_v15, val_main_cst_1]

end Cert.MergeRefIdeal.Branches

namespace Cert.MergeIdeal.Tiles
open Cert.MergeIdeal Cert.MergeIdeal.Gen
open Idealize.ShloMosaic.Pipeline (Dat)
variable (m : (ℓ : Loc nD τ sig) → Buf (Elt Ideal) ℓ)

theorem idx : ∀ t : Fin cfg0.N, win0_0.index t = ![t.val / 24, 0] ∧ win0_1.index t = ![t.val % 3, t.val / 24, 0]
    ∧ win0_2.index t = ![0, 0, t.val % 3 * 8 + t.val / 3 % 8] ∧ win0_3.index t = ![0, t.val % 3, 0, t.val / 3 % 8]
    ∧ win0_4.index t = ![t.val / 24, t.val / 3 % 8] ∧ t.val / 24 < 16 :=
  (by decide +kernel : ∀ t : Fin grid0.N, _)

/-- One branch's part of a point's block, from the blocks that the point loads. -/
theorem part_at (h : Vec Ideal S1024x4096 .bf16) (g : Vec Ideal S1x4096x512 .bf16) (y : Vec Ideal S1x1024x2048 .bf16) (w : Vec Ideal S1x1x2048x512 .bf16)
    (r : Fin 1024) (q : Fin 512) :
    k0_pay1 (F := Ideal) h g y w (ix2 r q) = Ideal.logistic (∑ k : Fin 4096, h (ix2 r k) * g (ix3 (0 : Fin 1) k q))
      * ∑ k : Fin 2048, y (ix3 (0 : Fin 1) r k) * w (ix4 (0 : Fin 1) (0 : Fin 1) k q) := by
  pointwise [k0_pay1]

/-- The first point of a run stores its part. -/
theorem first_at (h : Vec Ideal S1024x4096 .bf16) (g : Vec Ideal S1x4096x512 .bf16) (y : Vec Ideal S1x1024x2048 .bf16) (w : Vec Ideal S1x1x2048x512 .bf16)
    (j : S1024x512.Idx) : k0_pay2 (F := Ideal) h g y w j = k0_pay1 (F := Ideal) h g y w j := by
  pointwise [k0_pay2]

/-- The second adds its part to what the first left. -/
theorem second_at (h : Vec Ideal S1024x4096 .bf16) (g : Vec Ideal S1x4096x512 .bf16) (y : Vec Ideal S1x1024x2048 .bf16) (w : Vec Ideal S1x1x2048x512 .bf16)
    (acc : Vec Ideal S1024x512 .f32) (j : S1024x512.Idx) : k0_pay3 (F := Ideal) h g y w acc j = acc j + k0_pay1 (F := Ideal) h g y w j := by
  pointwise [k0_pay3]

/-- The third adds its part and rounds. -/
theorem third_at (h : Vec Ideal S1024x4096 .bf16) (g : Vec Ideal S1x4096x512 .bf16) (y : Vec Ideal S1x1024x2048 .bf16) (w : Vec Ideal S1x1x2048x512 .bf16)
    (acc : Vec Ideal S1024x512 .f32) (j : S1024x512.Idx) : k0_pay4 (F := Ideal) h g y w acc j = acc j + k0_pay1 (F := Ideal) h g y w j := by
  pointwise [k0_pay4]

theorem rows (c : Dev nD) (t : Fin cfg0.N) (r : Fin 1024) (k : Fin 4096) (p : Fin 16384) (hp : p.val = t.val / 24 * 1024 + r.val) :
    iblk m c 0 t (ix2 r k) = m ((c : Thread nD τ).loc main_arg0) (ix2 p k) := by
  blk_ext [iblk, V, idx t]

theorem outs (c : Dev nD) (t : Fin cfg0.N) (r : Fin 1024) (k : Fin 2048) (b : Fin 3) (hb : b.val = t.val % 3) (p : Fin 16384) (hp : p.val = t.val / 24 * 1024 + r.val) :
    iblk m c 1 t (ix3 (0 : Fin 1) r k) = m ((c : Thread nD τ).loc main_arg1) (ix3 b p k) := by
  blk_ext [iblk, V, idx t]

theorem gates (c : Dev nD) (t : Fin cfg0.N) (k : Fin 4096) (q : Fin 512) (s : Fin 12288) (hs : s.val = (t.val % 3 * 8 + t.val / 3 % 8) * 512 + q.val) :
    iblk m c 2 t (ix3 (0 : Fin 1) k q) = m ((c : Thread nD τ).loc main_arg2) (ix3 (0 : Fin 2) k s) := by
  blk_ext [iblk, V, idx t]

theorem cols (c : Dev nD) (t : Fin cfg0.N) (k : Fin 2048) (q : Fin 512) (b : Fin 3) (hb : b.val = t.val % 3) (s : Fin 4096) (hs : s.val = t.val / 3 % 8 * 512 + q.val) :
    iblk m c 3 t (ix4 (0 : Fin 1) (0 : Fin 1) k q) = m ((c : Thread nD τ).loc main_arg3) (ix4 (0 : Fin 2) b k s) := by
  blk_ext [iblk, V, idx t]

theorem place (t : Fin cfg0.N) (r : Fin 1024) (q : Fin 512) (p : Fin 16384) (hp : p.val = t.val / 24 * 1024 + r.val) (s : Fin 4096) (hs : s.val = t.val / 3 % 8 * 512 + q.val) :
    ((cfg0.win 4).blk t).view.emb (ix2 r q) = ix2 p s := by
  blk_ext [idx t]

/-- A point's part is the reference's branch at the point's place. -/
theorem part (c : Dev nD) (t : Fin cfg0.N) (r : Fin 1024) (q : Fin 512) (b : Fin 3) (hb : b.val = t.val % 3)
    (p : Fin 16384) (hp : p.val = t.val / 24 * 1024 + r.val) (s : Fin 4096) (hs : s.val = t.val / 3 % 8 * 512 + q.val) :
    k0_pay1 (F := Ideal) (iblk m c 0 t) (iblk m c 2 t) (iblk m c 1 t) (iblk m c 3 t) (ix2 r q)
      = Cert.MergeRefIdeal.Read.val_main_v14 (F := Ideal) (m ((c : Thread nD τ).loc main_arg0)) (m ((c : Thread nD τ).loc main_arg1))
        (m ((c : Thread nD τ).loc main_arg2)) (m ((c : Thread nD τ).loc main_arg3)) (ix3 p b s) := by
  have hb3 := b.isLt
  have hs4 := s.isLt
  refine (part_at _ _ _ _ r q).trans ?_
  refine Eq.trans ?_ (Cert.MergeRefIdeal.Branches.term_at _ _ _ _ b p s ⟨b.val * 4096 + s.val, by omega⟩ rfl).symm
  rw [Cert.MergeRefIdeal.Branches.gate_at, Cert.MergeRefIdeal.Branches.branch_at]
  have hg : (∑ k : Fin 4096, (show EReal from iblk m c 0 t (ix2 r k)) * (show EReal from iblk m c 2 t (ix3 (0 : Fin 1) k q))) = _ :=
    Finset.sum_congr rfl fun k _ => by rw [rows m c t r k p hp, gates m c t k q ⟨b.val * 4096 + s.val, by omega⟩ (by show b.val * 4096 + s.val = _; omega)]
  have hy : (∑ k : Fin 2048, (show EReal from iblk m c 1 t (ix3 (0 : Fin 1) r k)) * (show EReal from iblk m c 3 t (ix4 (0 : Fin 1) (0 : Fin 1) k q))) = _ :=
    Finset.sum_congr rfl fun k _ => by rw [outs m c t r k b hb p hp, cols m c t k q b hb s hs]
  exact congrArg₂ (fun a b : EReal => Ideal.logistic a * b) hg hy

/-- The scratch array after a run's first point. -/
theorem scratch_first (c : Dev nD) (t : Fin cfg0.N) (h : t.val % 3 = 0) (j : S1024x512.Idx) :
    (outsAt0 m c t.val t.isLt).2 j = k0_pay1 (F := Ideal) (iblk m c 0 t) (iblk m c 2 t) (iblk m c 1 t) (iblk m c 3 t) j := by
  rw [outsAt0_A m c t h (by omega) (by omega)]
  frame_out
  exact first_at _ _ _ _ j

/-- The scratch array after a run's second point. -/
theorem scratch_second (c : Dev nD) (t : Fin cfg0.N) (h : t.val % 3 = 1) (j : S1024x512.Idx) :
    (outsAt0 m c t.val t.isLt).2 j = (show EReal from (outsAt0 m c (t.val - 1) (Nat.lt_of_le_of_lt (Nat.sub_le _ _) t.isLt)).2 j)
      + (show EReal from k0_pay1 (F := Ideal) (iblk m c 0 t) (iblk m c 2 t) (iblk m c 1 t) (iblk m c 3 t) j) := by
  rw [outsAt0_B m c t (by omega) h (by omega)]
  frame_out
  refine (second_at _ _ _ _ _ j).trans ?_
  exact congrArg (fun a : EReal => a + _) (congrFun ((Memref.isWhole_whole cc0_scratch0).read_unread (outsAt0 m c (t.val - 1) _).2) j)

/-- What a run's third point stores. -/
theorem stored (c : Dev nD) (t : Fin cfg0.N) (h : t.val % 3 = 2) (j : S1024x512.Idx) :
    (outsAt0 m c t.val t.isLt).1 j = (show EReal from (outsAt0 m c (t.val - 1) (Nat.lt_of_le_of_lt (Nat.sub_le _ _) t.isLt)).2 j)
      + (show EReal from k0_pay1 (F := Ideal) (iblk m c 0 t) (iblk m c 2 t) (iblk m c 1 t) (iblk m c 3 t) j) := by
  rw [outsAt0_C m c t (by omega) (by omega) h]
  frame_out
  refine (third_at _ _ _ _ _ j).trans ?_
  exact congrArg (fun a : EReal => a + _) (congrFun ((Memref.isWhole_whole cc0_scratch0).read_unread (outsAt0 m c (t.val - 1) _).2) j)

/-- The result array is the reference's. -/
theorem final (c : Dev nD) : (dats m 0 c).arrAt 4 (cfgs 0).N
    = Cert.MergeRefIdeal.Read.val_main_v16 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have h2 : t.val % 3 = 2 := (flush0_4 t).mp hf
  blk_simp
  rw [after0_4]
  obtain ⟨r, q, rfl⟩ : ∃ (r : Fin 1024) (q : Fin 512), y = ix2 r q := ⟨y 0, y 1, eq_ix2 y⟩
  have ht := (idx t).2.2.2.2.2
  have l1 : t.val - 1 < cfg0.N := Nat.lt_of_le_of_lt (Nat.sub_le _ _) t.isLt
  have l0 : t.val - 1 - 1 < cfg0.N := Nat.lt_of_le_of_lt (Nat.sub_le _ _) l1
  have hp : t.val / 24 * 1024 + r.val < 16384 := by omega
  have hs : t.val / 3 % 8 * 512 + q.val < 4096 := by omega
  refine (stored m c t h2 (ix2 r q)).trans ?_
  refine Eq.trans ?_ (congrArg _ (place t r q ⟨_, hp⟩ rfl ⟨_, hs⟩ rfl).symm)
  refine Eq.trans ?_ (Cert.MergeRefIdeal.Branches.ref_at _ _ _ _ _ _).symm
  rw [Fin.sum_univ_three]
  have e1 := scratch_second m c ⟨t.val - 1, l1⟩ (by show (t.val - 1) % 3 = 1; omega) (ix2 r q)
  have e0 := scratch_first m c ⟨t.val - 1 - 1, l0⟩ (by show (t.val - 1 - 1) % 3 = 0; omega) (ix2 r q)
  have p2 := part m c t r q 2 h2.symm ⟨_, hp⟩ rfl ⟨_, hs⟩ rfl
  have p1 := part m c ⟨t.val - 1, l1⟩ r q 1 (by show 1 = (t.val - 1) % 3; omega) ⟨_, hp⟩ (by show t.val / 24 * 1024 + r.val = (t.val - 1) / 24 * 1024 + r.val; omega)
    ⟨_, hs⟩ (by show t.val / 3 % 8 * 512 + q.val = (t.val - 1) / 3 % 8 * 512 + q.val; omega)
  have p0 := part m c ⟨t.val - 1 - 1, l0⟩ r q 0 (by show 0 = (t.val - 1 - 1) % 3; omega) ⟨_, hp⟩ (by show t.val / 24 * 1024 + r.val = (t.val - 1 - 1) / 24 * 1024 + r.val; omega)
    ⟨_, hs⟩ (by show t.val / 3 % 8 * 512 + q.val = (t.val - 1 - 1) / 3 % 8 * 512 + q.val; omega)
  exact congrArg₂ (fun a b : EReal => a + b) (e1.trans (congrArg₂ (fun a b : EReal => a + b) (e0.trans p0) p1)) p2

end Cert.MergeIdeal.Tiles
end
-- ==== Proof.OutProj.lean ====
/- The output projection, added to the residual: the array that the launch leaves is the reference's. -/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem

namespace Cert.OutProjRefIdeal.Out
open Cert.OutProjRefIdeal Cert.OutProjRefIdeal.Gen Cert.OutProjRefIdeal.Read

/-- The reference's product of a row with a column of the weight. -/
theorem prod_at (A : FVec Ideal S16384x4096 .bf16) (W : FVec Ideal S2x4096x4096 .bf16) (r : Fin 16384) (q : Fin 4096) :
    val_main_v2 (F := Ideal) A W (ix2 r q) = ∑ k : Fin 4096, A (ix2 r k) * W (ix3 (0 : Fin 2) k q) := by
  pointwise [val_main_v2, val_main_v1, val_main_v0]

/-- The reference's element. -/
theorem ref_at (A : FVec Ideal S16384x4096 .bf16) (W : FVec Ideal S2x4096x4096 .bf16) (X : FVec Ideal S16384x4096 .f32) (r : Fin 16384) (q : Fin 4096) :
    val_main_v3 (F := Ideal) A W X (ix2 r q) = X (ix2 r q) + val_main_v2 (F := Ideal) A W (ix2 r q) := by
  pointwise [val_main_v3]

end Cert.OutProjRefIdeal.Out

namespace Cert.OutProjIdeal.Tiles
open Cert.OutProjIdeal Cert.OutProjIdeal.Gen
open Idealize.ShloMosaic.Pipeline (Dat)
variable (m : (ℓ : Loc nD τ sig) → Buf (Elt Ideal) ℓ)

theorem idx : ∀ t : Fin cfg0.N, win0_0.index t = ![t.val / 8, 0] ∧ win0_1.index t = ![0, 0, t.val % 8] ∧ win0_2.index t = ![t.val / 8, t.val % 8]
    ∧ win0_3.index t = ![t.val / 8, t.val % 8] ∧ t.val / 8 < 16 :=
  (by decide +kernel : ∀ t : Fin grid0.N, _)

/-- What a point stores, from the blocks that it loads. -/
theorem pay_at (x : Vec Ideal S1024x512 .f32) (a : Vec Ideal S1024x4096 .bf16) (w : Vec Ideal S1x4096x512 .bf16) (r : Fin 1024) (q : Fin 512) :
    k0_pay1 (F := Ideal) x a w (ix2 r q) = x (ix2 r q) + ∑ k : Fin 4096, a (ix2 r k) * w (ix3 (0 : Fin 1) k q) := by
  pointwise [k0_pay1]
  first | done | rw [one_mul]

theorem rows (c : Dev nD) (t : Fin cfg0.N) (r : Fin 1024) (k : Fin 4096) (p : Fin 16384) (hp : p.val = t.val / 8 * 1024 + r.val) :
    iblk m c 0 t (ix2 r k) = m ((c : Thread nD τ).loc main_arg0) (ix2 p k) := by
  blk_ext [iblk, V, idx t]

theorem cols (c : Dev nD) (t : Fin cfg0.N) (k : Fin 4096) (q : Fin 512) (s : Fin 4096) (hs : s.val = t.val % 8 * 512 + q.val) :
    iblk m c 1 t (ix3 (0 : Fin 1) k q) = m ((c : Thread nD τ).loc main_arg1) (ix3 (0 : Fin 2) k s) := by
  blk_ext [iblk, V, idx t]

theorem res (c : Dev nD) (t : Fin cfg0.N) (r : Fin 1024) (q : Fin 512) (p : Fin 16384) (hp : p.val = t.val / 8 * 1024 + r.val) (s : Fin 4096) (hs : s.val = t.val % 8 * 512 + q.val) :
    iblk m c 2 t (ix2 r q) = m ((c : Thread nD τ).loc main_arg2) (ix2 p s) := by
  blk_ext [iblk, V, idx t]

theorem place (t : Fin cfg0.N) (r : Fin 1024) (q : Fin 512) (p : Fin 16384) (hp : p.val = t.val / 8 * 1024 + r.val) (s : Fin 4096) (hs : s.val = t.val % 8 * 512 + q.val) :
    ((cfg0.win 3).blk t).view.emb (ix2 r q) = ix2 p s := by
  blk_ext [idx t]

/-- The result array is the reference's. -/
theorem final (c : Dev nD) : (dats m 0 c).arrAt 3 (cfgs 0).N
    = Cert.OutProjRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, q, rfl⟩ : ∃ (r : Fin 1024) (q : Fin 512), y = ix2 r q := ⟨y 0, y 1, eq_ix2 y⟩
  have ht := (idx t).2.2.2.2
  have hm := Nat.mod_lt t.val (show 8 > 0 by decide)
  refine (pay_at _ _ _ r q).trans ?_
  refine Eq.trans ?_ (congrArg _ (place t r q ⟨t.val / 8 * 1024 + r.val, by omega⟩ rfl ⟨t.val % 8 * 512 + q.val, by omega⟩ rfl).symm)
  refine Eq.trans ?_ (Cert.OutProjRefIdeal.Out.ref_at _ _ _ _ _).symm
  rw [Cert.OutProjRefIdeal.Out.prod_at]
  have hp : (∑ k : Fin 4096, (show EReal from iblk m c 0 t (ix2 r k)) * (show EReal from iblk m c 1 t (ix3 (0 : Fin 1) k q))) = _ :=
    Finset.sum_congr rfl fun k _ => by rw [rows m c t r k ⟨t.val / 8 * 1024 + r.val, by omega⟩ rfl, cols m c t k q ⟨t.val % 8 * 512 + q.val, by omega⟩ rfl]
  exact congrArg₂ (fun a b : EReal => a + b) (res m c t r q _ rfl _ rfl) hp

end Cert.OutProjIdeal.Tiles
end
-- ==== Proof.ProjA.lean ====
/- The first 4096 columns of the input projection, with their activation: the array that the launch leaves is the reference's. -/
module

public import proofs.«01_k».proof.Proof.Gen.ProjAIdeal.Value
public import proofs.«01_k».proof.Proof.Gen.ProjARefIdeal.Run
public import proofs.«01_k».proof.Proof.Gen.ProjARefIdeal.Read
public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.SL.Sem

namespace Cert.ProjARefIdeal.Cols
open Cert.ProjARefIdeal Cert.ProjARefIdeal.Gen Cert.ProjARefIdeal.Read

/-- The activation that is applied to the product's elements. -/
def gelu (y : EReal) : EReal := (Ideal.ofBits .f32 0x3F000000#32 * y) * (1 + Ideal.erf (y * Ideal.ofBits .f32 0x3F3504F3#32))

/-- The reference's product of a row with a column of the weight, before the columns are cut out. -/
theorem prod_at (X : FVec Ideal S16384x4096 .bf16) (W : FVec Ideal S2x4096x13952 .bf16) (r : Fin 16384) (q : Fin 13952) :
    val_main_v2 (F := Ideal) X W (ix2 r q) = ∑ k : Fin 4096, X (ix2 r k) * W (ix3 (0 : Fin 2) k q) := by
  pointwise [val_main_v2, val_main_v1, val_main_v0]

/-- The reference's element. -/
theorem ref_at (X : FVec Ideal S16384x4096 .bf16) (W : FVec Ideal S2x4096x13952 .bf16) (r : Fin 16384) (q : Fin 4096) (s : Fin 13952) (hs : s.val = q.val) :
    val_main_v10 (F := Ideal) X W (ix2 r q) = gelu (val_main_v2 (F := Ideal) X W (ix2 r s)) := by
  have lt : q.val < 13952 := by clear hs; have := q.isLt; omega
  obtain rfl : s = ⟨q.val, lt⟩ := Fin.ext hs
  unfold gelu
  rw [← Ideal.erfc_neg, ← neg_mul]
  pointwise [val_main_v10, val_main_v9, val_main_v8, val_main_v7, val_main_v6, val_main_cst_0, val_main_v5, val_main_v4, val_main_cst, val_main_v3]

end Cert.ProjARefIdeal.Cols

namespace Cert.ProjAIdeal.Tiles
open Cert.ProjAIdeal Cert.ProjAIdeal.Gen
open Idealize.ShloMosaic.Pipeline (Dat)
variable (m : (ℓ : Loc nD τ sig) → Buf (Elt Ideal) ℓ)

theorem idx : ∀ t : Fin cfg0.N, win0_0.index t = ![t.val / 4, 0] ∧ win0_1.index t = ![0, 0, t.val % 4]
    ∧ win0_2.index t = ![t.val / 4, t.val % 4] ∧ t.val / 4 < 16 :=
  (by decide +kernel : ∀ t : Fin grid0.N, _)

/-- What a point stores, from the blocks that it loads. -/
theorem pay_at (x : Vec Ideal S1024x4096 .bf16) (w : Vec Ideal S1x4096x1024 .bf16) (r : Fin 1024) (q : Fin 1024) :
    k0_pay1 (F := Ideal) x w (ix2 r q) = Cert.ProjARefIdeal.Cols.gelu (∑ k : Fin 4096, x (ix2 r k) * w (ix3 (0 : Fin 1) k q)) := by
  pointwise [k0_pay1, Cert.ProjARefIdeal.Cols.gelu]
  first | done | rfl

theorem rows (c : Dev nD) (t : Fin cfg0.N) (r : Fin 1024) (k : Fin 4096) (p : Fin 16384) (hp : p.val = t.val / 4 * 1024 + r.val) :
    iblk m c 0 t (ix2 r k) = m ((c : Thread nD τ).loc main_arg0) (ix2 p k) := by
  blk_ext [iblk, V, idx t]

/-- The weight's block at a point: no point's block reaches over the array's end, so every element is the array's. -/
theorem cols (c : Dev nD) (t : Fin cfg0.N) (k : Fin 4096) (q : Fin 1024) (s : Fin 13952) (hs : s.val = (t.val % 4) * 1024 + q.val) :
    X0_1 m c t (ix3 (0 : Fin 1) k q) = m ((c : Thread nD τ).loc main_arg1) (ix3 (0 : Fin 2) k s) := by
  unfold X0_1 Pipeline.Window.fill
  rw [dif_pos (moved0_1 t _)]
  blk_ext [iblk, V, idx t]

theorem place (t : Fin cfg0.N) (r : Fin 1024) (q : Fin 1024) (p : Fin 16384) (hp : p.val = t.val / 4 * 1024 + r.val) (s : Fin 4096) (hs : s.val = t.val % 4 * 1024 + q.val) :
    ((cfg0.win 2).blk t).view.emb (ix2 r q) = ix2 p s := by
  blk_ext [idx t]

/-- The result array is the reference's. -/
theorem final (c : Dev nD) : (dats m 0 c).arrAt 2 (cfgs 0).N
    = Cert.ProjARefIdeal.Read.val_main_v10 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  obtain ⟨r, q, rfl⟩ : ∃ (r : Fin 1024) (q : Fin 1024), y = ix2 r q := ⟨y 0, y 1, eq_ix2 y⟩
  have ht := (idx t).2.2.2
  have hm := Nat.mod_lt t.val (show 4 > 0 by decide)
  refine (pay_at _ _ r q).trans ?_
  refine Eq.trans ?_ (congrArg _ (place t r q ⟨t.val / 4 * 1024 + r.val, by omega⟩ rfl ⟨t.val % 4 * 1024 + q.val, by omega⟩ rfl).symm)
  refine Eq.trans ?_ (Cert.ProjARefIdeal.Cols.ref_at _ _ _ _ ⟨(t.val % 4) * 1024 + q.val, by omega⟩ (by show (t.val % 4) * 1024 + q.val = (t.val % 4 * 1024 + q.val); omega)).symm
  rw [Cert.ProjARefIdeal.Cols.prod_at]
  have hp : (∑ k : Fin 4096, (show EReal from iblk m c 0 t (ix2 r k)) * (show EReal from X0_1 m c t (ix3 (0 : Fin 1) k q))) = _ :=
    Finset.sum_congr rfl fun k _ => by rw [rows m c t r k ⟨t.val / 4 * 1024 + r.val, by omega⟩ rfl, cols m c t k q ⟨(t.val % 4) * 1024 + q.val, by omega⟩ rfl]
  exact congrArg Cert.ProjARefIdeal.Cols.gelu hp

end Cert.ProjAIdeal.Tiles
end
-- ==== Proof.ProjB.lean ====
/- Columns 4096 to 12287 of the input projection: the array that the launch leaves is the reference's. -/
module

public import proofs.«01_k».proof.Proof.Gen.ProjBIdeal.Value
public import proofs.«01_k».proof.Proof.Gen.ProjBRefIdeal.Run
public import proofs.«01_k».proof.Proof.Gen.ProjBRefIdeal.Read
public import Idealize.ShloMosaic.Lib.Pipeline.ValueKit

@[expose] public section

set_option maxRecDepth 16384

noncomputable section

open Idealize.ShloMosaic Idealize.ShloMosaic.TcCoe Idealize.SL.Sem

namespace Cert.ProjBRefIdeal.Cols
open Cert.ProjBRefIdeal Cert.ProjBRefIdeal.Gen Cert.ProjBRefIdeal.Read

/-- The reference's product of a row with a column of the weight, before the columns are cut out. -/
theorem prod_at (X : FVec Ideal S16384x4096 .bf16) (W : FVec Ideal S2x4096x13952 .bf16) (r : Fin 16384) (q : Fin 13952) :
    val_main_v2 (F := Ideal) X W (ix2 r q) = ∑ k : Fin 4096, X (ix2 r k) * W (ix3 (0 : Fin 2) k q) := by
  pointwise [val_main_v2, val_main_v1, val_main_v0]

/-- The reference's element. -/
theorem ref_at (X : FVec Ideal S16384x4096 .bf16) (W : FVec Ideal S2x4096x13952 .bf16) (r : Fin 16384) (q : Fin 8192) (s : Fin 13952) (hs : s.val = 4096 + q.val) :
    val_main_v3 (F := Ideal) X W (ix2 r q) = val_main_v2 (F := Ideal) X W (ix2 r s) := by
  have lt : 4096 + q.val < 13952 := by clear hs; have := q.isLt; omega
  obtain rfl : s = ⟨4096 + q.val, lt⟩ := Fin.ext hs
  pointwise [val_main_v3]

end Cert.ProjBRefIdeal.Cols

namespace Cert.ProjBIdeal.Tiles
open Cert.ProjBIdeal Cert.ProjBIdeal.Gen
open Idealize.ShloMosaic.Pipeline (Dat)
variable (m : (ℓ : Loc nD τ sig) → Buf (Elt Ideal) ℓ)

theorem idx : ∀ t : Fin cfg0.N, win0_0.index t = ![t.val / 8, 0] ∧ win0_1.index t = ![0, 0, 4 + t.val % 8]
    ∧ win0_2.index t = ![t.val / 8, t.val % 8] ∧ t.val / 8 < 16 :=
  (by decide +kernel : ∀ t : Fin grid0.N, _)

/-- What a point stores, from the blocks that it loads. -/
theorem pay_at (x : Vec Ideal S1024x4096 .bf16) (w : Vec Ideal S1x4096x1024 .bf16) (r : Fin 1024) (q : Fin 1024) :
    k0_pay1 (F := Ideal) x w (ix2 r q) = ∑ k : Fin 4096, x (ix2 r k) * w (ix3 (0 : Fin 1) k q) := by
  pointwise [k0_pay1]

theorem rows (c : Dev nD) (t : Fin cfg0.N) (r : Fin 1024) (k : Fin 4096) (p : Fin 16384) (hp : p.val = t.val / 8 * 1024 + r.val) :
    iblk m c 0 t (ix2 r k) = m ((c : Thread nD τ).loc main_arg0) (ix2 p k) := by
  blk_ext [iblk, V, idx t]

/-- The weight's block at a point: no point's block reaches over the array's end, so every element is the array's. -/
theorem cols (c : Dev nD) (t : Fin cfg0.N) (k : Fin 4096) (q : Fin 1024) (s : Fin 13952) (hs : s.val = (4 + t.val % 8) * 1024 + q.val) :
    X0_1 m c t (ix3 (0 : Fin 1) k q) = m ((c : Thread nD τ).loc main_arg1) (ix3 (0 : Fin 2) k s) := by
  unfold X0_1 Pipeline.Window.fill
  rw [dif_pos (moved0_1 t _)]
  blk_ext [iblk, V, idx t]

theorem place (t : Fin cfg0.N) (r : Fin 1024) (q : Fin 1024) (p : Fin 16384) (hp : p.val = t.val / 8 * 1024 + r.val) (s : Fin 8192) (hs : s.val = t.val % 8 * 1024 + q.val) :
    ((cfg0.win 2).blk t).view.emb (ix2 r q) = ix2 p s := by
  blk_ext [idx t]

/-- The result array is the reference's. -/
theorem final (c : Dev nD) : (dats m 0 c).arrAt 2 (cfgs 0).N
    = Cert.ProjBRefIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  obtain ⟨r, q, rfl⟩ : ∃ (r : Fin 1024) (q : Fin 1024), y = ix2 r q := ⟨y 0, y 1, eq_ix2 y⟩
  have ht := (idx t).2.2.2
  have hm := Nat.mod_lt t.val (show 8 > 0 by decide)
  refine (pay_at _ _ r q).trans ?_
  refine Eq.trans ?_ (congrArg _ (place t r q ⟨t.val / 8 * 1024 + r.val, by omega⟩ rfl ⟨t.val % 8 * 1024 + q.val, by omega⟩ rfl).symm)
  refine Eq.trans ?_ (Cert.ProjBRefIdeal.Cols.ref_at _ _ _ _ ⟨(4 + t.val % 8) * 1024 + q.val, by omega⟩ (by show (4 + t.val % 8) * 1024 + q.val = 4096 + (t.val % 8 * 1024 + q.val); omega)).symm
  rw [Cert.ProjBRefIdeal.Cols.prod_at]
  have hp : (∑ k : Fin 4096, (show EReal from iblk m c 0 t (ix2 r k)) * (show EReal from X0_1 m c t (ix3 (0 : Fin 1) k q))) = _ :=
    Finset.sum_congr rfl fun k _ => by rw [rows m c t r k ⟨t.val / 8 * 1024 + r.val, by omega⟩ rfl, cols m c t k q ⟨(4 + t.val % 8) * 1024 + q.val, by omega⟩ rfl]
  exact hp

end Cert.ProjBIdeal.Tiles
end
-- ==== Proof.FinalNorm.lean ====
/- The last norm of the model: the array that the launch leaves is the reference's. -/
module

public import proofs.«01_k».proof.Proof.Gen.FinalNormIdeal.Value
public import proofs.«01_k».proof.Proof.Gen.FinalNormRefIdeal.Run
public import proofs.«01_k».proof.Proof.Gen.FinalNormRefIdeal.Read
public import Idealize.ShloMosaic.Lib.Pipeline.ValueKit

@[expose] public section

set_option maxRecDepth 16384

noncomputable section

open Idealize.ShloMosaic Idealize.ShloMosaic.TcCoe Idealize.SL.Sem

namespace Cert.FinalNormIdeal.Tiles
open Cert.FinalNormIdeal Cert.FinalNormIdeal.Gen
open Cert.FinalNormRefIdeal.Read
open Idealize.ShloMosaic.Pipeline (Dat)
variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The result array is the reference's. -/
theorem final (c : Dev nD) : (dats m 0 c).arrAt 2 (cfgs 0).N
    = Cert.FinalNormRefIdeal.Read.val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.FinalNormIdeal.Tiles
end
-- ==== Proof.Norm.lean ====
/- The norm before a feed-forward part or the mixers: the array that the launch leaves is the reference's. -/
module

public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit

@[expose] public section

set_option maxRecDepth 16384

noncomputable section

open Idealize.ShloMosaic Idealize.ShloMosaic.TcCoe Idealize.SL.Sem

namespace Cert.NormIdeal.Tiles
open Cert.NormIdeal Cert.NormIdeal.Gen
open Cert.NormRefIdeal.Read
open Idealize.ShloMosaic.Pipeline (Dat)
variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The result array is the reference's. -/
theorem final (c : Dev nD) : (dats m 0 c).arrAt 2 (cfgs 0).N
    = Cert.NormRefIdeal.Read.val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.NormIdeal.Tiles
end
-- ==== Proof.ProjDq.lean ====
/- The query latents: the array that the launch leaves is the reference's. -/
module

public import proofs.«01_k».proof.Proof.Gen.ProjDqIdeal.Value
public import proofs.«01_k».proof.Proof.Gen.ProjDqRefIdeal.Run
public import proofs.«01_k».proof.Proof.Gen.ProjDqRefIdeal.Read
public import Idealize.ShloMosaic.Lib.Pipeline.ValueKit

@[expose] public section

set_option maxRecDepth 16384

noncomputable section

open Idealize.ShloMosaic Idealize.ShloMosaic.TcCoe Idealize.SL.Sem

namespace Cert.ProjDqIdeal.Tiles
open Cert.ProjDqIdeal Cert.ProjDqIdeal.Gen
open Cert.ProjDqRefIdeal.Read
open Idealize.ShloMosaic.Pipeline (Dat)
variable (m : (ℓ : Loc nD τ sig) → Buf (Elt Ideal) ℓ)

theorem idx : ∀ t : Fin cfg0.N, win0_0.index t = ![t.val, 0] ∧ win0_1.index t = ![0, 0, 0] ∧ win0_2.index t = ![t.val, 0] :=
  (by decide +kernel : ∀ t : Fin grid0.N, _)

/-- The result array is the reference's. -/
theorem final (c : Dev nD) : (dats m 0 c).arrAt 2 (cfgs 0).N
    = Cert.ProjDqRefIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v2, val_main_v1, val_main_v0]
  blk_point [iblk, V, idx t]

end Cert.ProjDqIdeal.Tiles
end
-- ==== Proof.ProjDkv.lean ====
/- The latents of the keys and values, the rotary key and the gates: the array that the launch leaves is the reference's. -/
module

public import proofs.«01_k».proof.Proof.Gen.ProjDkvIdeal.Value
public import proofs.«01_k».proof.Proof.Gen.ProjDkvRefIdeal.Run
public import proofs.«01_k».proof.Proof.Gen.ProjDkvRefIdeal.Read
public import Idealize.ShloMosaic.Lib.Pipeline.ValueKit

@[expose] public section

set_option maxRecDepth 16384

noncomputable section

open Idealize.ShloMosaic Idealize.ShloMosaic.TcCoe Idealize.SL.Sem

namespace Cert.ProjDkvIdeal.Tiles
open Cert.ProjDkvIdeal Cert.ProjDkvIdeal.Gen
open Cert.ProjDkvRefIdeal.Read
open Idealize.ShloMosaic.Pipeline (Dat)
variable (m : (ℓ : Loc nD τ sig) → Buf (Elt Ideal) ℓ)

theorem idx : ∀ t : Fin cfg0.N, win0_0.index t = ![t.val, 0] ∧ win0_1.index t = ![0, 0, 0] ∧ win0_2.index t = ![t.val, 0] :=
  (by decide +kernel : ∀ t : Fin grid0.N, _)

/-- The result array is the reference's. -/
theorem final (c : Dev nD) : (dats m 0 c).arrAt 2 (cfgs 0).N
    = Cert.ProjDkvRefIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v2, val_main_v1, val_main_v0]
  blk_point [iblk, V, idx t]

end Cert.ProjDkvIdeal.Tiles
end
-- ==== Proof.GdnOut.lean ====
/- The output of mixer B: the array that the launch leaves is the reference's. -/
module

public import proofs.«01_k».proof.Proof.Gen.GdnOutIdeal.Value
public import proofs.«01_k».proof.Proof.Gen.GdnOutRefIdeal.Run
public import proofs.«01_k».proof.Proof.Gen.GdnOutRefIdeal.Read
public import Idealize.ShloMosaic.Lib.Pipeline.ValueKit

@[expose] public section

set_option maxRecDepth 16384

noncomputable section

open Idealize.ShloMosaic Idealize.ShloMosaic.TcCoe Idealize.SL.Sem

namespace Cert.GdnOutIdeal.Tiles
open Cert.GdnOutIdeal Cert.GdnOutIdeal.Gen
open Cert.GdnOutRefIdeal.Read
open Idealize.ShloMosaic.Pipeline (Dat)
variable (m : (ℓ : Loc nD τ sig) → Buf (Elt Ideal) ℓ)

theorem idx : ∀ t : Fin cfg0.N, win0_0.index t = ![t.val, 0] ∧ win0_1.index t = ![t.val, 0] ∧ win0_2.index t = ![t.val, 3] ∧ win0_3.index t = ![0, 0]
    ∧ win0_4.index t = ![t.val, 0] :=
  (by decide +kernel : ∀ t : Fin grid0.N, _)

/-- The element that a point stores in row `r`, head `h`, column `d`, from the blocks that it loads. -/
def cell (x0 x1 x2 : Vec Ideal S512x2048 .f32) (x3 : Vec Ideal S1x128 .f32) (r : Fin 512) (h : Fin 16) (d : Fin 128) : EReal :=
  have s : Fin 128 → EReal := fun k => x0 (ix2 r (⟨h.val * 128 + k.val, by omega⟩ : Fin 2048)) + x1 (ix2 r (⟨h.val * 128 + k.val, by omega⟩ : Fin 2048))
  have z : EReal := x2 (ix2 r (⟨h.val * 128 + d.val, by omega⟩ : Fin 2048))
  s d * Ideal.rsqrt (Ideal.div (∑ k : Fin 128, s k * s k) (Ideal.ofBits .f32 0x43000000#32) + Ideal.ofBits .f32 0x358637BD#32)
    * x3 (ix2 (0 : Fin 1) d) * (z * Ideal.logistic z)

/-- Every tile store of a point is the same formula of its head. -/
theorem tiles (x0 x1 x2 : Vec Ideal S512x2048 .f32) (x3 : Vec Ideal S1x128 .f32) (y : S512x2048.Idx) (r : Fin 512) (h : Fin 16) (d : Fin 128)
    (hr : r.val = (y 0).val) (hh : h.val = (y 1).val / 128) (hd : d.val = (y 1).val % 128) :
    out0_4 (F := Ideal) x0 x1 x2 x3 y = cell x0 x1 x2 x3 r h d := by
  canon_tiles x g
  all_goals
    open_payloads
    unfold cell
    pointwise
    blk_point []

/-- The result array is the reference's. -/
theorem final (c : Dev nD) : (dats m 0 c).arrAt 4 (cfgs 0).N
    = Cert.GdnOutRefIdeal.Read.val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, q, rfl⟩ : ∃ (r : Fin 512) (q : Fin 2048), y = ix2 r q := ⟨y 0, y 1, eq_ix2 y⟩
  refine (tiles _ _ _ _ (ix2 r q) r ⟨q.val / 128, by omega⟩ ⟨q.val % 128, by omega⟩ rfl rfl rfl).trans ?_
  simp only [cell]
  rw [Ideal.logistic]
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v5, val_main_call0_v4, val_main_call0_v3, val_main_call0_v2, val_main_call0_v1, val_main_call0_v0, val_main_call0_cst, val_main_call0_cst_0]
  blk_point [iblk, V, idx t]

end Cert.GdnOutIdeal.Tiles
end
-- ==== Proof.QProj.lean ====
/- The queries: the array that the launch leaves is the reference's. -/
module

public import proofs.«01_k».proof.Proof.Gen.QProjIdeal.Value
public import proofs.«01_k».proof.Proof.Gen.QProjRefIdeal.Run
public import proofs.«01_k».proof.Proof.Gen.QProjRefIdeal.Read
public import Idealize.ShloMosaic.Lib.Pipeline.ValueKit

@[expose] public section

set_option maxRecDepth 16384

noncomputable section

open Idealize.ShloMosaic Idealize.ShloMosaic.TcCoe Idealize.SL.Sem

namespace Cert.QProjRefIdeal.Turn
open Cert.QProjRefIdeal Cert.QProjRefIdeal.Gen Cert.QProjRefIdeal.Read

/-- A column without a rotary position: the product, scaled. -/
theorem ref_nope (X0 : FVec Ideal S16384x1024 .f32) (X1 : FVec Ideal S1024 .f32) (X2 : FVec Ideal S2x1024x4096 .bf16) (X3 X4 : FVec Ideal S16384x128 .f32) (b : Fin 2) (h : Fin 16) (s : Fin 8192) (c : Fin 128) :
    val_main_v46 (F := Ideal) X0 X1 X2 X3 X4 (ix4 b h s (⟨c.val, by omega⟩ : Fin 256))
      = val_main_v16 (F := Ideal) X0 X1 X2 (ix2 (⟨b.val * 8192 + s.val, by omega⟩ : Fin 16384) (⟨h.val * 256 + c.val, by omega⟩ : Fin 4096)) * Ideal.ofBits .f32 0x3DD53B95#32 := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_cst_3]

/-- A column of the first rotary half. -/
theorem ref_lo (X0 : FVec Ideal S16384x1024 .f32) (X1 : FVec Ideal S1024 .f32) (X2 : FVec Ideal S2x1024x4096 .bf16) (X3 X4 : FVec Ideal S16384x128 .f32) (b : Fin 2) (h : Fin 16) (s : Fin 8192) (c : Fin 32) :
    val_main_v46 (F := Ideal) X0 X1 X2 X3 X4 (ix4 b h s (⟨128 + c.val, by omega⟩ : Fin 256))
      = (val_main_v16 (F := Ideal) X0 X1 X2 (ix2 (⟨b.val * 8192 + s.val, by omega⟩ : Fin 16384) (⟨h.val * 256 + (128 + c.val), by omega⟩ : Fin 4096)) * X3 (ix2 (⟨b.val * 8192 + s.val, by omega⟩ : Fin 16384) (⟨c.val, by omega⟩ : Fin 128)) - val_main_v16 (F := Ideal) X0 X1 X2 (ix2 (⟨b.val * 8192 + s.val, by omega⟩ : Fin 16384) (⟨h.val * 256 + (160 + c.val), by omega⟩ : Fin 4096)) * X4 (ix2 (⟨b.val * 8192 + s.val, by omega⟩ : Fin 16384) (⟨c.val, by omega⟩ : Fin 128))) * Ideal.ofBits .f32 0x3DD53B95#32 := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_cst_3]
  rw [dif_pos (show c.val < 64 by omega)]
  blk_point []

/-- A column of the second rotary half. -/
theorem ref_hi (X0 : FVec Ideal S16384x1024 .f32) (X1 : FVec Ideal S1024 .f32) (X2 : FVec Ideal S2x1024x4096 .bf16) (X3 X4 : FVec Ideal S16384x128 .f32) (b : Fin 2) (h : Fin 16) (s : Fin 8192) (c : Fin 32) :
    val_main_v46 (F := Ideal) X0 X1 X2 X3 X4 (ix4 b h s (⟨160 + c.val, by omega⟩ : Fin 256))
      = (val_main_v16 (F := Ideal) X0 X1 X2 (ix2 (⟨b.val * 8192 + s.val, by omega⟩ : Fin 16384) (⟨h.val * 256 + (128 + c.val), by omega⟩ : Fin 4096)) * X4 (ix2 (⟨b.val * 8192 + s.val, by omega⟩ : Fin 16384) (⟨32 + c.val, by omega⟩ : Fin 128)) + val_main_v16 (F := Ideal) X0 X1 X2 (ix2 (⟨b.val * 8192 + s.val, by omega⟩ : Fin 16384) (⟨h.val * 256 + (160 + c.val), by omega⟩ : Fin 4096)) * X3 (ix2 (⟨b.val * 8192 + s.val, by omega⟩ : Fin 16384) (⟨32 + c.val, by omega⟩ : Fin 128))) * Ideal.ofBits .f32 0x3DD53B95#32 := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_cst_3]
  rw [dif_neg (show ¬ 160 + c.val < 128 by omega), dif_pos (show 160 + c.val - 128 < 64 by omega), dif_neg (show ¬ 160 + c.val - 128 < 32 by omega)]
  blk_point []

/-- A column of the padding. -/
theorem ref_pad (X0 : FVec Ideal S16384x1024 .f32) (X1 : FVec Ideal S1024 .f32) (X2 : FVec Ideal S2x1024x4096 .bf16) (X3 X4 : FVec Ideal S16384x128 .f32) (b : Fin 2) (h : Fin 16) (s : Fin 8192) (c : Fin 64) :
    val_main_v46 (F := Ideal) X0 X1 X2 X3 X4 (ix4 b h s (⟨192 + c.val, by omega⟩ : Fin 256))
      = (0 : EReal) * Ideal.ofBits .f32 0x3DD53B95#32 := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_cst_3]
  rw [dif_neg (show ¬ 192 + c.val < 128 by omega), dif_neg (show ¬ 192 + c.val - 128 < 64 by omega)]

end Cert.QProjRefIdeal.Turn

namespace Cert.QProjIdeal.Tiles
open Cert.QProjIdeal Cert.QProjIdeal.Gen
open Cert.QProjRefIdeal.Read Cert.QProjRefIdeal.Turn
open Idealize.ShloMosaic.Pipeline (Dat)
variable (m : (ℓ : Loc nD τ sig) → Buf (Elt Ideal) ℓ)

theorem idx : ∀ t : Fin cfg0.N, win0_0.index t = ![t.val / 4, 0] ∧ win0_1.index t = ![0, 0] ∧ win0_2.index t = ![0, 0, t.val % 4] ∧ win0_3.index t = ![t.val / 4, 0]
    ∧ win0_4.index t = ![t.val / 4, 0] ∧ win0_5.index t = ![t.val / 32, t.val % 4, t.val / 4 % 8, 0] ∧ t.val < 64 :=
  (by decide +kernel : ∀ t : Fin grid0.N, _)

/-- The masks over the lanes: below 32, from 32 up to 64, the rest. -/
theorem lt32 : ∀ j : Fin 128, IntOp.cmpi CmpIPredicate.slt (BitVec.ofNat 32 j.val) 32#32 = if j.val < 32 then 1#1 else 0#1 := by decide +kernel

theorem mid : ∀ j : Fin 128, IntOp.andi (IntOp.cmpi CmpIPredicate.sge (BitVec.ofNat 32 j.val) 32#32) (IntOp.cmpi CmpIPredicate.slt (BitVec.ofNat 32 j.val) 64#32)
    = if 32 ≤ j.val ∧ j.val < 64 then 1#1 else 0#1 := by decide +kernel

theorem sel_t {α : Type} (a b : α) : Scalar.select 1#1 a b = a := rfl

theorem sel_f {α : Type} (a b : α) : Scalar.select 0#1 a b = b := rfl

/-- The element that a point stores in row `r`, head `h`, column `c`, from the product `T` and the two tables. -/
def cell (T : FVec Ideal S1024x1024 .f32) (x3 x4 : Vec Ideal S1024x128 .f32) (r : Fin 1024) (h : Fin 4) (c : Fin 256) : EReal :=
  (if _ : c.val < 128 then T (ix2 r (⟨h.val * 256 + c.val, by omega⟩ : Fin 1024))
    else if _ : c.val < 160 then T (ix2 r (⟨h.val * 256 + c.val, by omega⟩ : Fin 1024)) * x3 (ix2 r (⟨c.val - 128, by omega⟩ : Fin 128))
      - T (ix2 r (⟨h.val * 256 + (c.val + 32), by omega⟩ : Fin 1024)) * x4 (ix2 r (⟨c.val - 128, by omega⟩ : Fin 128))
    else if _ : c.val < 192 then T (ix2 r (⟨h.val * 256 + (c.val - 32), by omega⟩ : Fin 1024)) * x4 (ix2 r (⟨c.val - 128, by omega⟩ : Fin 128))
      + T (ix2 r (⟨h.val * 256 + c.val, by omega⟩ : Fin 1024)) * x3 (ix2 r (⟨c.val - 128, by omega⟩ : Fin 128))
    else 0) * Ideal.ofBits .f32 0x3DD53B95#32

/-- Every tile store of a point is the same formula of its head. -/
theorem tiles (x0 : Vec Ideal S1024x1024 .f32) (x1 : Vec Ideal S1x1024 .f32) (x2 : Vec Ideal S1x1024x1024 .bf16) (x3 x4 : Vec Ideal S1024x128 .f32) (y : S1x4x1024x256.Idx)
    (r : Fin 1024) (h : Fin 4) (c : Fin 256) (hr : r.val = (y 2).val) (hh : h.val = (y 1).val) (hc : c.val = (y 3).val) :
    out0_5 (F := Ideal) x0 x1 x2 x3 x4 y = cell (k0_pay2 (F := Ideal) x0 x1 x2) x3 x4 r h c := by
  canon_tiles x g
  case piece1 | piece3 | piece5 | piece7 =>
    open_payloads
    have hc' : c.val < 128 := by omega
    rw [cell, dif_pos hc']
    pointwise
    blk_point []
  all_goals
    open_payloads
    pointwise
    have hl := lt32 ⟨(x 3).val, x3_lt⟩
    have hm := mid ⟨(x 3).val, x3_lt⟩
    dsimp only at hl hm
    have h1 : ¬ c.val < 128 := by omega
    by_cases h2 : c.val < 160
    · rw [if_pos (show (x 3).val < 32 by omega)] at hl
      rw [hl, sel_t, cell, dif_neg h1, dif_pos h2]
      blk_point []
    · rw [if_neg (show ¬ (x 3).val < 32 by omega)] at hl
      by_cases h3 : c.val < 192
      · rw [if_pos (show 32 ≤ (x 3).val ∧ (x 3).val < 64 by omega)] at hm
        rw [hl, sel_f, hm, sel_t, cell, dif_neg h1, dif_neg h2, dif_pos h3]
        blk_point []
      · rw [if_neg (show ¬ (32 ≤ (x 3).val ∧ (x 3).val < 64) by omega)] at hm
        rw [hl, sel_f, hm, sel_f, cell, dif_neg h1, dif_neg h2, dif_neg h3]
        first | done | blk_point []

/-- The product of a point is the reference's product. -/
theorem prod_at (c : Dev nD) (t : Fin cfg0.N) (r : Fin 1024) (q : Fin 1024) (p : Fin 16384) (hp : p.val = t.val / 4 * 1024 + r.val) (s : Fin 4096) (hs : s.val = t.val % 4 * 1024 + q.val) :
    k0_pay2 (F := Ideal) (iblk m c 0 t) (iblk m c 1 t) (iblk m c 2 t) (ix2 r q)
      = val_main_v16 (F := Ideal) (m ((c : Thread nD τ).loc main_arg0)) (m ((c : Thread nD τ).loc main_arg1)) (m ((c : Thread nD τ).loc main_arg2)) (ix2 p s) := by
  pointwise [k0_pay2, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

theorem cos_at (c : Dev nD) (t : Fin cfg0.N) (r : Fin 1024) (j : Fin 128) (p : Fin 16384) (hp : p.val = t.val / 4 * 1024 + r.val) :
    iblk m c 3 t (ix2 r j) = m ((c : Thread nD τ).loc main_arg3) (ix2 p j) := by
  blk_ext [iblk, V, idx t]

theorem sin_at (c : Dev nD) (t : Fin cfg0.N) (r : Fin 1024) (j : Fin 128) (p : Fin 16384) (hp : p.val = t.val / 4 * 1024 + r.val) :
    iblk m c 4 t (ix2 r j) = m ((c : Thread nD τ).loc main_arg4) (ix2 p j) := by
  blk_ext [iblk, V, idx t]

theorem place (t : Fin cfg0.N) (h : Fin 4) (r : Fin 1024) (q : Fin 256) (b : Fin 2) (hb : b.val = t.val / 32) (g : Fin 16) (hg : g.val = t.val % 4 * 4 + h.val)
    (s : Fin 8192) (hs : s.val = t.val / 4 % 8 * 1024 + r.val) :
    ((cfg0.win 5).blk t).view.emb (ix4 (0 : Fin 1) h r q) = ix4 b g s q := by
  blk_ext [idx t]

/-- A point's element of a head is the reference's. -/
theorem cell_at (c : Dev nD) (t : Fin cfg0.N) (h : Fin 4) (r : Fin 1024) (q : Fin 256) (b : Fin 2) (hb : b.val = t.val / 32) (g : Fin 16) (hg : g.val = t.val % 4 * 4 + h.val)
    (s : Fin 8192) (hs : s.val = t.val / 4 % 8 * 1024 + r.val) :
    cell (k0_pay2 (F := Ideal) (iblk m c 0 t) (iblk m c 1 t) (iblk m c 2 t)) (iblk m c 3 t) (iblk m c 4 t) r h q
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b g s q) := by
  have hp : b.val * 8192 + s.val = t.val / 4 * 1024 + r.val := by omega
  have prod := prod_at m c t r
  have lim : t.val < 64 := (idx t).2.2.2.2.2.2
  rw [cell]
  by_cases h1 : q.val < 128
  · rw [dif_pos h1, prod _ ⟨b.val * 8192 + s.val, by omega⟩ hp ⟨g.val * 256 + q.val, by omega⟩ (by dsimp only; omega)]
    exact (ref_nope _ _ _ _ _ b g s ⟨q.val, h1⟩).symm
  · rw [dif_neg h1]
    by_cases h2 : q.val < 160
    · obtain ⟨k, hk, rfl⟩ : ∃ (k : ℕ) (hk : k < 32), q = ⟨128 + k, by clear h1 h2; omega⟩ := ⟨q.val - 128, by omega, Fin.ext (by dsimp only; omega)⟩
      rw [dif_pos h2, prod _ ⟨b.val * 8192 + s.val, by omega⟩ hp ⟨g.val * 256 + (128 + k), by omega⟩ (by dsimp only; omega),
        prod _ ⟨b.val * 8192 + s.val, by omega⟩ hp ⟨g.val * 256 + (160 + k), by omega⟩ (by dsimp only; omega),
        cos_at m c t r _ ⟨b.val * 8192 + s.val, by omega⟩ hp, sin_at m c t r _ ⟨b.val * 8192 + s.val, by omega⟩ hp, ref_lo _ _ _ _ _ b g s ⟨k, hk⟩]
      blk_point []
    · rw [dif_neg h2]
      by_cases h3 : q.val < 192
      · obtain ⟨k, hk, rfl⟩ : ∃ (k : ℕ) (hk : k < 32), q = ⟨160 + k, by clear h1 h2 h3; omega⟩ := ⟨q.val - 160, by omega, Fin.ext (by dsimp only; omega)⟩
        rw [dif_pos h3, prod _ ⟨b.val * 8192 + s.val, by omega⟩ hp ⟨g.val * 256 + (128 + k), by omega⟩ (by dsimp only; omega),
          prod _ ⟨b.val * 8192 + s.val, by omega⟩ hp ⟨g.val * 256 + (160 + k), by omega⟩ (by dsimp only; omega),
          cos_at m c t r _ ⟨b.val * 8192 + s.val, by omega⟩ hp, sin_at m c t r _ ⟨b.val * 8192 + s.val, by omega⟩ hp, ref_hi _ _ _ _ _ b g s ⟨k, hk⟩]
        blk_point []
      · obtain ⟨k, hk, rfl⟩ : ∃ (k : ℕ) (hk : k < 64), q = ⟨192 + k, by clear h1 h2 h3; omega⟩ := ⟨q.val - 192, by omega, Fin.ext (by dsimp only; omega)⟩
        rw [dif_neg h3]
        exact (ref_pad _ _ _ _ _ b g s ⟨k, hk⟩).symm

/-- The result array is the reference's. -/
theorem final (c : Dev nD) : (dats m 0 c).arrAt 5 (cfgs 0).N
    = Cert.QProjRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨h, r, q, rfl⟩ : ∃ (h : Fin 4) (r : Fin 1024) (q : Fin 256), y = ix4 (0 : Fin 1) h r q :=
    ⟨y 1, y 2, y 3, by rw [show (0 : Fin 1) = y 0 from Subsingleton.elim _ _]; exact eq_ix4 y⟩
  have lim : t.val < 64 := (idx t).2.2.2.2.2.2
  refine (tiles _ _ _ _ _ (ix4 (0 : Fin 1) h r q) r h q rfl rfl rfl).trans ?_
  refine Eq.trans ?_ (congrArg _ (place t h r q ⟨t.val / 32, by omega⟩ rfl ⟨t.val % 4 * 4 + h.val, by omega⟩ rfl ⟨t.val / 4 % 8 * 1024 + r.val, by omega⟩ rfl).symm)
  exact cell_at m c t h r q _ rfl _ rfl _ rfl

end Cert.QProjIdeal.Tiles
end
-- ==== Proof.KvProj.lean ====
/- The keys and the values: the arrays that the launch leaves are the reference's. -/
module

public import proofs.«01_k».proof.Proof.Gen.KvProjIdeal.Value
public import proofs.«01_k».proof.Proof.Gen.KvProjRefIdeal.Run
public import proofs.«01_k».proof.Proof.Gen.KvProjRefIdeal.Read
public import Idealize.ShloMosaic.Lib.Pipeline.ValueKit

@[expose] public section

set_option maxRecDepth 16384

noncomputable section

open Idealize.ShloMosaic Idealize.ShloMosaic.TcCoe Idealize.SL.Sem

namespace Cert.KvProjRefIdeal.Turn
open Cert.KvProjRefIdeal Cert.KvProjRefIdeal.Gen Cert.KvProjRefIdeal.Read

/-- A key column without a rotary position: the product. -/
theorem key_nope (X0 : FVec Ideal S16384x640 .f32) (X1 : FVec Ideal S512 .f32) (X2 : FVec Ideal S2x512x4096 .bf16) (X3 X4 : FVec Ideal S16384x128 .f32) (b : Fin 2) (h : Fin 16) (s : Fin 8192) (c : Fin 128) :
    val_main_v47 (F := Ideal) X0 X1 X2 X3 X4 (ix4 b h (⟨c.val, by omega⟩ : Fin 256) s)
      = val_main_v17 (F := Ideal) X0 X1 X2 (ix2 (⟨b.val * 8192 + s.val, by omega⟩ : Fin 16384) (⟨h.val * 256 + c.val, by omega⟩ : Fin 4096)) := by
  pointwise [val_main_v47, val_main_v46, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2]

/-- A key column of the first rotary half. -/
theorem key_lo (X0 : FVec Ideal S16384x640 .f32) (X1 : FVec Ideal S512 .f32) (X2 : FVec Ideal S2x512x4096 .bf16) (X3 X4 : FVec Ideal S16384x128 .f32) (b : Fin 2) (h : Fin 16) (s : Fin 8192) (c : Fin 32) :
    val_main_v47 (F := Ideal) X0 X1 X2 X3 X4 (ix4 b h (⟨128 + c.val, by omega⟩ : Fin 256) s)
      = X0 (ix2 (⟨b.val * 8192 + s.val, by omega⟩ : Fin 16384) (⟨512 + c.val, by omega⟩ : Fin 640)) * X3 (ix2 (⟨b.val * 8192 + s.val, by omega⟩ : Fin 16384) (⟨c.val, by omega⟩ : Fin 128)) - X0 (ix2 (⟨b.val * 8192 + s.val, by omega⟩ : Fin 16384) (⟨544 + c.val, by omega⟩ : Fin 640)) * X4 (ix2 (⟨b.val * 8192 + s.val, by omega⟩ : Fin 16384) (⟨c.val, by omega⟩ : Fin 128)) := by
  pointwise [val_main_v47, val_main_v46, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2]
  rw [dif_pos (show c.val < 64 by omega)]
  blk_point []

/-- A key column of the second rotary half. -/
theorem key_hi (X0 : FVec Ideal S16384x640 .f32) (X1 : FVec Ideal S512 .f32) (X2 : FVec Ideal S2x512x4096 .bf16) (X3 X4 : FVec Ideal S16384x128 .f32) (b : Fin 2) (h : Fin 16) (s : Fin 8192) (c : Fin 32) :
    val_main_v47 (F := Ideal) X0 X1 X2 X3 X4 (ix4 b h (⟨160 + c.val, by omega⟩ : Fin 256) s)
      = X0 (ix2 (⟨b.val * 8192 + s.val, by omega⟩ : Fin 16384) (⟨512 + c.val, by omega⟩ : Fin 640)) * X4 (ix2 (⟨b.val * 8192 + s.val, by omega⟩ : Fin 16384) (⟨32 + c.val, by omega⟩ : Fin 128)) + X0 (ix2 (⟨b.val * 8192 + s.val, by omega⟩ : Fin 16384) (⟨544 + c.val, by omega⟩ : Fin 640)) * X3 (ix2 (⟨b.val * 8192 + s.val, by omega⟩ : Fin 16384) (⟨32 + c.val, by omega⟩ : Fin 128)) := by
  pointwise [val_main_v47, val_main_v46, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2]
  rw [dif_neg (show ¬ 160 + c.val < 128 by omega), dif_pos (show 160 + c.val - 128 < 64 by omega), dif_neg (show ¬ 160 + c.val - 128 < 32 by omega)]
  blk_point []

/-- A key column of the padding. -/
theorem key_pad (X0 : FVec Ideal S16384x640 .f32) (X1 : FVec Ideal S512 .f32) (X2 : FVec Ideal S2x512x4096 .bf16) (X3 X4 : FVec Ideal S16384x128 .f32) (b : Fin 2) (h : Fin 16) (s : Fin 8192) (c : Fin 64) :
    val_main_v47 (F := Ideal) X0 X1 X2 X3 X4 (ix4 b h (⟨192 + c.val, by omega⟩ : Fin 256) s)
      = (0 : EReal) := by
  pointwise [val_main_v47, val_main_v46, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2]
  rw [dif_neg (show ¬ 192 + c.val < 128 by omega), dif_neg (show ¬ 192 + c.val - 128 < 64 by omega)]

/-- A value column. -/
theorem val_own (X0 : FVec Ideal S16384x640 .f32) (X1 : FVec Ideal S512 .f32) (X2 : FVec Ideal S2x512x4096 .bf16) (b : Fin 2) (h : Fin 16) (s : Fin 8192) (c : Fin 128) :
    val_main_v49 (F := Ideal) X0 X1 X2 (ix4 b h s (⟨c.val, by omega⟩ : Fin 256))
      = val_main_v17 (F := Ideal) X0 X1 X2 (ix2 (⟨b.val * 8192 + s.val, by omega⟩ : Fin 16384) (⟨h.val * 256 + (128 + c.val), by omega⟩ : Fin 4096)) := by
  pointwise [val_main_v49, val_main_v48, val_main_v45, val_main_v44, val_main_v43, val_main_v18, val_main_cst_3]

/-- A column of ones. -/
theorem val_one (X0 : FVec Ideal S16384x640 .f32) (X1 : FVec Ideal S512 .f32) (X2 : FVec Ideal S2x512x4096 .bf16) (b : Fin 2) (h : Fin 16) (s : Fin 8192) (c : Fin 128) :
    val_main_v49 (F := Ideal) X0 X1 X2 (ix4 b h s (⟨128 + c.val, by omega⟩ : Fin 256))
      = (1 : EReal) := by
  pointwise [val_main_v49, val_main_v48, val_main_v45, val_main_v44, val_main_v43, val_main_v18, val_main_cst_3]

end Cert.KvProjRefIdeal.Turn

namespace Cert.KvProjIdeal.Tiles
open Cert.KvProjIdeal Cert.KvProjIdeal.Gen
open Cert.KvProjRefIdeal.Read Cert.KvProjRefIdeal.Turn
open Idealize.ShloMosaic.Pipeline (Dat)
variable (m : (ℓ : Loc nD τ sig) → Buf (Elt Ideal) ℓ)

theorem idx : ∀ t : Fin cfg0.N, win0_0.index t = ![t.val / 4, 0] ∧ win0_1.index t = ![0, 0] ∧ win0_2.index t = ![0, 0, t.val % 4] ∧ win0_3.index t = ![t.val / 4, 4]
    ∧ win0_4.index t = ![t.val / 4, 0] ∧ win0_5.index t = ![t.val / 4, 0] ∧ win0_6.index t = ![t.val / 32, t.val % 4, 0, t.val / 4 % 8]
    ∧ win0_7.index t = ![t.val / 32, t.val % 4, t.val / 4 % 8, 0] ∧ t.val < 64 :=
  (by decide +kernel : ∀ t : Fin grid0.N, _)

/-- The masks over the lanes. -/
theorem lt32 : ∀ j : Fin 128, IntOp.cmpi CmpIPredicate.slt (BitVec.ofNat 32 j.val) 32#32 = if j.val < 32 then 1#1 else 0#1 := by decide +kernel

theorem lt64 : ∀ j : Fin 128, IntOp.cmpi CmpIPredicate.slt (BitVec.ofNat 32 j.val) 64#32 = if j.val < 64 then 1#1 else 0#1 := by decide +kernel

theorem mid : ∀ j : Fin 128, IntOp.andi (IntOp.cmpi CmpIPredicate.sge (BitVec.ofNat 32 j.val) 32#32) (IntOp.cmpi CmpIPredicate.slt (BitVec.ofNat 32 j.val) 64#32)
    = if 32 ≤ j.val ∧ j.val < 64 then 1#1 else 0#1 := by decide +kernel

theorem sel_t {α : Type} (a b : α) : Scalar.select 1#1 a b = a := rfl

theorem sel_f {α : Type} (a b : α) : Scalar.select 0#1 a b = b := rfl

/-- The rotary columns as they are used: those from 64 up are masked away. -/
theorem slab (v : Vec Ideal S1024x128 .f32) (r : Fin 1024) (j : Fin 128) (hj : j.val < 64) : k0_pay7 (F := Ideal) v (ix2 r j) = v (ix2 r j) := by
  have hk := lt64 j
  rw [if_pos hj] at hk
  pointwise [k0_pay7]
  rw [hk, sel_t]

/-- The key element that a point stores for head `h`, column `d`, row `r`, from the product `T`, the rotary columns `S` and the two tables. -/
def kcell (T : FVec Ideal S1024x1024 .f32) (S x4 x5 : Vec Ideal S1024x128 .f32) (h : Fin 4) (d : Fin 256) (r : Fin 1024) : EReal :=
  if _ : d.val < 128 then T (ix2 r (⟨h.val * 256 + d.val, by omega⟩ : Fin 1024))
    else if _ : d.val < 160 then S (ix2 r (⟨d.val - 128, by omega⟩ : Fin 128)) * x4 (ix2 r (⟨d.val - 128, by omega⟩ : Fin 128))
      - S (ix2 r (⟨d.val - 96, by omega⟩ : Fin 128)) * x5 (ix2 r (⟨d.val - 128, by omega⟩ : Fin 128))
    else if _ : d.val < 192 then S (ix2 r (⟨d.val - 160, by omega⟩ : Fin 128)) * x5 (ix2 r (⟨d.val - 128, by omega⟩ : Fin 128))
      + S (ix2 r (⟨d.val - 128, by omega⟩ : Fin 128)) * x4 (ix2 r (⟨d.val - 128, by omega⟩ : Fin 128))
    else 0

/-- The value element that a point stores for head `h`, row `r`, column `d`. -/
def vcell (T : FVec Ideal S1024x1024 .f32) (h : Fin 4) (r : Fin 1024) (d : Fin 256) : EReal :=
  if _ : d.val < 128 then T (ix2 r (⟨h.val * 256 + (128 + d.val), by omega⟩ : Fin 1024)) else 1

/-- Every key tile of a point is the same formula of its head. -/
theorem keys (c : Dev nD) (t : Fin cfg0.N) (y : S1x4x256x1024.Idx) (h : Fin 4) (d : Fin 256) (r : Fin 1024)
    (hh : h.val = (y 1).val) (hd : d.val = (y 2).val) (hr : r.val = (y 3).val) :
    (outsAt0 m c t).1 y = kcell (k0_pay6 (F := Ideal) (X0_0 m c t) (iblk m c 1 t) (iblk m c 2 t)) (k0_pay7 (F := Ideal) (iblk m c 3 t)) (iblk m c 4 t) (iblk m c 5 t) h d r := by
  unfold outsAt0
  frame_out
  canon_tiles x g
  case piece1 | piece3 | piece5 | piece7 =>
    open_payloads
    have hd' : d.val < 128 := by omega
    rw [kcell, dif_pos hd']
    pointwise
    blk_point []
  all_goals
    open_payloads
    pointwise
    have hl := lt32 ⟨(x 2).val, x2_lt⟩
    have hm := mid ⟨(x 2).val, x2_lt⟩
    dsimp only at hl hm
    have h1 : ¬ d.val < 128 := by omega
    by_cases h2 : d.val < 160
    · rw [if_pos (show (x 2).val < 32 by omega)] at hl
      rw [hl, sel_t, kcell, dif_neg h1, dif_pos h2]
      blk_point [] <;> exact congrArg (BitVec.ofNat 32) (by omega)
    · rw [if_neg (show ¬ (x 2).val < 32 by omega)] at hl
      by_cases h3 : d.val < 192
      · rw [if_pos (show 32 ≤ (x 2).val ∧ (x 2).val < 64 by omega)] at hm
        rw [hl, sel_f, hm, sel_t, kcell, dif_neg h1, dif_neg h2, dif_pos h3]
        blk_point [] <;> exact congrArg (BitVec.ofNat 32) (by omega)
      · rw [if_neg (show ¬ (32 ≤ (x 2).val ∧ (x 2).val < 64) by omega)] at hm
        rw [hl, sel_f, hm, sel_f, kcell, dif_neg h1, dif_neg h2, dif_neg h3]

/-- Every value tile of a point is the same formula of its head. -/
theorem values (c : Dev nD) (t : Fin cfg0.N) (y : S1x4x1024x256.Idx) (h : Fin 4) (r : Fin 1024) (d : Fin 256)
    (hh : h.val = (y 1).val) (hr : r.val = (y 2).val) (hd : d.val = (y 3).val) :
    (outsAt0 m c t).2 y = vcell (k0_pay6 (F := Ideal) (X0_0 m c t) (iblk m c 1 t) (iblk m c 2 t)) h r d := by
  unfold outsAt0
  frame_out
  canon_tiles x g
  case piece1 | piece3 | piece5 | piece7 =>
    open_payloads
    have hd' : d.val < 128 := by omega
    rw [vcell, dif_pos hd']
    pointwise
    blk_point []
  all_goals
    open_payloads
    have hd' : ¬ d.val < 128 := by omega
    rw [vcell, dif_neg hd']
    pointwise

theorem lat_at (c : Dev nD) (t : Fin cfg0.N) (r : Fin 1024) (k : Fin 512) (p : Fin 16384) (hp : p.val = t.val / 4 * 1024 + r.val) :
    X0_0 m c t (ix2 r k) = m ((c : Thread nD τ).loc main_arg0) (ix2 p (⟨k.val, by omega⟩ : Fin 640)) := by
  unfold X0_0 Pipeline.Window.fill
  rw [dif_pos (moved0_0 t _)]
  blk_ext [iblk, V, idx t]

/-- The product of a point is the reference's product. -/
theorem prod_at (c : Dev nD) (t : Fin cfg0.N) (r : Fin 1024) (q : Fin 1024) (p : Fin 16384) (hp : p.val = t.val / 4 * 1024 + r.val) (s : Fin 4096) (hs : s.val = t.val % 4 * 1024 + q.val) :
    k0_pay6 (F := Ideal) (X0_0 m c t) (iblk m c 1 t) (iblk m c 2 t) (ix2 r q)
      = val_main_v17 (F := Ideal) (m ((c : Thread nD τ).loc main_arg0)) (m ((c : Thread nD τ).loc main_arg1)) (m ((c : Thread nD τ).loc main_arg2)) (ix2 p s) := by
  pointwise [k0_pay6, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [lat_at m c t r _ p hp]
  blk_point [iblk, V, idx t]

theorem rot_at (c : Dev nD) (t : Fin cfg0.N) (r : Fin 1024) (j : Fin 128) (p : Fin 16384) (hp : p.val = t.val / 4 * 1024 + r.val) :
    iblk m c 3 t (ix2 r j) = m ((c : Thread nD τ).loc main_arg0) (ix2 p (⟨512 + j.val, by omega⟩ : Fin 640)) := by
  blk_ext [iblk, V, idx t]

theorem cos_at (c : Dev nD) (t : Fin cfg0.N) (r : Fin 1024) (j : Fin 128) (p : Fin 16384) (hp : p.val = t.val / 4 * 1024 + r.val) :
    iblk m c 4 t (ix2 r j) = m ((c : Thread nD τ).loc main_arg3) (ix2 p j) := by
  blk_ext [iblk, V, idx t]

theorem sin_at (c : Dev nD) (t : Fin cfg0.N) (r : Fin 1024) (j : Fin 128) (p : Fin 16384) (hp : p.val = t.val / 4 * 1024 + r.val) :
    iblk m c 5 t (ix2 r j) = m ((c : Thread nD τ).loc main_arg4) (ix2 p j) := by
  blk_ext [iblk, V, idx t]

theorem place_k (t : Fin cfg0.N) (h : Fin 4) (r : Fin 1024) (q : Fin 256) (b : Fin 2) (hb : b.val = t.val / 32) (g : Fin 16) (hg : g.val = t.val % 4 * 4 + h.val)
    (s : Fin 8192) (hs : s.val = t.val / 4 % 8 * 1024 + r.val) :
    ((cfg0.win 6).blk t).view.emb (ix4 (0 : Fin 1) h q r) = ix4 b g q s := by
  blk_ext [idx t]

theorem place_v (t : Fin cfg0.N) (h : Fin 4) (r : Fin 1024) (q : Fin 256) (b : Fin 2) (hb : b.val = t.val / 32) (g : Fin 16) (hg : g.val = t.val % 4 * 4 + h.val)
    (s : Fin 8192) (hs : s.val = t.val / 4 % 8 * 1024 + r.val) :
    ((cfg0.win 7).blk t).view.emb (ix4 (0 : Fin 1) h r q) = ix4 b g s q := by
  blk_ext [idx t]

/-- A point's key element of a head is the reference's. -/
theorem kcell_at (c : Dev nD) (t : Fin cfg0.N) (h : Fin 4) (r : Fin 1024) (q : Fin 256) (b : Fin 2) (hb : b.val = t.val / 32) (g : Fin 16) (hg : g.val = t.val % 4 * 4 + h.val)
    (s : Fin 8192) (hs : s.val = t.val / 4 % 8 * 1024 + r.val) :
    kcell (k0_pay6 (F := Ideal) (X0_0 m c t) (iblk m c 1 t) (iblk m c 2 t)) (k0_pay7 (F := Ideal) (iblk m c 3 t)) (iblk m c 4 t) (iblk m c 5 t) h q r
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b g q s) := by
  have hp : b.val * 8192 + s.val = t.val / 4 * 1024 + r.val := by omega
  have lim : t.val < 64 := (idx t).2.2.2.2.2.2.2.2
  rw [kcell]
  by_cases h1 : q.val < 128
  · rw [dif_pos h1, prod_at m c t r _ ⟨b.val * 8192 + s.val, by omega⟩ hp ⟨g.val * 256 + q.val, by omega⟩ (by dsimp only; omega)]
    exact (key_nope _ _ _ _ _ b g s ⟨q.val, h1⟩).symm
  · rw [dif_neg h1]
    by_cases h2 : q.val < 160
    · obtain ⟨k, hk, rfl⟩ : ∃ (k : ℕ) (hk : k < 32), q = ⟨128 + k, by clear h1 h2; omega⟩ := ⟨q.val - 128, by omega, Fin.ext (by dsimp only; omega)⟩
      rw [dif_pos h2, slab _ r _ (by dsimp only; omega), slab _ r _ (by dsimp only; omega), rot_at m c t r _ ⟨b.val * 8192 + s.val, by omega⟩ hp, rot_at m c t r _ ⟨b.val * 8192 + s.val, by omega⟩ hp,
        cos_at m c t r _ ⟨b.val * 8192 + s.val, by omega⟩ hp, sin_at m c t r _ ⟨b.val * 8192 + s.val, by omega⟩ hp, key_lo _ _ _ _ _ b g s ⟨k, hk⟩]
      blk_point []
    · rw [dif_neg h2]
      by_cases h3 : q.val < 192
      · obtain ⟨k, hk, rfl⟩ : ∃ (k : ℕ) (hk : k < 32), q = ⟨160 + k, by clear h1 h2 h3; omega⟩ := ⟨q.val - 160, by omega, Fin.ext (by dsimp only; omega)⟩
        rw [dif_pos h3, slab _ r _ (by dsimp only; omega), slab _ r _ (by dsimp only; omega), rot_at m c t r _ ⟨b.val * 8192 + s.val, by omega⟩ hp, rot_at m c t r _ ⟨b.val * 8192 + s.val, by omega⟩ hp,
          cos_at m c t r _ ⟨b.val * 8192 + s.val, by omega⟩ hp, sin_at m c t r _ ⟨b.val * 8192 + s.val, by omega⟩ hp, key_hi _ _ _ _ _ b g s ⟨k, hk⟩]
        blk_point []
      · obtain ⟨k, hk, rfl⟩ : ∃ (k : ℕ) (hk : k < 64), q = ⟨192 + k, by clear h1 h2 h3; omega⟩ := ⟨q.val - 192, by omega, Fin.ext (by dsimp only; omega)⟩
        rw [dif_neg h3]
        exact (key_pad _ _ _ _ _ b g s ⟨k, hk⟩).symm

/-- A point's value element of a head is the reference's. -/
theorem vcell_at (c : Dev nD) (t : Fin cfg0.N) (h : Fin 4) (r : Fin 1024) (q : Fin 256) (b : Fin 2) (hb : b.val = t.val / 32) (g : Fin 16) (hg : g.val = t.val % 4 * 4 + h.val)
    (s : Fin 8192) (hs : s.val = t.val / 4 % 8 * 1024 + r.val) :
    vcell (k0_pay6 (F := Ideal) (X0_0 m c t) (iblk m c 1 t) (iblk m c 2 t)) h r q = val_main_v49 (F := Ideal) (m ((c : Thread nD τ).loc main_arg0)) (m ((c : Thread nD τ).loc main_arg1)) (m ((c : Thread nD τ).loc main_arg2)) (ix4 b g s q) := by
  have hp : b.val * 8192 + s.val = t.val / 4 * 1024 + r.val := by omega
  have lim : t.val < 64 := (idx t).2.2.2.2.2.2.2.2
  rw [vcell]
  by_cases h1 : q.val < 128
  · rw [dif_pos h1, prod_at m c t r _ ⟨b.val * 8192 + s.val, by omega⟩ hp ⟨g.val * 256 + (128 + q.val), by omega⟩ (by dsimp only; omega)]
    exact (val_own _ _ _ b g s ⟨q.val, h1⟩).symm
  · obtain ⟨k, hk, rfl⟩ : ∃ (k : ℕ) (hk : k < 128), q = ⟨128 + k, by clear h1; omega⟩ := ⟨q.val - 128, by omega, Fin.ext (by dsimp only; omega)⟩
    rw [dif_neg h1]
    exact (val_one _ _ _ b g s ⟨k, hk⟩).symm

/-- The array of the keys is the reference's. -/
theorem final_k (c : Dev nD) : (dats m 0 c).arrAt 6 (cfgs 0).N
    = Cert.KvProjRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  obtain ⟨h, q, r, rfl⟩ : ∃ (h : Fin 4) (q : Fin 256) (r : Fin 1024), y = ix4 (0 : Fin 1) h q r :=
    ⟨y 1, y 2, y 3, by rw [show (0 : Fin 1) = y 0 from Subsingleton.elim _ _]; exact eq_ix4 y⟩
  have lim : t.val < 64 := (idx t).2.2.2.2.2.2.2.2
  refine (keys m c t (ix4 (0 : Fin 1) h q r) h q r rfl rfl rfl).trans ?_
  refine Eq.trans ?_ (congrArg _ (place_k t h r q ⟨t.val / 32, by omega⟩ rfl ⟨t.val % 4 * 4 + h.val, by omega⟩ rfl ⟨t.val / 4 % 8 * 1024 + r.val, by omega⟩ rfl).symm)
  exact kcell_at m c t h r q _ rfl _ rfl _ rfl

/-- The array of the values is the reference's. -/
theorem final_v (c : Dev nD) : (dats m 0 c).arrAt 7 (cfgs 0).N
    = Cert.KvProjRefIdeal.Read.val_main_v49 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  obtain ⟨h, r, q, rfl⟩ : ∃ (h : Fin 4) (r : Fin 1024) (q : Fin 256), y = ix4 (0 : Fin 1) h r q :=
    ⟨y 1, y 2, y 3, by rw [show (0 : Fin 1) = y 0 from Subsingleton.elim _ _]; exact eq_ix4 y⟩
  have lim : t.val < 64 := (idx t).2.2.2.2.2.2.2.2
  refine (values m c t (ix4 (0 : Fin 1) h r q) h r q rfl rfl rfl).trans ?_
  refine Eq.trans ?_ (congrArg _ (place_v t h r q ⟨t.val / 32, by omega⟩ rfl ⟨t.val % 4 * 4 + h.val, by omega⟩ rfl ⟨t.val / 4 % 8 * 1024 + r.val, by omega⟩ rfl).symm)
  exact vcell_at m c t h r q _ rfl _ rfl _ rfl

end Cert.KvProjIdeal.Tiles
end
-- ==== Proof.Gmlp.lean ====
/- Mixer A, the mixing of the positions of a chunk: the array that the launch leaves is the reference's. -/
module

public import proofs.«01_k».proof.Proof.Gen.GmlpIdeal.Value
public import proofs.«01_k».proof.Proof.Gen.GmlpRefIdeal.Run
public import proofs.«01_k».proof.Proof.Gen.GmlpRefIdeal.Read
public import Idealize.ShloMosaic.Lib.Pipeline.ValueKit

@[expose] public section

set_option maxRecDepth 16384

noncomputable section

open Idealize.ShloMosaic Idealize.ShloMosaic.TcCoe Idealize.SL.Sem

namespace Cert.GmlpIdeal.Tiles
open Cert.GmlpIdeal Cert.GmlpIdeal.Gen
open Cert.GmlpRefIdeal.Read
open Idealize.ShloMosaic.Pipeline (Dat)
variable (m : (ℓ : Loc nD τ sig) → Buf (Elt Ideal) ℓ)

theorem idx : ∀ t : Fin cfg0.N, win0_0.index t = ![t.val, 0] ∧ win0_1.index t = ![t.val, 1] ∧ win0_2.index t = ![0, 0] ∧ win0_3.index t = ![0, 0, 0, 0]
    ∧ win0_4.index t = ![0, 0] ∧ win0_5.index t = ![t.val, 0] :=
  (by decide +kernel : ∀ t : Fin grid0.N, _)

/-- The element that a point stores in row `p` of chunk `n`, column `d` of group `g`, from the normed block `w` and the blocks that it loads. -/
def cell (x0 : Vec Ideal S256x2048 .f32) (w : Vec Ideal S256x2048 .bf16) (x3 : Vec Ideal S1x16x128x128 .bf16) (x4 : Vec Ideal S128x16 .f32)
    (n : Fin 2) (p : Fin 128) (g : Fin 16) (d : Fin 128) : EReal :=
  x0 (ix2 (⟨n.val * 128 + p.val, by omega⟩ : Fin 256) (⟨g.val * 128 + d.val, by omega⟩ : Fin 2048))
    * ((∑ k : Fin 128, x3 (ix4 (0 : Fin 1) g p k) * w (ix2 (⟨n.val * 128 + k.val, by omega⟩ : Fin 256) (⟨g.val * 128 + d.val, by omega⟩ : Fin 2048)))
      + x4 (ix2 p g))

/-- The normed block, whole loads read as the blocks. -/
theorem normed (x1 : Vec Ideal S256x2048 .f32) (x2 : Vec Ideal S1x2048 .f32) :
    k0_pay2 (F := Ideal) (View.ld x1 r0_0) (View.ld x2 r0_1) = k0_pay2 (F := Ideal) x1 x2 := by
  have h1 : View.ld x1 r0_0 = x1 := View.ld_unit_lit _ x1 (by decide)
  have h2 : View.ld x2 r0_1 = x2 := View.ld_unit_lit _ x2 (by decide)
  rw [h1, h2]

/-- Every tile store of a point is the same formula of its chunk and group. -/
theorem tiles (x0 x1 : Vec Ideal S256x2048 .f32) (x2 : Vec Ideal S1x2048 .f32) (x3 : Vec Ideal S1x16x128x128 .bf16) (x4 : Vec Ideal S128x16 .f32)
    (y : S256x2048.Idx) (n : Fin 2) (p : Fin 128) (g : Fin 16) (d : Fin 128)
    (hn : n.val = (y 0).val / 128) (hp : p.val = (y 0).val % 128) (hg : g.val = (y 1).val / 128) (hd : d.val = (y 1).val % 128) :
    out0_5 (F := Ideal) x0 x1 x2 x3 x4 y = cell x0 (k0_pay2 x1 x2) x3 x4 n p g d := by
  have hN := normed x1 x2
  revert hN
  unfold out0_5 k0_pay41
  generalize k0_pay2 (F := Ideal) x1 x2 = w
  intro hN
  rw [hN]
  canon_tiles x h
  all_goals
    first
    | (unfold k0_pay3; rw [hN])
    | (unfold k0_pay4; rw [hN])
    | skip
    try open_payloads
    unfold cell
    pointwise
    blk_point []

/-- The block of the gating half, at an element. -/
theorem block0 (c : Dev nD) (t : Fin cfg0.N) (r : Fin 256) (q : Fin 2048) :
    iblk m c 0 t (ix2 r q) = m ((c : Thread nD τ).loc main_arg0) (ix2 (⟨t.val * 256 + r.val, by have := lt_of_lt_of_eq t.isLt N_0; omega⟩ : Fin 16384) (⟨q.val, by omega⟩ : Fin 4096)) := by
  blk_ext [iblk, V, idx t]

/-- The block of the half that is mixed, at an element. -/
theorem block1 (c : Dev nD) (t : Fin cfg0.N) (r : Fin 256) (q : Fin 2048) :
    iblk m c 1 t (ix2 r q) = m ((c : Thread nD τ).loc main_arg0) (ix2 (⟨t.val * 256 + r.val, by have := lt_of_lt_of_eq t.isLt N_0; omega⟩ : Fin 16384) (⟨2048 + q.val, by omega⟩ : Fin 4096)) := by
  blk_ext [iblk, V, idx t]

/-- The block of the gain, at an element. -/
theorem block2 (c : Dev nD) (t : Fin cfg0.N) (q : Fin 2048) :
    iblk m c 2 t (ix2 (0 : Fin 1) q) = m ((c : Thread nD τ).loc main_arg1) (ix1 q) := by
  blk_ext! [iblk, V, idx t]

/-- The block of the mixing weights, at an element. -/
theorem block3 (c : Dev nD) (t : Fin cfg0.N) (g : Fin 16) (p k : Fin 128) :
    iblk m c 3 t (ix4 (0 : Fin 1) g p k) = m ((c : Thread nD τ).loc main_arg2) (ix4 (0 : Fin 2) g p k) := by
  blk_ext [iblk, V, idx t]

/-- The block of the offsets, at an element. -/
theorem block4 (c : Dev nD) (t : Fin cfg0.N) (p : Fin 128) (g : Fin 16) :
    iblk m c 4 t (ix2 p g) = m ((c : Thread nD τ).loc main_arg3) (ix2 g p) := by
  blk_ext! [iblk, V, idx t]

/-- Rows of a point's block among all rows. -/
theorem place0 (t : Fin cfg0.N) (r : Fin 256) (q : Fin 2048) : ((((View.whole main_v2).slice (win0_5.rect t)).emb (ix2 r q)) 0).val = t.val * 256 + r.val := by
  blk_simp [idx t]

/-- Columns of a point's block among all columns. -/
theorem place1 (t : Fin cfg0.N) (r : Fin 256) (q : Fin 2048) : ((((View.whole main_v2).slice (win0_5.rect t)).emb (ix2 r q)) 1).val = q.val := by
  blk_simp [idx t]

/-- The formula at the coordinates of a block is the formula at the coordinates of the arrays. -/
theorem join (X : Vec Ideal Cert.GmlpRefIdeal.S16384x4096 .f32) (G : Vec Ideal S2048 .f32) (W : Vec Ideal S2x16x128x128 .bf16) (B : Vec Ideal S16x128 .f32)
    (e₁ e₂ : EReal) (t : ℕ) (ht : t < 64) (r : Fin 256) (q : Fin 2048) (i : Fin 16384) (j : Fin 2048) (hi : i.val = t * 256 + r.val) (hj : j.val = q.val) :
    X (ix2 (⟨t * 256 + (r.val / 128 * 128 + r.val % 128), by omega⟩ : Fin 16384) (⟨q.val / 128 * 128 + q.val % 128, by omega⟩ : Fin 4096))
      * ((∑ x : Fin 128, W (ix4 (0 : Fin 2) (⟨q.val / 128, by omega⟩ : Fin 16) (⟨r.val % 128, by omega⟩ : Fin 128) x)
          * (X (ix2 (⟨t * 256 + (r.val / 128 * 128 + x.val), by omega⟩ : Fin 16384) (⟨2048 + (q.val / 128 * 128 + q.val % 128), by omega⟩ : Fin 4096))
            * Ideal.rsqrt (Ideal.div (∑ z : Fin 2048, X (ix2 (⟨t * 256 + (r.val / 128 * 128 + x.val), by omega⟩ : Fin 16384) (⟨2048 + z.val, by omega⟩ : Fin 4096))
                * X (ix2 (⟨t * 256 + (r.val / 128 * 128 + x.val), by omega⟩ : Fin 16384) (⟨2048 + z.val, by omega⟩ : Fin 4096))) e₁ + e₂)
            * G (ix1 (⟨q.val / 128 * 128 + q.val % 128, by omega⟩ : Fin 2048))))
        + B (ix2 (⟨q.val / 128, by omega⟩ : Fin 16) (⟨r.val % 128, by omega⟩ : Fin 128)))
    = X (ix2 i (⟨j.val, by omega⟩ : Fin 4096))
      * ((∑ x : Fin 128, X (ix2 (⟨i.val / 128 * 128 + x.val, by omega⟩ : Fin 16384) (⟨2048 + j.val, by omega⟩ : Fin 4096))
            * Ideal.rsqrt (Ideal.div (∑ z : Fin 2048, X (ix2 (⟨i.val / 128 * 128 + x.val, by omega⟩ : Fin 16384) (⟨2048 + z.val, by omega⟩ : Fin 4096))
                * X (ix2 (⟨i.val / 128 * 128 + x.val, by omega⟩ : Fin 16384) (⟨2048 + z.val, by omega⟩ : Fin 4096))) e₁ + e₂)
            * G (ix1 j)
          * W (ix4 (0 : Fin 2) (⟨j.val / 128, by omega⟩ : Fin 16) (⟨i.val % 128, by omega⟩ : Fin 128) x))
        + B (ix2 (⟨j.val / 128, by omega⟩ : Fin 16) (⟨i.val % 128, by omega⟩ : Fin 128))) := by
  have hb : t * 256 + r.val < 16384 := by clear hi hj; omega
  obtain rfl : i = ⟨t * 256 + r.val, hb⟩ := Fin.ext hi
  obtain rfl : j = q := Fin.ext hj
  have a0 : t * 256 + (r.val / 128 * 128 + r.val % 128) = t * 256 + r.val := by omega
  have a1 : j.val / 128 * 128 + j.val % 128 = j.val := by omega
  have a2 : (t * 256 + r.val) % 128 = r.val % 128 := by omega
  have a3 : ∀ x : Fin 128, (t * 256 + r.val) / 128 * 128 + x.val = t * 256 + (r.val / 128 * 128 + x.val) := fun x => by omega
  simp only [a0, a1, a2, a3, Fin.eta]
  refine congrArg₂ (· * ·) rfl (congrArg₂ (· + ·) (Finset.sum_congr rfl fun x _ => mul_comm _ _) rfl)

/-- The result array is the reference's. -/
theorem final (c : Dev nD) : (dats m 0 c).arrAt 5 (cfgs 0).N
    = Cert.GmlpRefIdeal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, q, rfl⟩ : ∃ (r : Fin 256) (q : Fin 2048), y = ix2 r q := ⟨y 0, y 1, eq_ix2 y⟩
  refine (tiles _ _ _ _ _ (ix2 r q) ⟨r.val / 128, by omega⟩ ⟨r.val % 128, by omega⟩ ⟨q.val / 128, by omega⟩ ⟨q.val % 128, by omega⟩ rfl rfl rfl rfl).trans ?_
  pointwise [cell, k0_pay2, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [block0, block1, block2, block3, block4]
  exact join _ _ _ _ _ _ t.val (lt_of_lt_of_eq t.isLt N_0) r q _ _ (place0 t r q) (place1 t r q)

end Cert.GmlpIdeal.Tiles
end
-- ==== Proof.RopeTables.lean ====
/- The tables of the rotary angles: the arrays that the launch leaves are the reference's. -/
module

public import proofs.«01_k».proof.Proof.Gen.RopeTablesIdeal.Frame
public import proofs.«01_k».proof.Proof.Gen.RopeTablesRefIdeal.Run
public import proofs.«01_k».proof.Proof.Gen.RopeTablesRefIdeal.Read
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.RopeTablesIdeal.Tiles
open Cert.RopeTablesIdeal Cert.RopeTablesIdeal.Gen
open Cert.RopeTablesRefIdeal.Read
open Idealize.ShloMosaic.Pipeline (Dat)
variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The block of the frequencies is the row of the frequencies, repeated to the columns. -/
theorem freq (c : Dev nD) (t : Fin cfg0.N) (q : Fin 128) : iblk m c 1 t (ix2 (0 : Fin 1) q)
    = Ideal.pow (Ideal.ofBits .f32 1176256512#32) (Ideal.div (-(Ideal.ofBits .f32 1073741824#32 * FloatOps.sitofp (F := Ideal) .f32 (BitVec.ofNat 32 (q.val % 32)))) (Ideal.ofBits .f32 1115684864#32)) := by
  blk_simp [iblk]
  entry_read
  pointwise
  have e1 : ((((View.whole main_v13).slice (win0_1.rect t)).emb (ix2 (0 : Fin 1) q)) 1).val = q.val := by
    blk_simp [idx t]
  rw [e1]

/-- The block of the positions, at an element. -/
theorem posn (c : Dev nD) (t : Fin cfg0.N) (r : Fin 1024) : iblk m c 0 t (ix2 r (0 : Fin 1))
    = m ((c : Thread nD τ).loc main_arg0) (ix2 (⟨(t.val * 1024 + r.val) / 8192, by have := lt_of_lt_of_eq t.isLt N_0; omega⟩ : Fin 2) (⟨(t.val * 1024 + r.val) % 8192, by omega⟩ : Fin 8192)) := by
  blk_ext! [iblk, V, idx t]

/-- Rows of a point's block among all rows. -/
theorem row2 (t : Fin cfg0.N) (r : Fin 1024) (q : Fin 128) : ((((View.whole main_v15_0).slice (win0_2.rect t)).emb (ix2 r q)) 0).val = t.val * 1024 + r.val := by
  blk_simp [idx t]

/-- Columns of a point's block among all columns. -/
theorem col2 (t : Fin cfg0.N) (r : Fin 1024) (q : Fin 128) : ((((View.whole main_v15_0).slice (win0_2.rect t)).emb (ix2 r q)) 1).val = q.val := by
  blk_simp [idx t]

/-- The formula at the coordinates of a block is the formula at the coordinates of the arrays. -/
theorem join_cos (P : IVec Cert.RopeTablesRefIdeal.S2x8192 32) (t : ℕ) (ht : t < 16) (r : Fin 1024) (q : Fin 128) (i : Fin 16384) (j : Fin 128)
    (hi : i.val = t * 1024 + r.val) (hj : j.val = q.val) :
    Ideal.cos (FloatOps.sitofp (F := Ideal) .f32 (P (ix2 (⟨(t * 1024 + r.val) / 8192, by omega⟩ : Fin 2) (⟨(t * 1024 + r.val) % 8192, by omega⟩ : Fin 8192)))
      * Ideal.pow (Ideal.ofBits .f32 1176256512#32) (Ideal.div (-(Ideal.ofBits .f32 1073741824#32 * FloatOps.sitofp (F := Ideal) .f32 (BitVec.ofNat 32 (q.val % 32)))) (Ideal.ofBits .f32 1115684864#32)))
    = Ideal.cos (FloatOps.sitofp (F := Ideal) .f32 (P (ix2 (⟨i.val / 8192, by omega⟩ : Fin 2) (⟨i.val % 8192, by omega⟩ : Fin 8192)))
      * Ideal.pow (Ideal.ofBits .f32 1176256512#32) (Ideal.div (-(Ideal.ofBits .f32 1073741824#32 * FloatOps.sitofp (F := Ideal) .f32 (BitVec.ofNat 32 (j.val % 32)))) (Ideal.ofBits .f32 1115684864#32))) := by
  simp only [hi, hj]

/-- Rows of a point's block among all rows. -/
theorem row3 (t : Fin cfg0.N) (r : Fin 1024) (q : Fin 128) : ((((View.whole main_v15_1).slice (win0_3.rect t)).emb (ix2 r q)) 0).val = t.val * 1024 + r.val := by
  blk_simp [idx t]

/-- Columns of a point's block among all columns. -/
theorem col3 (t : Fin cfg0.N) (r : Fin 1024) (q : Fin 128) : ((((View.whole main_v15_1).slice (win0_3.rect t)).emb (ix2 r q)) 1).val = q.val := by
  blk_simp [idx t]

/-- The formula at the coordinates of a block is the formula at the coordinates of the arrays. -/
theorem join_sin (P : IVec Cert.RopeTablesRefIdeal.S2x8192 32) (t : ℕ) (ht : t < 16) (r : Fin 1024) (q : Fin 128) (i : Fin 16384) (j : Fin 128)
    (hi : i.val = t * 1024 + r.val) (hj : j.val = q.val) :
    Ideal.sin (FloatOps.sitofp (F := Ideal) .f32 (P (ix2 (⟨(t * 1024 + r.val) / 8192, by omega⟩ : Fin 2) (⟨(t * 1024 + r.val) % 8192, by omega⟩ : Fin 8192)))
      * Ideal.pow (Ideal.ofBits .f32 1176256512#32) (Ideal.div (-(Ideal.ofBits .f32 1073741824#32 * FloatOps.sitofp (F := Ideal) .f32 (BitVec.ofNat 32 (q.val % 32)))) (Ideal.ofBits .f32 1115684864#32)))
    = Ideal.sin (FloatOps.sitofp (F := Ideal) .f32 (P (ix2 (⟨i.val / 8192, by omega⟩ : Fin 2) (⟨i.val % 8192, by omega⟩ : Fin 8192)))
      * Ideal.pow (Ideal.ofBits .f32 1176256512#32) (Ideal.div (-(Ideal.ofBits .f32 1073741824#32 * FloatOps.sitofp (F := Ideal) .f32 (BitVec.ofNat 32 (j.val % 32)))) (Ideal.ofBits .f32 1115684864#32))) := by
  simp only [hi, hj]

/-- The table of the cosines is the reference's. -/
theorem final_c (c : Dev nD) : (dats m 0 c).arrAt 2 (cfgs 0).N
    = Cert.RopeTablesRefIdeal.Read.val_main_v20 (F := Ideal) (m ((c : Thread nD τ).loc main_arg0)) := by
  refine (dats m 0 c).arrAt_eq_of_covers 2 _ (by decide +kernel) fun t _ y => ?_
  blk_simp
  rw [after0_2]
  obtain ⟨r, q, rfl⟩ : ∃ (r : Fin 1024) (q : Fin 128), y = ix2 r q := ⟨y 0, y 1, eq_ix2 y⟩
  frame_out
  pointwise [k0_pay2, k0_pay1, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [freq, posn]
  exact join_cos _ t.val (lt_of_lt_of_eq t.isLt N_0) r q _ _ (row2 t r q) (col2 t r q)

/-- The table of the sines is the reference's. -/
theorem final_s (c : Dev nD) : (dats m 0 c).arrAt 3 (cfgs 0).N
    = Cert.RopeTablesRefIdeal.Read.val_main_v25 (F := Ideal) (m ((c : Thread nD τ).loc main_arg0)) := by
  refine (dats m 0 c).arrAt_eq_of_covers 3 _ (by decide +kernel) fun t _ y => ?_
  blk_simp
  rw [after0_3]
  obtain ⟨r, q, rfl⟩ : ∃ (r : Fin 1024) (q : Fin 128), y = ix2 r q := ⟨y 0, y 1, eq_ix2 y⟩
  frame_out
  pointwise [k0_pay3, k0_pay1, val_main_v25, val_main_v24, val_main_v23, val_main_v22, val_main_v21, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [freq, posn]
  exact join_sin _ t.val (lt_of_lt_of_eq t.isLt N_0) r q _ _ (row3 t r q) (col3 t r q)

end Cert.RopeTablesIdeal.Tiles
end
-- ==== Proof.GdnGate.lean ====
/- The gates of mixer B: the arrays that the launch leaves are the reference's. -/
module

public import proofs.«01_k».proof.Proof.Gen.GdnGateIdeal.Value
public import proofs.«01_k».proof.Proof.Gen.GdnGateRefIdeal.Run
public import proofs.«01_k».proof.Proof.Gen.GdnGateRefIdeal.Read
public import Idealize.ShloMosaic.Lib.Pipeline.ValueKit

@[expose] public section

set_option maxRecDepth 16384

noncomputable section

open Idealize.ShloMosaic Idealize.ShloMosaic.TcCoe Idealize.SL.Sem

namespace Cert.GdnGateIdeal.Tiles
open Cert.GdnGateIdeal Cert.GdnGateIdeal.Gen
open Cert.GdnGateRefIdeal.Read
open Idealize.ShloMosaic.Pipeline (Dat)
variable (m : (ℓ : Loc nD τ sig) → Buf (Elt Ideal) ℓ)

theorem idx : ∀ t : Fin cfg0.N, win0_0.index t = ![t.val, 4] ∧ win0_1.index t = ![0, 0] ∧ win0_2.index t = ![0, 0] ∧ win0_3.index t = ![t.val, 0] ∧ win0_4.index t = ![t.val, 0] :=
  (by decide +kernel : ∀ t : Fin grid0.N, _)

/-! ## A sum over the window of positions up to one's own -/

/-- A left fold that adds is a sum. -/
theorem foldl_sum {N : ℕ} (f : Fin N → EReal) (z : EReal) : (List.finRange N).foldl (fun r n => r + f n) z = z + ∑ n, f n := by
  rw [Fin.sum_univ_def]
  generalize List.finRange N = l
  induction l generalizing z with
  | nil => simp
  | cons a l ih => rw [List.foldl_cons, ih, List.map_cons, List.sum_cons, add_assoc]

/-- The window of 64 positions that ends at `p` adds the positions up to `p`. -/
theorem window_sum (f : Fin 64 → EReal) (p : Fin 64) :
    (∑ n : Fin 64, if h : 63 ≤ p.val + n.val ∧ p.val + n.val - 63 < 64 then f ⟨p.val + n.val - 63, h.2⟩ else 0)
      = ∑ k : Fin 64, if k.val ≤ p.val then f k else 0 := by
  refine Fintype.sum_equiv (Equiv.addRight (p + 1)) _ _ fun n => ?_
  have hv : (Equiv.addRight (p + 1) n).val = (n.val + p.val + 1) % 64 := by
    simp only [Equiv.coe_addRight, Fin.val_add]
    have : (1 : Fin 64).val = 1 := rfl
    omega
  by_cases h : 63 ≤ p.val + n.val
  · rw [dif_pos ⟨h, by omega⟩, if_pos (by rw [hv]; omega)]
    refine congrArg f (Fin.ext ?_)
    rw [hv]
    show p.val + n.val - 63 = _
    omega
  · rw [dif_neg (fun hh => h hh.1), if_neg (by rw [hv]; omega)]

/-- The running sum along the middle axis, at an element. -/
theorem cum (x : Cert.GdnGateRefIdeal.S256x64x16.Idx → EReal) (init : Cert.GdnGateRefIdeal.S_.Idx → EReal) (hi : ∀ i, init i = 0)
    (h : Cert.GdnGateRefIdeal.S256x64x16.ReduceWindows ![1, 64, 1] ![1, 1, 1] ![0, 63, 0] ![0, 0, 0] Cert.GdnGateRefIdeal.S256x64x16)
    (hu : 0 < Cert.GdnGateRefIdeal.S_.numel) (b : Fin 256) (p : Fin 64) (d : Fin 16) :
    Host.reduceWindowAdd (F := Ideal) (φ := .f32) ![1, 64, 1] ![1, 1, 1] ![0, 63, 0] ![0, 0, 0] x init h hu (ix3 b p d)
      = ∑ k : Fin 64, if k.val ≤ p.val then x (ix3 b k d) else 0 := by
  rw [← window_sum (fun k => x (ix3 b k d)) p]
  show Ideal.hostReduceWindowAdd ![1, 64, 1] ![1, 1, 1] ![0, 63, 0] ![0, 0, 0] h x (init _) (ix3 b p d) = _
  rw [hi]
  unfold Ideal.hostReduceWindowAdd Host.reduceWindow
  dsimp only
  rw [foldl_sum, zero_add]
  have hN : (⟨3, ![1, 64, 1]⟩ : Shape).numel = 64 := by decide
  refine Fintype.sum_equiv (finCongr hN) _ _ fun n => ?_
  have e := congrArg Fin.val ((⟨3, ![1, 64, 1]⟩ : Shape).rowMajor.apply_symm_apply n)
  rw [Shape.rowMajor_val_three] at e
  let w := (⟨3, ![1, 64, 1]⟩ : Shape).rowMajor.symm n
  have l0 : (w 0).val < 1 := (w 0).isLt
  have l1 : (w 1).val < 64 := (w 1).isLt
  have l2 : (w 2).val < 1 := (w 2).isLt
  have e' : ((w 0).val * 64 + (w 1).val) * 1 + (w 2).val = n.val := e
  have hv : ((finCongr hN) n).val = (w 1).val := by show n.val = _; omega
  have hb := b.isLt
  have hd := d.isLt
  by_cases hc : 63 ≤ p.val + (w 1).val ∧ p.val + (w 1).val - 63 < 64
  · rw [dif_pos (show 63 ≤ p.val + ((finCongr hN) n).val ∧ p.val + ((finCongr hN) n).val - 63 < 64 by rw [hv]; exact hc), dif_pos (fun a => match a with
      | ⟨0, _⟩ => (show 0 ≤ b.val * 1 + (w 0).val ∧ b.val * 1 + (w 0).val - 0 < 256 by omega)
      | ⟨1, _⟩ => (show 63 ≤ p.val * 1 + (w 1).val ∧ p.val * 1 + (w 1).val - 63 < 64 by omega)
      | ⟨2, _⟩ => (show 0 ≤ d.val * 1 + (w 2).val ∧ d.val * 1 + (w 2).val - 0 < 16 by omega))]
    refine congrArg x (funext fun a => match a with
      | ⟨0, _⟩ => Fin.ext (show b.val * 1 + (w 0).val - 0 = b.val by omega)
      | ⟨1, _⟩ => Fin.ext (show p.val * 1 + (w 1).val - 63 = p.val + ((finCongr hN) n).val - 63 by omega)
      | ⟨2, _⟩ => Fin.ext (show d.val * 1 + (w 2).val - 0 = d.val by omega))
  · rw [dif_neg (show ¬(63 ≤ p.val + ((finCongr hN) n).val ∧ p.val + ((finCongr hN) n).val - 63 < 64) by rw [hv]; exact hc), dif_neg]
    intro hh
    have h1 : 63 ≤ p.val * 1 + (w 1).val ∧ p.val * 1 + (w 1).val - 63 < 64 := hh (1 : Fin 3)
    omega

/-! ## The masks -/

theorem mask_le : ∀ p k : Fin 64, IntOp.cmpi .sge (BitVec.ofNat 32 p.val) (BitVec.ofNat 32 k.val) = if k.val ≤ p.val then 1#1 else 0#1 := by decide +kernel
theorem mask_ge : ∀ p k : Fin 64, IntOp.cmpi .sle (BitVec.ofNat 32 p.val) (BitVec.ofNat 32 k.val) = if p.val ≤ k.val then 1#1 else 0#1 := by decide +kernel
theorem mask_half : ∀ q : Fin 32, IntOp.cmpi .slt (BitVec.ofNat 32 q.val) 16#32 = if q.val < 16 then 1#1 else 0#1 := by decide +kernel

theorem one_f32 : FloatOps.sitofp (F := Ideal) .f32 (BitVec.setWidth 32 1#1) = (1 : EReal) := by
  show (((BitVec.setWidth 32 1#1).toInt : ℝ) : EReal) = 1
  rw [show (BitVec.setWidth 32 1#1).toInt = 1 from by decide]
  norm_num

theorem zero_f32 : FloatOps.sitofp (F := Ideal) .f32 (BitVec.setWidth 32 0#1) = (0 : EReal) := by
  show (((BitVec.setWidth 32 0#1).toInt : ℝ) : EReal) = 0
  rw [show (BitVec.setWidth 32 0#1).toInt = 0 from by decide]
  norm_num

theorem lower (p k : Fin 64) : k0_pay4 (F := Ideal) (ix2 p k) = if k.val ≤ p.val then (1 : EReal) else 0 := by
  pointwise [k0_pay4]
  rw [mask_le]
  split
  · exact one_f32
  · exact zero_f32

theorem upper (p k : Fin 64) : k0_pay5 (F := Ideal) (ix2 p k) = if p.val ≤ k.val then (1 : EReal) else 0 := by
  pointwise [k0_pay5]
  rw [mask_ge]
  split
  · exact one_f32
  · exact zero_f32

theorem half (p : Fin 64) (q : Fin 32) : k0_pay6 (ix2 p q) = if q.val < 16 then 1#1 else 0#1 := by
  pointwise [k0_pay6]
  exact mask_half q

theorem select_one (a b : EReal) : Scalar.select 1#1 a b = a := by
  unfold Scalar.select
  rfl

theorem select_zero (a b : EReal) : Scalar.select 0#1 a b = b := by
  unfold Scalar.select
  rfl

/-- The element of a chunk's rows: the sum of the rows up to `p` in the first heads, from `p` on in the others. -/
def run (v : Vec Ideal S64x32 .f32) (p : Fin 64) (q : Fin 32) : EReal :=
  if q.val < 16 then ∑ k : Fin 64, (if k.val ≤ p.val then v (ix2 k q) else 0) else ∑ k : Fin 64, (if p.val ≤ k.val then v (ix2 k q) else 0)

/-- The two masked products of a chunk, the one or the other by the column, are that element. -/
theorem core (v : Vec Ideal S64x32 .f32) (p : Fin 64) (q : Fin 32) :
    select k0_pay6 (matmul (F := Ideal) (φ₁ := .f32) (φ₂ := .f32) dot_S64x64_S64x32_S64x32_1_0_0_1_n_n (some .fp32) (k0_pay4 (F := Ideal)) v (constant S64x32 .f32 0x00000000#32))
      (matmul (F := Ideal) (φ₁ := .f32) (φ₂ := .f32) dot_S64x64_S64x32_S64x32_1_0_0_1_n_n (some .fp32) (k0_pay5 (F := Ideal)) v (constant S64x32 .f32 0x00000000#32)) (ix2 p q) = run v p q := by
  unfold run
  pointwise
  rw [half]
  split
  · refine (select_one _ _).trans (Finset.sum_congr rfl fun k _ => ?_)
    rw [lower]
    split
    · exact one_mul _
    · exact zero_mul _
  · refine (select_zero _ _).trans (Finset.sum_congr rfl fun k _ => ?_)
    rw [upper]
    split
    · exact one_mul _
    · exact zero_mul _

/-- The loads of a point are its blocks. -/
theorem normed (x0 : Vec Ideal S512x128 .f32) (x1 x2 : Vec Ideal S1x32 .f32) :
    k0_pay2 (F := Ideal) (View.ld x0 r0_0) (View.ld x2 r0_1) (View.ld x1 r0_1) = k0_pay2 x0 x2 x1 := by
  rw [show View.ld x0 r0_0 = x0 from View.ld_unit_lit _ x0 (by decide), show View.ld x1 r0_1 = x1 from View.ld_unit_lit _ x1 (by decide),
    show View.ld x2 r0_1 = x2 from View.ld_unit_lit _ x2 (by decide)]

/-- Row `k` of chunk `n` of a block, column `q`. -/
def chunk (w : Vec Ideal S512x32 .f32) (n : Fin 8) : Vec Ideal S64x32 .f32 := fun i =>
  w (ix2 (⟨n.val * 64 + (i 0).val, by have h : (i 0).val < 64 := (i 0).isLt; omega⟩ : Fin 512) (i 1))

/-- Every store of a point is the same formula of its chunk. -/
theorem tiles (x0 : Vec Ideal S512x128 .f32) (x1 x2 : Vec Ideal S1x32 .f32) (y : S512x32.Idx) (n : Fin 8) (p : Fin 64) (q : Fin 32)
    (hn : n.val = (y 0).val / 64) (hp : p.val = (y 0).val % 64) (hq : q.val = (y 1).val) :
    out0_3 (F := Ideal) x0 x1 x2 y = run (chunk (k0_pay2 x0 x2 x1) n) p q := by
  unfold_out out0_3
  canon_tiles x h
  all_goals
    first
    | unfold k0_pay1 k0_pay15
    | unfold k0_pay14
    | unfold k0_pay13
    | unfold k0_pay12
    | unfold k0_pay11
    | unfold k0_pay10
    | unfold k0_pay9 k0_pay8
    | unfold k0_pay7
    rw [normed]
    generalize k0_pay2 (F := Ideal) x0 x2 x1 = w
    obtain rfl : x = ix2 p q := (eq_ix2 x).trans (congrArg₂ ix2 (Fin.ext (by omega)) (Fin.ext (by omega)))
    refine (core _ p q).trans (congrArg (fun v => run v p q) (funext fun i => ?_))
    unfold chunk
    pointwise
    blk_point []

theorem final_b (c : Dev nD) : (dats m 0 c).arrAt 4 (cfgs 0).N
    = Cert.GdnGateRefIdeal.Read.val_main_v28 (F := Ideal) (m ((c : Thread nD τ).loc main_arg0)) := by
  refine (dats m 0 c).arrAt_eq_of_covers 4 _ (by decide +kernel) fun t _ y => ?_
  blk_simp
  rw [after0_4]
  frame_out
  unfold k0_pay3
  pointwise [Ideal.logistic, val_main_v28, val_main_v27, val_main_v26, val_main_v25, val_main_v24, val_main_v23, val_main_v2, val_main_cst, val_main_cst_0]
  blk_point [iblk, V, idx t]

/-! ## The decays -/

/-- The decay of a rate and of a step before its softplus. -/
def decay (a z : EReal) : EReal := -Ideal.exp a * (max z 0 + Ideal.log1p (Ideal.exp (-FloatOps.absf (F := Ideal) (φ := .f32) z)))

/-- One decay of the reference, before the sums. -/
theorem gref (X : Vec Ideal Cert.GdnGateRefIdeal.S16384x640 .f32) (A B : Vec Ideal Cert.GdnGateRefIdeal.S2x16 .f32) (r : Fin 16384) (s : Fin 2) (d : Fin 16) :
   val_main_v11 (F := Ideal) X A B (ix3 r s d) = decay (A (ix2 s d)) (X (ix2 r (⟨576 + (s.val * 16 + d.val), by omega⟩ : Fin 640)) + B (ix2 s d)) := by
  pointwise [val_main_v11, val_main_v10, val_main_v9, val_main_v8, val_main_v7, val_main_v6, val_main_v5, val_main_v4, val_main_v3, val_main_v1, val_main_v0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
  rw [if_neg (not_not.mpr rfl)]
  rfl

/-- One decay of a point. -/
theorem gker (x0 : Vec Ideal S512x128 .f32) (x1 x2 : Vec Ideal S1x32 .f32) (r : Fin 512) (q : Fin 32) :
    k0_pay2 (F := Ideal) x0 x2 x1 (ix2 r q) = decay (x1 (ix2 0 q)) (x0 (ix2 r (⟨64 + q.val, by omega⟩ : Fin 128)) + x2 (ix2 0 q)) := by
  pointwise [k0_pay2]
  rw [zero_sub, zero_sub]
  rfl

/-- The block of the projections, at an element. -/
theorem block0 (c : Dev nD) (t : Fin cfg0.N) (r : Fin 512) (q : Fin 128) :
    iblk m c 0 t (ix2 r q) = m ((c : Thread nD τ).loc main_arg0) (ix2 (⟨t.val * 512 + r.val, by have := lt_of_lt_of_eq t.isLt N_0; omega⟩ : Fin 16384) (⟨512 + q.val, by omega⟩ : Fin 640)) := by
  blk_ext [iblk, V, idx t]

/-- The block of the rates, at an element. -/
theorem block1 (c : Dev nD) (t : Fin cfg0.N) (q : Fin 32) :
    iblk m c 1 t (ix2 (0 : Fin 1) q) = m ((c : Thread nD τ).loc main_arg1) (ix2 (⟨q.val / 16, by omega⟩ : Fin 2) (⟨q.val % 16, by omega⟩ : Fin 16)) := by
  blk_ext! [iblk, V, idx t]

/-- The block of the offsets, at an element. -/
theorem block2 (c : Dev nD) (t : Fin cfg0.N) (q : Fin 32) :
    iblk m c 2 t (ix2 (0 : Fin 1) q) = m ((c : Thread nD τ).loc main_arg2) (ix2 (⟨q.val / 16, by omega⟩ : Fin 2) (⟨q.val % 16, by omega⟩ : Fin 16)) := by
  blk_ext! [iblk, V, idx t]

/-- A decay of a point is one of the reference's. -/
theorem same (c : Dev nD) (t : Fin cfg0.N) (r : Fin 512) (q : Fin 32) :
    k0_pay2 (F := Ideal) (iblk m c 0 t) (iblk m c 2 t) (iblk m c 1 t) (ix2 r q)
      = val_main_v11 (F := Ideal) (m ((c : Thread nD τ).loc main_arg0)) (m ((c : Thread nD τ).loc main_arg1)) (m ((c : Thread nD τ).loc main_arg2))
        (ix3 (⟨t.val * 512 + r.val, by have := lt_of_lt_of_eq t.isLt N_0; omega⟩ : Fin 16384) (⟨q.val / 16, by omega⟩ : Fin 2) (⟨q.val % 16, by omega⟩ : Fin 16)) := by
  refine (gker _ _ _ r q).trans ((gref _ _ _ _ _ _).trans ?_).symm
  simp only [block0, block1, block2]
  refine congrArg (decay _) (congrArg (· + _) (congrArg (m ((c : Thread nD τ).loc main_arg0)) (congrArg (ix2 _) (Fin.ext ?_))))
  show 576 + (q.val / 16 * 16 + q.val % 16) = 512 + (64 + q.val)
  omega

/-! ## The sums of the reference -/

/-- The forward sum of the reference, at an element. -/
theorem fwd (X : Vec Ideal Cert.GdnGateRefIdeal.S16384x640 .f32) (A B : Vec Ideal Cert.GdnGateRefIdeal.S2x16 .f32) (b : Fin 256) (p : Fin 64) (d : Fin 16) :
    val_main_v15 (F := Ideal) X A B (ix3 b p d)
      = ∑ k : Fin 64, if k.val ≤ p.val then val_main_v11 (F := Ideal) X A B (ix3 (⟨b.val * 64 + k.val, by omega⟩ : Fin 16384) (0 : Fin 2) d) else 0 := by
  unfold val_main_v15
  refine (cum _ _ (fun i => Ideal.ofBits_zero_f32) _ _ b p d).trans (Finset.sum_congr rfl fun k _ => ?_)
  congr 1
  pointwise [val_main_v14, val_main_v13, val_main_v12]

/-- The reversed array, at an element. -/
theorem flip (x : Cert.GdnGateRefIdeal.S256x64x16.Idx → EReal) (b : Fin 256) (p : Fin 64) (d : Fin 16) :
    Host.reverse (s := Cert.GdnGateRefIdeal.S256x64x16) [1] x (ix3 b p d) = x (ix3 b p.rev d) := by
  pointwise
  rfl

/-- The backward sum of the reference, at an element. -/
theorem bwd (X : Vec Ideal Cert.GdnGateRefIdeal.S16384x640 .f32) (A B : Vec Ideal Cert.GdnGateRefIdeal.S2x16 .f32) (b : Fin 256) (p : Fin 64) (d : Fin 16) :
    val_main_v20 (F := Ideal) X A B (ix3 b p d)
      = ∑ k : Fin 64, if p.val ≤ k.val then val_main_v11 (F := Ideal) X A B (ix3 (⟨b.val * 64 + k.val, by omega⟩ : Fin 16384) (1 : Fin 2) d) else 0 := by
  unfold val_main_v20
  refine (flip _ b p d).trans ?_
  unfold val_main_v19
  refine (cum _ _ (fun i => Ideal.ofBits_zero_f32) _ _ b p.rev d).trans (Fintype.sum_equiv Fin.revPerm _ _ fun k => ?_)
  have hk : (Fin.revPerm k : Fin 64).val = 63 - k.val := by
    show k.rev.val = _
    rw [Fin.val_rev]
    omega
  have hp : p.rev.val = 63 - p.val := by
    rw [Fin.val_rev]
    omega
  refine if_congr (by omega) ?_ rfl
  unfold val_main_v18
  refine (flip _ b k d).trans ?_
  pointwise [val_main_v17, val_main_v16, val_main_v12]
  blk_point []
  rw [hk, Fin.val_rev]
  omega

/-! ## The arrays -/

/-- Rows of a point's block among all rows. -/
theorem place0 (t : Fin cfg0.N) (r : Fin 512) (q : Fin 32) : ((((View.whole main_v2_0).slice (win0_3.rect t)).emb (ix2 r q)) 0).val = t.val * 512 + r.val := by
  blk_simp [idx t]

/-- Columns of a point's block among all columns. -/
theorem place1 (t : Fin cfg0.N) (r : Fin 512) (q : Fin 32) : ((((View.whole main_v2_0).slice (win0_3.rect t)).emb (ix2 r q)) 1).val = q.val := by
  blk_simp [idx t]

/-- The sum at the coordinates of a block is the sum at the coordinates of the arrays. -/
theorem join (w : Vec Ideal S512x32 .f32) (G : Cert.GdnGateRefIdeal.S16384x2x16.Idx → EReal) (t : ℕ) (ht : t < 32)
    (hw : ∀ (r : Fin 512) (q : Fin 32), w (ix2 r q) = G (ix3 (⟨t * 512 + r.val, by omega⟩ : Fin 16384) (⟨q.val / 16, by omega⟩ : Fin 2) (⟨q.val % 16, by omega⟩ : Fin 16)))
    (r : Fin 512) (q : Fin 32) (i : Fin 16384) (j : Fin 32) (hi : i.val = t * 512 + r.val) (hj : j.val = q.val) :
    run (chunk w ⟨r.val / 64, by omega⟩) ⟨r.val % 64, by omega⟩ q
      = if h : j.val < 16 then ∑ k : Fin 64, (if k.val ≤ i.val % 64 then G (ix3 (⟨i.val / 64 * 64 + k.val, by omega⟩ : Fin 16384) (0 : Fin 2) (⟨j.val, h⟩ : Fin 16)) else 0)
        else ∑ k : Fin 64, (if i.val % 64 ≤ k.val then G (ix3 (⟨i.val / 64 * 64 + k.val, by omega⟩ : Fin 16384) (1 : Fin 2) (⟨j.val - 16, by omega⟩ : Fin 16)) else 0) := by
  have hq := q.isLt
  have hr := r.isLt
  have e : ∀ k : Fin 64, chunk w (⟨r.val / 64, by omega⟩ : Fin 8) (ix2 k q)
      = G (ix3 (⟨t * 512 + (r.val / 64 * 64 + k.val), by omega⟩ : Fin 16384) (⟨q.val / 16, by omega⟩ : Fin 2) (⟨q.val % 16, by omega⟩ : Fin 16)) := fun k =>
    hw (⟨r.val / 64 * 64 + k.val, by omega⟩ : Fin 512) q
  unfold run
  by_cases h : j.val < 16
  · rw [dif_pos h, if_pos (by omega)]
    refine Finset.sum_congr rfl fun k _ => if_congr (by show k.val ≤ r.val % 64 ↔ _; omega) ((e k).trans (congrArg G ?_)) rfl
    exact congr (congrArg₂ ix3 (Fin.ext (by show t * 512 + (r.val / 64 * 64 + k.val) = i.val / 64 * 64 + k.val; omega)) (Fin.ext (by show q.val / 16 = 0; omega))) (Fin.ext (by show q.val % 16 = j.val; omega))
  · rw [dif_neg h, if_neg (by omega)]
    refine Finset.sum_congr rfl fun k _ => if_congr (by show r.val % 64 ≤ k.val ↔ _; omega) ((e k).trans (congrArg G ?_)) rfl
    exact congr (congrArg₂ ix3 (Fin.ext (by show t * 512 + (r.val / 64 * 64 + k.val) = i.val / 64 * 64 + k.val; omega)) (Fin.ext (by show q.val / 16 = 1; omega))) (Fin.ext (by show q.val % 16 = j.val - 16; omega))

theorem final_g (c : Dev nD) : (dats m 0 c).arrAt 3 (cfgs 0).N
    = Cert.GdnGateRefIdeal.Read.val_main_v22 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, q, rfl⟩ : ∃ (r : Fin 512) (q : Fin 32), y = ix2 r q := ⟨y 0, y 1, eq_ix2 y⟩
  refine (tiles _ _ _ (ix2 r q) ⟨r.val / 64, by omega⟩ ⟨r.val % 64, by omega⟩ q rfl rfl rfl).trans ?_
  pointwise [val_main_v22, val_main_v21]
  simp only [fwd, bwd]
  exact join _ _ t.val (lt_of_lt_of_eq t.isLt N_0) (fun r q => same m c t r q) r q _ _ (place0 t r q) (place1 t r q)

end Cert.GdnGateIdeal.Tiles
end
-- ==== Proof.GdnConv.lean ====
/- The short convolution of mixer B. -/
module

public import proofs.«01_k».proof.Proof.Gen.GdnConvIdeal.Value
public import proofs.«01_k».proof.Proof.Gen.GdnConvRefIdeal.Run
public import proofs.«01_k».proof.Proof.Gen.GdnConvRefIdeal.Read
public import Idealize.ShloMosaic.Lib.Pipeline.ValueKit

@[expose] public section

set_option maxRecDepth 16384

noncomputable section

open Idealize.ShloMosaic Idealize.ShloMosaic.TcCoe Idealize.SL.Sem

namespace Cert.GdnConvIdeal.Tiles
open Cert.GdnConvIdeal Cert.GdnConvIdeal.Gen
open Cert.GdnConvRefIdeal.Read
open Idealize.ShloMosaic.Pipeline (Dat)
variable (m : (ℓ : Loc nD τ sig) → Buf (Elt Ideal) ℓ)

theorem idx : ∀ t : Fin cfg0.N, win0_0.index t = ![t.val / 96, t.val / 3 % 32, t.val % 3]
    ∧ win0_1.index t = ![t.val / 96, t.val / 3 % 32 * 32 - 1, t.val % 3]
    ∧ win0_2.index t = ![t.val / 96, min (t.val / 3 % 32 * 32 + 32) 1023, t.val % 3]
    ∧ win0_3.index t = ![0, t.val % 3] ∧ win0_4.index t = ![t.val / 96, t.val / 3 % 32, t.val % 3] :=
  (by decide +kernel : ∀ t : Fin grid0.N, _)

theorem coord : ∀ t : Fin cfg0.N, (grid0.coords t 1).val = t.val / 3 % 32 ∧ (grid0.coords t 2).val = t.val % 3 :=
  (by decide +kernel : ∀ t : Fin grid0.N, _)

/-! ## The scratch rows -/

/-- Row `k` of the scratch array: 8 rows of the block before, the block's 256, 8 of the block after. -/
def strip (A : Vec Ideal S8x2048 .f32) (B : Vec Ideal S256x2048 .f32) (C : Vec Ideal S8x2048 .f32) (k : ℕ) (q : Fin 2048) : EReal :=
  if h : k < 8 then A (ix2 (⟨k, h⟩ : Fin 8) q) else if h : k < 264 then B (ix2 (⟨k - 8, by omega⟩ : Fin 256) q)
    else if h : k < 272 then C (ix2 (⟨k - 264, by omega⟩ : Fin 8) q) else 0

theorem canon_at (A : Vec Ideal S8x2048 .f32) (B : Vec Ideal S256x2048 .f32) (C : Vec Ideal S8x2048 .f32) (y : S272x2048.Idx) (k : ℕ) (hk : k = (y 0).val) (q : Fin 2048) (hq : q.val = (y 1).val) :
    View.canon (Val := Elt Ideal) (e := .f32) [⟨Rect.unit ![264, 0] ![8, 2048] inb_S272x2048_S8x2048_264_0, C⟩, ⟨Rect.unit ![8, 0] ![256, 2048] inb_S272x2048_S256x2048_8_0, B⟩,
        ⟨Rect.unit ![0, 0] ![8, 2048] inb_S272x2048_S8x2048_0_0, A⟩] y = strip A B C k q := by
  have h0 : (y 0).val < 272 := (y 0).isLt
  have h1 : (y 1).val < 2048 := (y 1).isLt
  have hcover : ∃ p ∈ ([⟨Rect.unit ![264, 0] ![8, 2048] inb_S272x2048_S8x2048_264_0, C⟩, ⟨Rect.unit ![8, 0] ![256, 2048] inb_S272x2048_S256x2048_8_0, B⟩,
        ⟨Rect.unit ![0, 0] ![8, 2048] inb_S272x2048_S8x2048_0_0, A⟩] : List (View.Piece (Elt Ideal) S272x2048 .f32)), y ∈ p.fst.set := by
    by_cases c1 : 264 ≤ (y 0).val
    · refine ⟨⟨Rect.unit ![264, 0] ![8, 2048] inb_S272x2048_S8x2048_264_0, C⟩, List.mem_cons_self, ?_⟩
      show y ∈ (Rect.unit (s := S272x2048) ![264, 0] ![8, 2048] inb_S272x2048_S8x2048_264_0).set
      exact Rect.mem_set_unit.mpr fun a => match a with
        | ⟨0, _⟩ => (show 264 ≤ (y 0).val ∧ (y 0).val < 264 + 8 by omega)
        | ⟨1, _⟩ => (show 0 ≤ (y 1).val ∧ (y 1).val < 0 + 2048 by omega)
    · by_cases c2 : 8 ≤ (y 0).val
      · refine ⟨⟨Rect.unit ![8, 0] ![256, 2048] inb_S272x2048_S256x2048_8_0, B⟩, List.mem_cons_of_mem _ List.mem_cons_self, ?_⟩
        show y ∈ (Rect.unit (s := S272x2048) ![8, 0] ![256, 2048] inb_S272x2048_S256x2048_8_0).set
        exact Rect.mem_set_unit.mpr fun a => match a with
          | ⟨0, _⟩ => (show 8 ≤ (y 0).val ∧ (y 0).val < 8 + 256 by omega)
          | ⟨1, _⟩ => (show 0 ≤ (y 1).val ∧ (y 1).val < 0 + 2048 by omega)
      · refine ⟨⟨Rect.unit ![0, 0] ![8, 2048] inb_S272x2048_S8x2048_0_0, A⟩, List.mem_cons_of_mem _ (List.mem_cons_of_mem _ List.mem_cons_self), ?_⟩
        show y ∈ (Rect.unit (s := S272x2048) ![0, 0] ![8, 2048] inb_S272x2048_S8x2048_0_0).set
        exact Rect.mem_set_unit.mpr fun a => match a with
          | ⟨0, _⟩ => (show 0 ≤ (y 0).val ∧ (y 0).val < 0 + 8 by omega)
          | ⟨1, _⟩ => (show 0 ≤ (y 1).val ∧ (y 1).val < 0 + 2048 by omega)
  canon_tiles x h using hcover
  case piece0 =>
    unfold strip
    rw [dif_neg (by omega), dif_neg (by omega), dif_pos (by omega)]
    exact congrArg C ((eq_ix2 x).trans (congrArg₂ ix2 (Fin.ext (by show (x 0).val = k - 264; omega)) (Fin.ext (by show (x 1).val = q.val; omega))))
  case piece1 =>
    unfold strip
    rw [dif_neg (by omega), dif_pos (by omega)]
    exact congrArg B ((eq_ix2 x).trans (congrArg₂ ix2 (Fin.ext (by show (x 0).val = k - 8; omega)) (Fin.ext (by show (x 1).val = q.val; omega))))
  case piece2 =>
    unfold strip
    rw [dif_pos (by omega)]
    exact congrArg A ((eq_ix2 x).trans (congrArg₂ ix2 (Fin.ext (by show (x 0).val = k; omega)) (Fin.ext (by show (x 1).val = q.val; omega))))

theorem load_at (A : Vec Ideal S8x2048 .f32) (B : Vec Ideal S256x2048 .f32) (C : Vec Ideal S8x2048 .f32) (o : ℕ)
    (inb : ∀ a, (![o, 0] : Fin 2 → ℕ) a + (![256, 2048] : Fin 2 → ℕ) a ≤ S272x2048.size a) (r : Fin 256) (q : Fin 2048) :
    ((View.whole cc0_scratch0).readCov (Val := Elt Ideal) [⟨Rect.unit ![264, 0] ![8, 2048] inb_S272x2048_S8x2048_264_0, C⟩, ⟨Rect.unit ![8, 0] ![256, 2048] inb_S272x2048_S256x2048_8_0, B⟩,
        ⟨Rect.unit ![0, 0] ![8, 2048] inb_S272x2048_S8x2048_0_0, A⟩] (Rect.unit (s := S272x2048) ![o, 0] ![256, 2048] inb).toLoadRect : S256x2048.Idx → EReal) (ix2 r q) = strip A B C (o + r.val) q := by
  rw [View.readCov_eq_canon']
  refine canon_at A B C _ _ ?_ q ?_
  · show o + r.val = o + 1 * r.val
    omega
  · show q.val = 0 + 1 * q.val
    omega

/-- The convolution, through the silu, of a point. -/
def gated (i : grid0.Coords) (x0 : Vec Ideal S1x256x2048 .f32) (x1 x2 : Vec Ideal S1x8x2048 .f32) (x3 : Vec Ideal S5x2048 .f32) : FVec Ideal S256x2048 .f32 :=
  k0_pay6 (F := Ideal) (k0_pay5 (View.ld x3 (Rect.unit ![0, 0] ![1, 2048] inb_S5x2048_S1x2048_0_0))
        ((View.whole cc0_scratch0).readCov
          [⟨Rect.unit ![264, 0] ![8, 2048] inb_S272x2048_S8x2048_264_0, k0_pay4 (F := Ideal) i x2⟩, ⟨Rect.unit ![8, 0] ![256, 2048] inb_S272x2048_S256x2048_8_0, k0_pay3 (F := Ideal) x0⟩,
            ⟨Rect.unit ![0, 0] ![8, 2048] inb_S272x2048_S8x2048_0_0, k0_pay2 (F := Ideal) i x1⟩]
          (Rect.unit ![6, 0] ![256, 2048] inb_S272x2048_S256x2048_6_0).toLoadRect))
      (View.ld x3 (Rect.unit ![1, 0] ![1, 2048] inb_S5x2048_S1x2048_1_0))
      ((View.whole cc0_scratch0).readCov
          [⟨Rect.unit ![264, 0] ![8, 2048] inb_S272x2048_S8x2048_264_0, k0_pay4 (F := Ideal) i x2⟩, ⟨Rect.unit ![8, 0] ![256, 2048] inb_S272x2048_S256x2048_8_0, k0_pay3 (F := Ideal) x0⟩,
            ⟨Rect.unit ![0, 0] ![8, 2048] inb_S272x2048_S8x2048_0_0, k0_pay2 (F := Ideal) i x1⟩]
          (Rect.unit ![7, 0] ![256, 2048] inb_S272x2048_S256x2048_7_0).toLoadRect)
      (View.ld x3 (Rect.unit ![2, 0] ![1, 2048] inb_S5x2048_S1x2048_2_0))
      ((View.whole cc0_scratch0).readCov
          [⟨Rect.unit ![264, 0] ![8, 2048] inb_S272x2048_S8x2048_264_0, k0_pay4 (F := Ideal) i x2⟩, ⟨Rect.unit ![8, 0] ![256, 2048] inb_S272x2048_S256x2048_8_0, k0_pay3 (F := Ideal) x0⟩,
            ⟨Rect.unit ![0, 0] ![8, 2048] inb_S272x2048_S8x2048_0_0, k0_pay2 (F := Ideal) i x1⟩]
          (Rect.unit ![8, 0] ![256, 2048] inb_S272x2048_S256x2048_8_0).toLoadRect)
      (View.ld x3 (Rect.unit ![3, 0] ![1, 2048] inb_S5x2048_S1x2048_3_0))
      ((View.whole cc0_scratch0).readCov
          [⟨Rect.unit ![264, 0] ![8, 2048] inb_S272x2048_S8x2048_264_0, k0_pay4 (F := Ideal) i x2⟩, ⟨Rect.unit ![8, 0] ![256, 2048] inb_S272x2048_S256x2048_8_0, k0_pay3 (F := Ideal) x0⟩,
            ⟨Rect.unit ![0, 0] ![8, 2048] inb_S272x2048_S8x2048_0_0, k0_pay2 (F := Ideal) i x1⟩]
          (Rect.unit ![9, 0] ![256, 2048] inb_S272x2048_S256x2048_9_0).toLoadRect)
      (View.ld x3 (Rect.unit ![4, 0] ![1, 2048] inb_S5x2048_S1x2048_4_0))
      ((View.whole cc0_scratch0).readCov
          [⟨Rect.unit ![264, 0] ![8, 2048] inb_S272x2048_S8x2048_264_0, k0_pay4 (F := Ideal) i x2⟩, ⟨Rect.unit ![8, 0] ![256, 2048] inb_S272x2048_S256x2048_8_0, k0_pay3 (F := Ideal) x0⟩,
            ⟨Rect.unit ![0, 0] ![8, 2048] inb_S272x2048_S8x2048_0_0, k0_pay2 (F := Ideal) i x1⟩]
          (Rect.unit ![10, 0] ![256, 2048] inb_S272x2048_S256x2048_10_0).toLoadRect)

/-- The element of head `h` that a point stores. -/
def cell (Y : FVec Ideal S256x2048 .f32) (a : BitVec 32) (s : EReal) (h : Fin 16) (r : Fin 256) (d : Fin 128) : EReal :=
  Y (ix2 r (⟨h.val * 128 + d.val, by omega⟩ : Fin 2048))
    * Scalar.select (Scalar.cmpi .slt a 2#32)
      (Ideal.rsqrt ((∑ k : Fin 128, Y (ix2 r (⟨h.val * 128 + k.val, by omega⟩ : Fin 2048)) * Y (ix2 r (⟨h.val * 128 + k.val, by omega⟩ : Fin 2048))) + Ideal.ofBits .f32 0x358637BD#32) * s) 1

theorem tiles (c : Dev nD) (t : Fin cfg0.N) (y : S1x256x2048.Idx) (h : Fin 16) (r : Fin 256) (d : Fin 128) (hh : h.val = (y 2).val / 128) (hr : r.val = (y 1).val) (hd : d.val = (y 2).val % 128) :
    outsAt0 m c t y = cell (gated (grid0.coords t) (iblk m c 0 t) (iblk m c 1 t) (iblk m c 2 t) (iblk m c 3 t)) (BitVec.ofNat 32 (grid0.coords t 2).val) (k0_pay7 (F := Ideal) (BitVec.ofNat 32 (grid0.coords t 2).val)) h r d := by
  generalize hY : gated (grid0.coords t) (iblk m c 0 t) (iblk m c 1 t) (iblk m c 2 t) (iblk m c 3 t) = Y
  unfold gated at hY
  unfold outsAt0
  frame_out
  canon_tiles x g
  case piece15 =>
    unfold k0_pay8
    rw [hY]
    clear hY
    open_payloads
    unfold cell
    pointwise
    blk_point []
  all_goals
    rw [hY]
    clear hY
    open_payloads
    unfold cell
    pointwise
    blk_point []

theorem mask_gt : ∀ a : Fin 32, Scalar.cmpi .sgt (BitVec.ofNat 32 a.val) 0#32 = if 0 < a.val then 1#1 else 0#1 := by decide +kernel
theorem mask_lt : ∀ a : Fin 32, Scalar.cmpi .slt (BitVec.ofNat 32 a.val) 31#32 = if a.val < 31 then 1#1 else 0#1 := by decide +kernel

theorem before_at (i : grid0.Coords) (x : Vec Ideal S1x8x2048 .f32) (k : Fin 8) (q : Fin 2048) :
    k0_pay2 (F := Ideal) i x (ix2 k q) = if 0 < (i 1).val then x (ix3 (0 : Fin 1) k q) else 0 := by
  unfold k0_pay2
  dsimp only
  rw [mask_gt (i 1)]
  unfold Scalar.select
  split
  · rw [if_pos (show (1#1 : BitVec 1) = 1 from rfl)]
    pointwise
  · rw [if_neg (show ¬(0#1 : BitVec 1) = 1 by decide)]
    pointwise

theorem after_at (i : grid0.Coords) (x : Vec Ideal S1x8x2048 .f32) (k : Fin 8) (q : Fin 2048) :
    k0_pay4 (F := Ideal) i x (ix2 k q) = if (i 1).val < 31 then x (ix3 (0 : Fin 1) k q) else 0 := by
  unfold k0_pay4
  dsimp only
  rw [mask_lt (i 1)]
  unfold Scalar.select
  split
  · rw [if_pos (show (1#1 : BitVec 1) = 1 from rfl)]
    pointwise
  · rw [if_neg (show ¬(0#1 : BitVec 1) = 1 by decide)]
    pointwise

theorem mid_at (x : Vec Ideal S1x256x2048 .f32) (k : Fin 256) (q : Fin 2048) : k0_pay3 (F := Ideal) x (ix2 k q) = x (ix3 (0 : Fin 1) k q) := by
  pointwise [k0_pay3]

theorem padded (X : Vec Ideal Cert.GdnConvRefIdeal.S16384x8192 .f32) (b : Fin 2) (n : Fin 8196) (q : Fin 6144) :
    val_main_v2 (F := Ideal) X (ix3 b n q) = if h : 2 ≤ n.val ∧ n.val < 8194 then X (ix2 (⟨b.val * 8192 + (n.val - 2), by omega⟩ : Fin 16384) (⟨q.val, by omega⟩ : Fin 8192)) else 0 := by
  pointwise [val_main_v2, val_main_v1, val_main_v0, val_main_call0_v0]
  have hn := n.isLt
  by_cases h : 2 ≤ n.val ∧ n.val < 8194
  · rw [dif_pos h, dif_pos ⟨h.1, by omega⟩]
  · rw [dif_neg h, dif_neg (fun g => h ⟨g.1, by omega⟩)]
    show (((0#32).toInt : ℝ) : EReal) = 0
    rw [show (0#32).toInt = 0 from by decide]
    norm_num

theorem conv_ref (X : Vec Ideal Cert.GdnConvRefIdeal.S16384x8192 .f32) (W : Vec Ideal Cert.GdnConvRefIdeal.S5x6144 .f32) (b : Fin 2) (n : Fin 8192) (q : Fin 6144) :
    val_main_v36 (F := Ideal) X W (ix3 b n q)
      = W (ix2 (0 : Fin 5) q) * val_main_v2 (F := Ideal) X (ix3 b (⟨n.val, by omega⟩ : Fin 8196) q) + W (ix2 (1 : Fin 5) q) * val_main_v2 (F := Ideal) X (ix3 b (⟨1 + n.val, by omega⟩ : Fin 8196) q)
        + W (ix2 (2 : Fin 5) q) * val_main_v2 (F := Ideal) X (ix3 b (⟨2 + n.val, by omega⟩ : Fin 8196) q) + W (ix2 (3 : Fin 5) q) * val_main_v2 (F := Ideal) X (ix3 b (⟨3 + n.val, by omega⟩ : Fin 8196) q)
        + W (ix2 (4 : Fin 5) q) * val_main_v2 (F := Ideal) X (ix3 b (⟨4 + n.val, by omega⟩ : Fin 8196) q) := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3]

/-- The silu. -/
def silu (z : EReal) : EReal := z * Ideal.logistic z

theorem silu_ref (X : Vec Ideal Cert.GdnConvRefIdeal.S16384x8192 .f32) (W : Vec Ideal Cert.GdnConvRefIdeal.S5x6144 .f32) (y : Cert.GdnConvRefIdeal.S2x8192x6144.Idx) :
    val_main_v37 (F := Ideal) X W y = silu (val_main_v36 (F := Ideal) X W y) := by
  unfold silu Ideal.logistic
  pointwise [val_main_v37, val_main_call1_v5, val_main_call1_v4, val_main_call1_v3, val_main_call1_v2, val_main_call1_v1, val_main_call1_v0, val_main_call1_cst, val_main_call1_cst_0]
  try rfl

theorem pay_at (w0 w1 w2 w3 w4 : Vec Ideal S1x2048 .f32) (l0 l1 l2 l3 l4 : Vec Ideal S256x2048 .f32) (r : Fin 256) (q : Fin 2048) :
    k0_pay6 (F := Ideal) (k0_pay5 w0 l0) w1 l1 w2 l2 w3 l3 w4 l4 (ix2 r q)
      = silu (w0 (ix2 (0 : Fin 1) q) * l0 (ix2 r q) + w1 (ix2 (0 : Fin 1) q) * l1 (ix2 r q) + w2 (ix2 (0 : Fin 1) q) * l2 (ix2 r q) + w3 (ix2 (0 : Fin 1) q) * l3 (ix2 r q) + w4 (ix2 (0 : Fin 1) q) * l4 (ix2 r q)) := by
  unfold silu
  pointwise [k0_pay6, k0_pay5]

theorem row_at (x : Vec Ideal S5x2048 .f32) (o : Fin 5) (inb : ∀ a, (![o.val, 0] : Fin 2 → ℕ) a + (![1, 2048] : Fin 2 → ℕ) a ≤ S5x2048.size a) (q : Fin 2048) :
    (View.ld (Val := Elt Ideal) x (Rect.unit (s := S5x2048) ![o.val, 0] ![1, 2048] inb) : S1x2048.Idx → EReal) (ix2 (0 : Fin 1) q) = x (ix2 o q) := by
  refine congrArg (x : S5x2048.Idx → EReal) (funext fun (a : Fin 2) => match a with
    | ⟨0, _⟩ => Fin.ext (show o.val + 1 * 0 = o.val by omega)
    | ⟨1, _⟩ => Fin.ext (show 0 + 1 * q.val = q.val by omega))

theorem gated_at (i : grid0.Coords) (x0 : Vec Ideal S1x256x2048 .f32) (x1 x2 : Vec Ideal S1x8x2048 .f32) (x3 : Vec Ideal S5x2048 .f32) (r : Fin 256) (q : Fin 2048) :
    gated i x0 x1 x2 x3 (ix2 r q)
      = silu (x3 (ix2 (0 : Fin 5) q) * strip (k0_pay2 (F := Ideal) i x1) (k0_pay3 (F := Ideal) x0) (k0_pay4 (F := Ideal) i x2) (6 + r.val) q
        + x3 (ix2 (1 : Fin 5) q) * strip (k0_pay2 (F := Ideal) i x1) (k0_pay3 (F := Ideal) x0) (k0_pay4 (F := Ideal) i x2) (7 + r.val) q
        + x3 (ix2 (2 : Fin 5) q) * strip (k0_pay2 (F := Ideal) i x1) (k0_pay3 (F := Ideal) x0) (k0_pay4 (F := Ideal) i x2) (8 + r.val) q
        + x3 (ix2 (3 : Fin 5) q) * strip (k0_pay2 (F := Ideal) i x1) (k0_pay3 (F := Ideal) x0) (k0_pay4 (F := Ideal) i x2) (9 + r.val) q
        + x3 (ix2 (4 : Fin 5) q) * strip (k0_pay2 (F := Ideal) i x1) (k0_pay3 (F := Ideal) x0) (k0_pay4 (F := Ideal) i x2) (10 + r.val) q) := by
  unfold gated
  refine (pay_at _ _ _ _ _ _ _ _ _ _ r q).trans (congrArg silu ?_)
  refine congrArg₂ (· + ·) (congrArg₂ (· + ·) (congrArg₂ (· + ·) (congrArg₂ (· + ·) ?_ ?_) ?_) ?_) ?_
  · exact congrArg₂ (· * ·) (row_at x3 0 inb_S5x2048_S1x2048_0_0 q) (load_at _ _ _ 6 inb_S272x2048_S256x2048_6_0 r q)
  · exact congrArg₂ (· * ·) (row_at x3 1 inb_S5x2048_S1x2048_1_0 q) (load_at _ _ _ 7 inb_S272x2048_S256x2048_7_0 r q)
  · exact congrArg₂ (· * ·) (row_at x3 2 inb_S5x2048_S1x2048_2_0 q) (load_at _ _ _ 8 inb_S272x2048_S256x2048_8_0 r q)
  · exact congrArg₂ (· * ·) (row_at x3 3 inb_S5x2048_S1x2048_3_0 q) (load_at _ _ _ 9 inb_S272x2048_S256x2048_9_0 r q)
  · exact congrArg₂ (· * ·) (row_at x3 4 inb_S5x2048_S1x2048_4_0 q) (load_at _ _ _ 10 inb_S272x2048_S256x2048_10_0 r q)

/-! ## The blocks -/

theorem bounds (t : Fin cfg0.N) : t.val < 192 := lt_of_lt_of_eq t.isLt N_0

theorem block0 (c : Dev nD) (t : Fin cfg0.N) (r : Fin 256) (q : Fin 2048) :
    iblk m c 0 t (ix3 (0 : Fin 1) r q) = m ((c : Thread nD τ).loc main_arg0) (ix2 (⟨t.val / 96 * 8192 + (t.val / 3 % 32 * 256 + r.val), by have := bounds t; omega⟩ : Fin 16384) (⟨t.val % 3 * 2048 + q.val, by omega⟩ : Fin 8192)) := by
  blk_ext! [iblk, V, idx t]

theorem block1 (c : Dev nD) (t : Fin cfg0.N) (r : Fin 8) (q : Fin 2048) :
    iblk m c 1 t (ix3 (0 : Fin 1) r q) = m ((c : Thread nD τ).loc main_arg0) (ix2 (⟨t.val / 96 * 8192 + ((t.val / 3 % 32 * 32 - 1) * 8 + r.val), by have := bounds t; omega⟩ : Fin 16384) (⟨t.val % 3 * 2048 + q.val, by omega⟩ : Fin 8192)) := by
  blk_ext! [iblk, V, idx t]

theorem block2 (c : Dev nD) (t : Fin cfg0.N) (r : Fin 8) (q : Fin 2048) :
    iblk m c 2 t (ix3 (0 : Fin 1) r q) = m ((c : Thread nD τ).loc main_arg0) (ix2 (⟨t.val / 96 * 8192 + (min (t.val / 3 % 32 * 32 + 32) 1023 * 8 + r.val), by have := bounds t; omega⟩ : Fin 16384) (⟨t.val % 3 * 2048 + q.val, by omega⟩ : Fin 8192)) := by
  blk_ext! [iblk, V, idx t]

theorem block3 (c : Dev nD) (t : Fin cfg0.N) (o : Fin 5) (q : Fin 2048) :
    iblk m c 3 t (ix2 o q) = m ((c : Thread nD τ).loc main_arg1) (ix2 o (⟨t.val % 3 * 2048 + q.val, by omega⟩ : Fin 6144)) := by
  blk_ext [iblk, V, idx t]

theorem place0 (t : Fin cfg0.N) (z : Fin 1) (r : Fin 256) (q : Fin 2048) : ((((View.whole main_v1).slice (win0_4.rect t)).emb (ix3 z r q)) 0).val = t.val / 96 := by
  blk_simp [idx t]

theorem place1 (t : Fin cfg0.N) (z : Fin 1) (r : Fin 256) (q : Fin 2048) : ((((View.whole main_v1).slice (win0_4.rect t)).emb (ix3 z r q)) 1).val = t.val / 3 % 32 * 256 + r.val := by
  blk_simp [idx t]

theorem place2 (t : Fin cfg0.N) (z : Fin 1) (r : Fin 256) (q : Fin 2048) : ((((View.whole main_v1).slice (win0_4.rect t)).emb (ix3 z r q)) 2).val = t.val % 3 * 2048 + q.val := by
  blk_simp [idx t]

/-! ## A point and the reference -/

/-- A row of the scratch array is a row of the padded array. -/
theorem strip_ref (c : Dev nD) (t : Fin cfg0.N) (k : ℕ) (hk : 6 ≤ k) (hk' : k < 266) (q : Fin 2048) (b : Fin 2) (n : Fin 8196) (p : Fin 6144)
    (hb : b.val = t.val / 96) (hn : n.val = t.val / 3 % 32 * 256 + (k - 6)) (hp : p.val = t.val % 3 * 2048 + q.val) :
    strip (k0_pay2 (F := Ideal) (grid0.coords t) (iblk m c 1 t)) (k0_pay3 (F := Ideal) (iblk m c 0 t)) (k0_pay4 (F := Ideal) (grid0.coords t) (iblk m c 2 t)) k q
      = val_main_v2 (F := Ideal) (m ((c : Thread nD τ).loc main_arg0)) (ix3 b n p) := by
  have ht := bounds t
  refine Eq.trans ?_ (padded (m ((c : Thread nD τ).loc main_arg0)) b n p).symm
  unfold strip
  by_cases c1 : k < 8
  · rw [dif_pos c1, before_at, (coord t).1]
    by_cases c2 : 0 < t.val / 3 % 32
    · rw [if_pos c2, dif_pos (by omega), block1]
      exact congrArg (m ((c : Thread nD τ).loc main_arg0)) (congrArg₂ ix2 (Fin.ext (by show t.val / 96 * 8192 + ((t.val / 3 % 32 * 32 - 1) * 8 + k) = b.val * 8192 + (n.val - 2); omega)) (Fin.ext hp.symm))
    · rw [if_neg c2, dif_neg (by omega)]
  · rw [dif_neg c1]
    by_cases c3 : k < 264
    · rw [dif_pos c3, mid_at, dif_pos (by omega), block0]
      exact congrArg (m ((c : Thread nD τ).loc main_arg0)) (congrArg₂ ix2 (Fin.ext (by show t.val / 96 * 8192 + (t.val / 3 % 32 * 256 + (k - 8)) = b.val * 8192 + (n.val - 2); omega)) (Fin.ext hp.symm))
    · rw [dif_neg c3, dif_pos (by omega), after_at, (coord t).1]
      by_cases c2 : t.val / 3 % 32 < 31
      · rw [if_pos c2, dif_pos (by omega), block2]
        exact congrArg (m ((c : Thread nD τ).loc main_arg0)) (congrArg₂ ix2 (Fin.ext (by show t.val / 96 * 8192 + (min (t.val / 3 % 32 * 32 + 32) 1023 * 8 + (k - 264)) = b.val * 8192 + (n.val - 2); omega)) (Fin.ext hp.symm))
      · rw [if_neg c2, dif_neg (by omega)]

/-- The convolution of a point is the reference's. -/
theorem gated_ref (c : Dev nD) (t : Fin cfg0.N) (r : Fin 256) (q : Fin 2048) (b : Fin 2) (n : Fin 8192) (p : Fin 6144)
    (hb : b.val = t.val / 96) (hn : n.val = t.val / 3 % 32 * 256 + r.val) (hp : p.val = t.val % 3 * 2048 + q.val) :
    gated (grid0.coords t) (iblk m c 0 t) (iblk m c 1 t) (iblk m c 2 t) (iblk m c 3 t) (ix2 r q)
      = val_main_v37 (F := Ideal) (m ((c : Thread nD τ).loc main_arg0)) (m ((c : Thread nD τ).loc main_arg1)) (ix3 b n p) := by
  refine (gated_at _ _ _ _ _ r q).trans (Eq.trans (congrArg silu ?_) (silu_ref _ _ _).symm)
  refine Eq.trans ?_ (conv_ref _ _ b n p).symm
  have w : ∀ o : Fin 5, iblk m c 3 t (ix2 o q) = m ((c : Thread nD τ).loc main_arg1) (ix2 o p) := fun o =>
    (block3 m c t o q).trans (congrArg (m ((c : Thread nD τ).loc main_arg1)) (congrArg (ix2 o) (Fin.ext hp.symm)))
  refine congrArg₂ (· + ·) (congrArg₂ (· + ·) (congrArg₂ (· + ·) (congrArg₂ (· + ·) ?_ ?_) ?_) ?_) ?_
  · exact congrArg₂ (· * ·) (w 0) (strip_ref m c t (6 + r.val) (by omega) (by omega) q b _ p hb (by show n.val = _; omega) hp)
  · exact congrArg₂ (· * ·) (w 1) (strip_ref m c t (7 + r.val) (by omega) (by omega) q b _ p hb (by show 1 + n.val = _; omega) hp)
  · exact congrArg₂ (· * ·) (w 2) (strip_ref m c t (8 + r.val) (by omega) (by omega) q b _ p hb (by show 2 + n.val = _; omega) hp)
  · exact congrArg₂ (· * ·) (w 3) (strip_ref m c t (9 + r.val) (by omega) (by omega) q b _ p hb (by show 3 + n.val = _; omega) hp)
  · exact congrArg₂ (· * ·) (w 4) (strip_ref m c t (10 + r.val) (by omega) (by omega) q b _ p hb (by show 4 + n.val = _; omega) hp)

/-! ## The heads -/

/-- An element of the result: scaled by its head's norm and a constant, by its head's norm, or as it is. -/
def headed (G : Cert.GdnConvRefIdeal.S2x8192x6144.Idx → EReal) (b : Fin 2) (n : Fin 8192) (p : Fin 6144) : EReal :=
  if p.val / 128 < 16 then
    G (ix3 b n p) * Ideal.rsqrt ((∑ x : Fin 128, G (ix3 b n (⟨p.val / 128 * 128 + x.val, by omega⟩ : Fin 6144)) * G (ix3 b n (⟨p.val / 128 * 128 + x.val, by omega⟩ : Fin 6144))) + Ideal.ofBits .f32 0x358637BD#32) * Ideal.ofBits .f32 0x3DB504F3#32
  else if p.val / 128 < 32 then
    G (ix3 b n p) * Ideal.rsqrt ((∑ x : Fin 128, G (ix3 b n (⟨p.val / 128 * 128 + x.val, by omega⟩ : Fin 6144)) * G (ix3 b n (⟨p.val / 128 * 128 + x.val, by omega⟩ : Fin 6144))) + Ideal.ofBits .f32 0x358637BD#32)
  else G (ix3 b n p)

/-- The same element, as the joined parts of the reference give it. -/
def parts (G : Cert.GdnConvRefIdeal.S2x8192x6144.Idx → EReal) (b : Fin 2) (n : Fin 8192) (p : Fin 6144) : EReal :=
  if h : p.val / 128 < 16 then
    G (ix3 b n p) * Ideal.rsqrt ((∑ x : Fin 128, G (ix3 b n (⟨p.val / 128 * 128 + x.val, by omega⟩ : Fin 6144)) * G (ix3 b n (⟨p.val / 128 * 128 + x.val, by omega⟩ : Fin 6144))) + Ideal.ofBits .f32 0x358637BD#32) * Ideal.ofBits .f32 0x3DB504F3#32
  else if h : p.val / 128 - 16 < 16 then
    G (ix3 b n (⟨(16 + (p.val / 128 - 16)) * 128 + p.val % 128, by omega⟩ : Fin 6144))
      * Ideal.rsqrt ((∑ x : Fin 128, G (ix3 b n (⟨(16 + (p.val / 128 - 16)) * 128 + x.val, by omega⟩ : Fin 6144)) * G (ix3 b n (⟨(16 + (p.val / 128 - 16)) * 128 + x.val, by omega⟩ : Fin 6144))) + Ideal.ofBits .f32 0x358637BD#32)
  else G (ix3 b n (⟨(32 + (p.val / 128 - 16 - 16)) * 128 + p.val % 128, by omega⟩ : Fin 6144))

theorem parts_ref (X : Vec Ideal Cert.GdnConvRefIdeal.S16384x8192 .f32) (W : Vec Ideal Cert.GdnConvRefIdeal.S5x6144 .f32) (b : Fin 2) (n : Fin 8192) (p : Fin 6144) :
    val_main_v61 (F := Ideal) X W (ix3 b n p) = parts (val_main_v37 (F := Ideal) X W) b n p := by
  generalize hz : parts (val_main_v37 (F := Ideal) X W) b n p = z
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_cst, val_main_cst_0, val_main_cst_1, val_main_cst_2, val_main_cst_3]
  exact hz

theorem parts_eq (G : Cert.GdnConvRefIdeal.S2x8192x6144.Idx → EReal) (b : Fin 2) (n : Fin 8192) (p : Fin 6144) : parts G b n p = headed G b n p := by
  unfold parts headed
  have hp := p.isLt
  have at_eq : ∀ a b' : Fin 6144, a.val = b'.val → G (ix3 b n a) = G (ix3 b n b') := fun a b' g => congrArg G (congrArg (ix3 b n) (Fin.ext g))
  by_cases c1 : p.val / 128 < 16
  · simp only [dif_pos c1, if_pos c1]
  · simp only [dif_neg c1, if_neg c1]
    by_cases c2 : p.val / 128 < 32
    · have c2' : p.val / 128 - 16 < 16 := by omega
      simp only [dif_pos c2', if_pos c2]
      refine congrArg₂ (· * ·) (at_eq _ _ (by show (16 + (p.val / 128 - 16)) * 128 + p.val % 128 = p.val; omega)) (congrArg Ideal.rsqrt (congrArg (· + _) (Finset.sum_congr rfl fun x _ => ?_)))
      have e := at_eq (⟨(16 + (p.val / 128 - 16)) * 128 + x.val, by omega⟩ : Fin 6144) (⟨p.val / 128 * 128 + x.val, by omega⟩ : Fin 6144) (by show (16 + (p.val / 128 - 16)) * 128 + x.val = p.val / 128 * 128 + x.val; omega)
      exact congrArg₂ (· * ·) e e
    · have c2' : ¬p.val / 128 - 16 < 16 := by omega
      simp only [dif_neg c2', if_neg c2]
      exact at_eq _ _ (by show (32 + (p.val / 128 - 16 - 16)) * 128 + p.val % 128 = p.val; omega)

theorem mask_two : ∀ a : Fin 3, Scalar.cmpi .slt (BitVec.ofNat 32 a.val) 2#32 = if a.val < 2 then 1#1 else 0#1 := by decide +kernel
theorem mask_eq : ∀ a : Fin 3, Scalar.cmpi .eq (BitVec.ofNat 32 a.val) 0#32 = if a.val = 0 then 1#1 else 0#1 := by decide +kernel

theorem select_one (a b : EReal) : Scalar.select 1#1 a b = a := by
  unfold Scalar.select
  rfl

theorem select_zero (a b : EReal) : Scalar.select 0#1 a b = b := by
  unfold Scalar.select
  rfl

/-- The scale of a point. -/
theorem scale (a : Fin 3) : k0_pay7 (F := Ideal) (BitVec.ofNat 32 a.val) = if a.val = 0 then Ideal.ofBits .f32 0x3DB504F3#32 else 1 := by
  unfold k0_pay7
  dsimp only
  rw [mask_eq a]
  split
  · exact select_one _ _
  · exact (select_zero _ _).trans Ideal.ofBits_one_f32

/-- The element that a point stores, from the convolution's elements. -/
theorem join (Y : S256x2048.Idx → EReal) (G : Cert.GdnConvRefIdeal.S2x8192x6144.Idx → EReal) (a : Fin 3) (r : Fin 256) (q : Fin 2048) (b : Fin 2) (n : Fin 8192) (p : Fin 6144)
    (hp : p.val = a.val * 2048 + q.val)
    (hY : ∀ (q' : Fin 2048) (p' : Fin 6144), p'.val = a.val * 2048 + q'.val → Y (ix2 r q') = G (ix3 b n p')) :
    cell Y (BitVec.ofNat 32 a.val) (k0_pay7 (F := Ideal) (BitVec.ofNat 32 a.val)) (⟨q.val / 128, by omega⟩ : Fin 16) r (⟨q.val % 128, by omega⟩ : Fin 128) = headed G b n p := by
  unfold cell headed
  rw [scale a, mask_two a]
  have hq := q.isLt
  have ha := a.isLt
  have e0 : Y (ix2 r (⟨q.val / 128 * 128 + q.val % 128, by omega⟩ : Fin 2048)) = G (ix3 b n p) := hY _ _ (by show p.val = a.val * 2048 + (q.val / 128 * 128 + q.val % 128); omega)
  have e1 : ∀ k : Fin 128, Y (ix2 r (⟨q.val / 128 * 128 + k.val, by omega⟩ : Fin 2048)) = G (ix3 b n (⟨p.val / 128 * 128 + k.val, by omega⟩ : Fin 6144)) := fun k =>
    hY _ _ (by show p.val / 128 * 128 + k.val = a.val * 2048 + (q.val / 128 * 128 + k.val); omega)
  simp only [e0, e1]
  by_cases c1 : a.val = 0
  · rw [if_pos (show a.val < 2 by omega), if_pos c1, if_pos (show p.val / 128 < 16 by omega), select_one, mul_assoc]
  · rw [if_neg c1, if_neg (show ¬p.val / 128 < 16 by omega)]
    by_cases c2 : a.val < 2
    · rw [if_pos c2, if_pos (show p.val / 128 < 32 by omega), select_one, mul_one]
    · rw [if_neg c2, if_neg (show ¬p.val / 128 < 32 by omega), select_zero, mul_one]

/-- The element that a point stores is the reference's. -/
theorem point (c : Dev nD) (t : Fin cfg0.N) (r : Fin 256) (q : Fin 2048) (i : Cert.GdnConvRefIdeal.S2x8192x6144.Idx)
    (h0 : (i 0).val = t.val / 96) (h1 : (i 1).val = t.val / 3 % 32 * 256 + r.val) (h2 : (i 2).val = t.val % 3 * 2048 + q.val) :
    cell (gated (grid0.coords t) (iblk m c 0 t) (iblk m c 1 t) (iblk m c 2 t) (iblk m c 3 t)) (BitVec.ofNat 32 (grid0.coords t 2).val) (k0_pay7 (F := Ideal) (BitVec.ofNat 32 (grid0.coords t 2).val))
        (⟨q.val / 128, by omega⟩ : Fin 16) r (⟨q.val % 128, by omega⟩ : Fin 128)
      = val_main_v61 (F := Ideal) (m ((c : Thread nD τ).loc main_arg0)) (m ((c : Thread nD τ).loc main_arg1)) i := by
  obtain ⟨b, n, p, rfl⟩ : ∃ (b : Fin 2) (n : Fin 8192) (p : Fin 6144), i = ix3 b n p := ⟨i 0, i 1, i 2, eq_ix3 i⟩
  refine Eq.trans ?_ ((parts_ref _ _ b n p).trans (parts_eq _ b n p)).symm
  rw [(coord t).2]
  exact join _ _ (⟨t.val % 3, by omega⟩ : Fin 3) r q b n p h2 fun q' p' hp => gated_ref m c t r q' b n p' h0 h1 hp

/-- The array that the launch leaves is the reference's. -/
theorem final (c : Dev nD) : (dats m 0 c).arrAt 4 (cfgs 0).N
    = Cert.GdnConvRefIdeal.Read.val_main_v61 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  obtain ⟨z, r, q, rfl⟩ : ∃ (z : Fin 1) (r : Fin 256) (q : Fin 2048), y = ix3 z r q := ⟨y 0, y 1, y 2, eq_ix3 y⟩
  refine (tiles m c t (ix3 z r q) (⟨q.val / 128, by omega⟩ : Fin 16) r (⟨q.val % 128, by omega⟩ : Fin 128) rfl rfl rfl).trans ?_
  exact point m c t r q _ (place0 t z r q) (place1 t z r q) (place2 t z r q)

end Cert.GdnConvIdeal.Tiles
end
-- ==== Proof.lean ====
module

public import proofs.«01_k».proof.GdnConv
public import proofs.«01_k».proof.GdnConvIdeal
public import proofs.«01_k».proof.GdnConvRefIdeal
public import proofs.«01_k».proof.Proof.Gen.GdnConv
public import proofs.«01_k».proof.Proof.Gen.GdnConvIdeal
public import proofs.«01_k».proof.Proof.Gen.GdnConv.Frame
public import proofs.«01_k».proof.Proof.Gen.GdnConvIdeal.Frame
public import proofs.«01_k».proof.Proof.Gen.GdnConvIdeal.Value
public import proofs.«01_k».proof.Proof.Gen.GdnConvRefIdeal
public import proofs.«01_k».proof.Proof.Gen.GdnConvRefIdeal.Run
public import proofs.«01_k».proof.Proof.Gen.GdnConvRefIdeal.Read
public import proofs.«01_k».proof.FfnUp
public import proofs.«01_k».proof.FfnUpIdeal
public import proofs.«01_k».proof.FfnUpRefIdeal
public import proofs.«01_k».proof.Proof.Gen.FfnUp
public import proofs.«01_k».proof.Proof.Gen.FfnUpIdeal
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.FfnDown
public import proofs.«01_k».proof.FfnDownIdeal
public import proofs.«01_k».proof.FfnDownRefIdeal
public import proofs.«01_k».proof.Proof.Gen.FfnDown
public import proofs.«01_k».proof.Proof.Gen.FfnDownIdeal
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Merge
public import proofs.«01_k».proof.MergeIdeal
public import proofs.«01_k».proof.MergeRefIdeal
public import proofs.«01_k».proof.Proof.Gen.Merge
public import proofs.«01_k».proof.Proof.Gen.MergeIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.OutProj
public import proofs.«01_k».proof.OutProjIdeal
public import proofs.«01_k».proof.OutProjRefIdeal
public import proofs.«01_k».proof.Proof.Gen.OutProj
public import proofs.«01_k».proof.Proof.Gen.OutProjIdeal
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.ProjA
public import proofs.«01_k».proof.ProjAIdeal
public import proofs.«01_k».proof.ProjARefIdeal
public import proofs.«01_k».proof.Proof.Gen.ProjA
public import proofs.«01_k».proof.Proof.Gen.ProjAIdeal
public import proofs.«01_k».proof.Proof.Gen.ProjA.Frame
public import proofs.«01_k».proof.Proof.Gen.ProjAIdeal.Frame
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjARefIdeal.Read
public import proofs.«01_k».proof.ProjB
public import proofs.«01_k».proof.ProjBIdeal
public import proofs.«01_k».proof.ProjBRefIdeal
public import proofs.«01_k».proof.Proof.Gen.ProjB
public import proofs.«01_k».proof.Proof.Gen.ProjBIdeal
public import proofs.«01_k».proof.Proof.Gen.ProjB.Frame
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjBRefIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frame
public import proofs.«01_k».proof.Proof.FrameK
public import proofs.«01_k».proof.Proof.Ref
public import proofs.«01_k».proof.Proof.Final
public import proofs.«01_k».proof.Proof.FfnUp
public import proofs.«01_k».proof.Proof.FfnDown
public import proofs.«01_k».proof.Proof.Merge
public import proofs.«01_k».proof.Proof.OutProj
public import proofs.«01_k».proof.Proof.ProjA
public import proofs.«01_k».proof.Proof.ProjB
public import proofs.«01_k».proof.FinalNorm
public import proofs.«01_k».proof.FinalNormIdeal
public import proofs.«01_k».proof.FinalNormRefIdeal
public import proofs.«01_k».proof.Proof.Gen.FinalNorm
public import proofs.«01_k».proof.Proof.Gen.FinalNormIdeal
public import proofs.«01_k».proof.Proof.Gen.FinalNorm.Frame
public import proofs.«01_k».proof.Proof.Gen.FinalNormIdeal.Frame
public import proofs.«01_k».proof.Proof.Gen.FinalNormIdeal.Value
public import proofs.«01_k».proof.Proof.Gen.FinalNormRefIdeal
public import proofs.«01_k».proof.Proof.Gen.FinalNormRefIdeal.Run
public import proofs.«01_k».proof.Proof.Gen.FinalNormRefIdeal.Read
public import proofs.«01_k».proof.Norm
public import proofs.«01_k».proof.NormIdeal
public import proofs.«01_k».proof.NormRefIdeal
public import proofs.«01_k».proof.Proof.Gen.Norm
public import proofs.«01_k».proof.Proof.Gen.NormIdeal
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.ProjDq
public import proofs.«01_k».proof.ProjDqIdeal
public import proofs.«01_k».proof.ProjDqRefIdeal
public import proofs.«01_k».proof.Proof.Gen.ProjDq
public import proofs.«01_k».proof.Proof.Gen.ProjDqIdeal
public import proofs.«01_k».proof.Proof.Gen.ProjDq.Frame
public import proofs.«01_k».proof.Proof.Gen.ProjDqIdeal.Frame
public import proofs.«01_k».proof.Proof.Gen.ProjDqIdeal.Value
public import proofs.«01_k».proof.Proof.Gen.ProjDqRefIdeal
public import proofs.«01_k».proof.Proof.Gen.ProjDqRefIdeal.Run
public import proofs.«01_k».proof.Proof.Gen.ProjDqRefIdeal.Read
public import proofs.«01_k».proof.ProjDkv
public import proofs.«01_k».proof.ProjDkvIdeal
public import proofs.«01_k».proof.ProjDkvRefIdeal
public import proofs.«01_k».proof.Proof.Gen.ProjDkv
public import proofs.«01_k».proof.Proof.Gen.ProjDkvIdeal
public import proofs.«01_k».proof.Proof.Gen.ProjDkv.Frame
public import proofs.«01_k».proof.Proof.Gen.ProjDkvIdeal.Frame
public import proofs.«01_k».proof.Proof.Gen.ProjDkvIdeal.Value
public import proofs.«01_k».proof.Proof.Gen.ProjDkvRefIdeal
public import proofs.«01_k».proof.Proof.Gen.ProjDkvRefIdeal.Run
public import proofs.«01_k».proof.Proof.Gen.ProjDkvRefIdeal.Read
public import proofs.«01_k».proof.GdnOut
public import proofs.«01_k».proof.GdnOutIdeal
public import proofs.«01_k».proof.GdnOutRefIdeal
public import proofs.«01_k».proof.Proof.Gen.GdnOut
public import proofs.«01_k».proof.Proof.Gen.GdnOutIdeal
public import proofs.«01_k».proof.Proof.Gen.GdnOut.Frame
public import proofs.«01_k».proof.Proof.Gen.GdnOutIdeal.Frame
public import proofs.«01_k».proof.Proof.Gen.GdnOutIdeal.Value
public import proofs.«01_k».proof.Proof.Gen.GdnOutRefIdeal
public import proofs.«01_k».proof.Proof.Gen.GdnOutRefIdeal.Run
public import proofs.«01_k».proof.Proof.Gen.GdnOutRefIdeal.Read
public import proofs.«01_k».proof.QProj
public import proofs.«01_k».proof.QProjIdeal
public import proofs.«01_k».proof.QProjRefIdeal
public import proofs.«01_k».proof.Proof.Gen.QProj
public import proofs.«01_k».proof.Proof.Gen.QProjIdeal
public import proofs.«01_k».proof.Proof.Gen.QProj.Frame
public import proofs.«01_k».proof.Proof.Gen.QProjIdeal.Frame
public import proofs.«01_k».proof.Proof.Gen.QProjIdeal.Value
public import proofs.«01_k».proof.Proof.Gen.QProjRefIdeal
public import proofs.«01_k».proof.Proof.Gen.QProjRefIdeal.Run
public import proofs.«01_k».proof.Proof.Gen.QProjRefIdeal.Read
public import proofs.«01_k».proof.KvProj
public import proofs.«01_k».proof.KvProjIdeal
public import proofs.«01_k».proof.KvProjRefIdeal
public import proofs.«01_k».proof.Proof.Gen.KvProj
public import proofs.«01_k».proof.Proof.Gen.KvProjIdeal
public import proofs.«01_k».proof.Proof.Gen.KvProj.Frame
public import proofs.«01_k».proof.Proof.Gen.KvProjIdeal.Frame
public import proofs.«01_k».proof.Proof.Gen.KvProjIdeal.Value
public import proofs.«01_k».proof.Proof.Gen.KvProjRefIdeal
public import proofs.«01_k».proof.Proof.Gen.KvProjRefIdeal.Run
public import proofs.«01_k».proof.Proof.Gen.KvProjRefIdeal.Read
public import proofs.«01_k».proof.Proof.FinalNorm
public import proofs.«01_k».proof.Proof.Norm
public import proofs.«01_k».proof.Proof.ProjDq
public import proofs.«01_k».proof.Proof.ProjDkv
public import proofs.«01_k».proof.Proof.GdnOut
public import proofs.«01_k».proof.Proof.QProj
public import proofs.«01_k».proof.Proof.KvProj
public import proofs.«01_k».proof.Gmlp
public import proofs.«01_k».proof.GmlpIdeal
public import proofs.«01_k».proof.GmlpRefIdeal
public import proofs.«01_k».proof.Proof.Gen.Gmlp
public import proofs.«01_k».proof.Proof.Gen.GmlpIdeal
public import proofs.«01_k».proof.Proof.Gen.Gmlp.Frame
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.GdnGate
public import proofs.«01_k».proof.GdnGateIdeal
public import proofs.«01_k».proof.GdnGateRefIdeal
public import proofs.«01_k».proof.Proof.Gen.GdnGate
public import proofs.«01_k».proof.Proof.Gen.GdnGateIdeal
public import proofs.«01_k».proof.Proof.Gen.GdnGate.Frame
public import proofs.«01_k».proof.Proof.Gen.GdnGateIdeal.Frame
public import proofs.«01_k».proof.Proof.Gen.GdnGateIdeal.Value
public import proofs.«01_k».proof.Proof.Gen.GdnGateRefIdeal
public import proofs.«01_k».proof.Proof.Gen.GdnGateRefIdeal.Run
public import proofs.«01_k».proof.Proof.Gen.GdnGateRefIdeal.Read
public import proofs.«01_k».proof.RopeTables
public import proofs.«01_k».proof.RopeTablesIdeal
public import proofs.«01_k».proof.RopeTablesRefIdeal
public import proofs.«01_k».proof.Proof.Gen.RopeTables
public import proofs.«01_k».proof.Proof.Gen.RopeTablesIdeal
public import proofs.«01_k».proof.Proof.Gen.RopeTables.Frame
public import proofs.«01_k».proof.Proof.Gen.RopeTablesIdeal.Frame
public import proofs.«01_k».proof.Proof.Gen.RopeTablesRefIdeal
public import proofs.«01_k».proof.Proof.Gen.RopeTablesRefIdeal.Run
public import proofs.«01_k».proof.Proof.Gen.RopeTablesRefIdeal.Read
public import proofs.«01_k».proof.Proof.Gmlp
public import proofs.«01_k».proof.Proof.RopeTables
public import proofs.«01_k».proof.Proof.GdnGate
public import proofs.«01_k».proof.Proof.GdnConv
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run: its arguments stay, and every counter ends at zero, for it has none. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result is the reference's. -/
theorem value : Cert.algebraic_KernelIdeal_ReferenceIdeal_pre_operands := by
  intro m g m' g' hpre hagree
  refine ⟨fun c => (Cert.KernelIdeal.Attn.dats m 0 c).arrAt 3 (Cert.KernelIdeal.cfgs 0).N, ?_, ?_⟩
  · run_from Cert.KernelIdeal.Attn.run_main m g
  · refine (θ_run Cert.ReferenceIdeal.defs _ _).mono (fun r h c => ⟨?_, (h c).2⟩) (Cert.ReferenceIdeal.Value.run (F := Ideal) m' g')
    refine (h c).1.trans ((Cert.ReferenceIdeal.Read.val_main_v20_eq (F := Ideal) _ _ _).trans ?_)
    have hp := hpre c
    rw [(hagree c).1, (hagree c).2.1, (hagree c).2.2]
    exact (Cert.KernelIdeal.Attn.final m c (Cert.Pre_operands.q_real _ _ _ hp.1) (Cert.Pre_operands.k_real _ _ _ hp.2.1)
      (Cert.Pre_operands.v_one _ _ _ hp.2.2)).symm

theorem frame_ref_FfnUp : Cert.quiescent_FfnUpRefIdeal := fun m g _ =>
  (θ_run Cert.FfnUpRefIdeal.defs _ _).mono (fun r h => ⟨fun c => (h c).2, sem_eq_zero_of_no_sems (by decide) r.2⟩)
    (Cert.FfnUpRefIdeal.Value.run (F := Ideal) m g)

theorem value_FfnUp : Cert.algebraic_FfnUpIdeal_FfnUpRefIdeal := by
  intro m g m' g' _ hagree
  refine ⟨fun c => (Cert.FfnUpIdeal.Gen.dats m 0 c).arrAt 3 (Cert.FfnUpIdeal.cfgs 0).N, ?_, ?_⟩
  · run_from Cert.FfnUpIdeal.Gen.run_main m g
  · refine (θ_run Cert.FfnUpRefIdeal.defs _ _).mono (fun r h c => ⟨?_, (h c).2⟩) (Cert.FfnUpRefIdeal.Value.run (F := Ideal) m' g')
    refine (h c).1.trans ((Cert.FfnUpRefIdeal.Read.val_main_v7_eq (F := Ideal) _ _).trans ?_)
    rw [(hagree c).1, (hagree c).2]
    exact (Cert.FfnUpIdeal.Tiles.final m c).symm

theorem frame_ref_FfnDown : Cert.quiescent_FfnDownRefIdeal := fun m g _ =>
  (θ_run Cert.FfnDownRefIdeal.defs _ _).mono (fun r h => ⟨fun c => (h c).2, sem_eq_zero_of_no_sems (by decide) r.2⟩)
    (Cert.FfnDownRefIdeal.Value.run (F := Ideal) m g)

theorem value_FfnDown : Cert.algebraic_FfnDownIdeal_FfnDownRefIdeal := by
  intro m g m' g' _ hagree
  refine ⟨fun c => (Cert.FfnDownIdeal.Gen.dats m 0 c).arrAt 3 (Cert.FfnDownIdeal.cfgs 0).N, ?_, ?_⟩
  · run_from Cert.FfnDownIdeal.Gen.run_main m g
  · refine (θ_run Cert.FfnDownRefIdeal.defs _ _).mono (fun r h c => ⟨?_, (h c).2⟩) (Cert.FfnDownRefIdeal.Value.run (F := Ideal) m' g')
    refine (h c).1.trans ((Cert.FfnDownRefIdeal.Read.val_main_v5_eq (F := Ideal) _ _ _).trans ?_)
    rw [(hagree c).1, (hagree c).2.1, (hagree c).2.2]
    exact (Cert.FfnDownIdeal.Tiles.final m c).symm

theorem frame_ref_Merge : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

theorem value_Merge : Cert.algebraic_MergeIdeal_MergeRefIdeal := by
  intro m g m' g' _ hagree
  refine ⟨fun c => (Cert.MergeIdeal.Gen.dats m 0 c).arrAt 4 (Cert.MergeIdeal.cfgs 0).N, ?_, ?_⟩
  · run_from Cert.MergeIdeal.Gen.run_main m g
  · refine (θ_run Cert.MergeRefIdeal.defs _ _).mono (fun r h c => ⟨?_, (h c).2⟩) (Cert.MergeRefIdeal.Value.run (F := Ideal) m' g')
    refine (h c).1.trans ((Cert.MergeRefIdeal.Read.val_main_v16_eq (F := Ideal) _ _ _ _).trans ?_)
    rw [(hagree c).1, (hagree c).2.1, (hagree c).2.2.1, (hagree c).2.2.2]
    exact (Cert.MergeIdeal.Tiles.final m c).symm

theorem frame_ref_OutProj : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run (F := Ideal) m g)

theorem value_OutProj : Cert.algebraic_OutProjIdeal_OutProjRefIdeal := by
  intro m g m' g' _ hagree
  refine ⟨fun c => (Cert.OutProjIdeal.Gen.dats m 0 c).arrAt 3 (Cert.OutProjIdeal.cfgs 0).N, ?_, ?_⟩
  · run_from Cert.OutProjIdeal.Gen.run_main m g
  · refine (θ_run Cert.OutProjRefIdeal.defs _ _).mono (fun r h c => ⟨?_, (h c).2⟩) (Cert.OutProjRefIdeal.Value.run (F := Ideal) m' g')
    refine (h c).1.trans ((Cert.OutProjRefIdeal.Read.val_main_v3_eq (F := Ideal) _ _ _).trans ?_)
    rw [(hagree c).1, (hagree c).2.1, (hagree c).2.2]
    exact (Cert.OutProjIdeal.Tiles.final m c).symm

theorem frame_ref_ProjA : Cert.quiescent_ProjARefIdeal := fun m g _ =>
  (θ_run Cert.ProjARefIdeal.defs _ _).mono (fun r h => ⟨fun c => (h c).2, sem_eq_zero_of_no_sems (by decide) r.2⟩)
    (Cert.ProjARefIdeal.Value.run (F := Ideal) m g)

theorem value_ProjA : Cert.algebraic_ProjAIdeal_ProjARefIdeal := by
  intro m g m' g' _ hagree
  refine ⟨fun c => (Cert.ProjAIdeal.Gen.dats m 0 c).arrAt 2 (Cert.ProjAIdeal.cfgs 0).N, ?_, ?_⟩
  · run_from Cert.ProjAIdeal.Gen.run_main m g
  · refine (θ_run Cert.ProjARefIdeal.defs _ _).mono (fun r h c => ⟨?_, (h c).2⟩) (Cert.ProjARefIdeal.Value.run (F := Ideal) m' g')
    refine (h c).1.trans ((Cert.ProjARefIdeal.Read.val_main_v10_eq (F := Ideal) _ _).trans ?_)
    rw [(hagree c).1, (hagree c).2]
    exact (Cert.ProjAIdeal.Tiles.final m c).symm

theorem frame_ref_ProjB : Cert.quiescent_ProjBRefIdeal := fun m g _ =>
  (θ_run Cert.ProjBRefIdeal.defs _ _).mono (fun r h => ⟨fun c => (h c).2, sem_eq_zero_of_no_sems (by decide) r.2⟩)
    (Cert.ProjBRefIdeal.Value.run (F := Ideal) m g)

theorem value_ProjB : Cert.algebraic_ProjBIdeal_ProjBRefIdeal := by
  intro m g m' g' _ hagree
  refine ⟨fun c => (Cert.ProjBIdeal.Gen.dats m 0 c).arrAt 2 (Cert.ProjBIdeal.cfgs 0).N, ?_, ?_⟩
  · run_from Cert.ProjBIdeal.Gen.run_main m g
  · refine (θ_run Cert.ProjBRefIdeal.defs _ _).mono (fun r h c => ⟨?_, (h c).2⟩) (Cert.ProjBRefIdeal.Value.run (F := Ideal) m' g')
    refine (h c).1.trans ((Cert.ProjBRefIdeal.Read.val_main_v3_eq (F := Ideal) _ _).trans ?_)
    rw [(hagree c).1, (hagree c).2]
    exact (Cert.ProjBIdeal.Tiles.final m c).symm

theorem frame_ref_FinalNorm : Cert.quiescent_FinalNormRefIdeal := fun m g _ =>
  (θ_run Cert.FinalNormRefIdeal.defs _ _).mono (fun r h => ⟨fun c => (h c).2, sem_eq_zero_of_no_sems (by decide) r.2⟩)
    (Cert.FinalNormRefIdeal.Value.run (F := Ideal) m g)

theorem value_FinalNorm : Cert.algebraic_FinalNormIdeal_FinalNormRefIdeal := by
  intro m g m' g' _ hagree
  refine ⟨fun c => (Cert.FinalNormIdeal.Gen.dats m 0 c).arrAt 2 (Cert.FinalNormIdeal.cfgs 0).N, ?_, ?_⟩
  · run_from Cert.FinalNormIdeal.Gen.run_main m g
  · refine (θ_run Cert.FinalNormRefIdeal.defs _ _).mono (fun r h c => ⟨?_, (h c).2⟩) (Cert.FinalNormRefIdeal.Value.run (F := Ideal) m' g')
    refine (h c).1.trans ((Cert.FinalNormRefIdeal.Read.val_main_v12_eq (F := Ideal) _ _).trans ?_)
    rw [(hagree c).1, (hagree c).2]
    exact (Cert.FinalNormIdeal.Tiles.final m c).symm

theorem frame_ref_Norm : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

theorem value_Norm : Cert.algebraic_NormIdeal_NormRefIdeal := by
  intro m g m' g' _ hagree
  refine ⟨fun c => (Cert.NormIdeal.Gen.dats m 0 c).arrAt 2 (Cert.NormIdeal.cfgs 0).N, ?_, ?_⟩
  · run_from Cert.NormIdeal.Gen.run_main m g
  · refine (θ_run Cert.NormRefIdeal.defs _ _).mono (fun r h c => ⟨?_, (h c).2⟩) (Cert.NormRefIdeal.Value.run (F := Ideal) m' g')
    refine (h c).1.trans ((Cert.NormRefIdeal.Read.val_main_v13_eq (F := Ideal) _ _).trans ?_)
    rw [(hagree c).1, (hagree c).2]
    exact (Cert.NormIdeal.Tiles.final m c).symm

theorem frame_ref_ProjDq : Cert.quiescent_ProjDqRefIdeal := fun m g _ =>
  (θ_run Cert.ProjDqRefIdeal.defs _ _).mono (fun r h => ⟨fun c => (h c).2, sem_eq_zero_of_no_sems (by decide) r.2⟩)
    (Cert.ProjDqRefIdeal.Value.run (F := Ideal) m g)

theorem value_ProjDq : Cert.algebraic_ProjDqIdeal_ProjDqRefIdeal := by
  intro m g m' g' _ hagree
  refine ⟨fun c => (Cert.ProjDqIdeal.Gen.dats m 0 c).arrAt 2 (Cert.ProjDqIdeal.cfgs 0).N, ?_, ?_⟩
  · run_from Cert.ProjDqIdeal.Gen.run_main m g
  · refine (θ_run Cert.ProjDqRefIdeal.defs _ _).mono (fun r h c => ⟨?_, (h c).2⟩) (Cert.ProjDqRefIdeal.Value.run (F := Ideal) m' g')
    refine (h c).1.trans ((Cert.ProjDqRefIdeal.Read.val_main_v2_eq (F := Ideal) _ _).trans ?_)
    rw [(hagree c).1, (hagree c).2]
    exact (Cert.ProjDqIdeal.Tiles.final m c).symm

theorem frame_ref_ProjDkv : Cert.quiescent_ProjDkvRefIdeal := fun m g _ =>
  (θ_run Cert.ProjDkvRefIdeal.defs _ _).mono (fun r h => ⟨fun c => (h c).2, sem_eq_zero_of_no_sems (by decide) r.2⟩)
    (Cert.ProjDkvRefIdeal.Value.run (F := Ideal) m g)

theorem value_ProjDkv : Cert.algebraic_ProjDkvIdeal_ProjDkvRefIdeal := by
  intro m g m' g' _ hagree
  refine ⟨fun c => (Cert.ProjDkvIdeal.Gen.dats m 0 c).arrAt 2 (Cert.ProjDkvIdeal.cfgs 0).N, ?_, ?_⟩
  · run_from Cert.ProjDkvIdeal.Gen.run_main m g
  · refine (θ_run Cert.ProjDkvRefIdeal.defs _ _).mono (fun r h c => ⟨?_, (h c).2⟩) (Cert.ProjDkvRefIdeal.Value.run (F := Ideal) m' g')
    refine (h c).1.trans ((Cert.ProjDkvRefIdeal.Read.val_main_v2_eq (F := Ideal) _ _).trans ?_)
    rw [(hagree c).1, (hagree c).2]
    exact (Cert.ProjDkvIdeal.Tiles.final m c).symm

theorem frame_ref_Gmlp : Cert.quiescent_GmlpRefIdeal := fun m g _ =>
  (θ_run Cert.GmlpRefIdeal.defs _ _).mono (fun r h => ⟨fun c => (h c).2, sem_eq_zero_of_no_sems (by decide) r.2⟩)
    (Cert.GmlpRefIdeal.Value.run (F := Ideal) m g)

theorem value_Gmlp : Cert.algebraic_GmlpIdeal_GmlpRefIdeal := by
  intro m g m' g' _ hagree
  refine ⟨fun c => (Cert.GmlpIdeal.Gen.dats m 0 c).arrAt 5 (Cert.GmlpIdeal.cfgs 0).N, ?_, ?_⟩
  · run_from Cert.GmlpIdeal.Gen.run_main m g
  · refine (θ_run Cert.GmlpRefIdeal.defs _ _).mono (fun r h c => ⟨?_, (h c).2⟩) (Cert.GmlpRefIdeal.Value.run (F := Ideal) m' g')
    refine (h c).1.trans ((Cert.GmlpRefIdeal.Read.val_main_v27_eq (F := Ideal) _ _ _ _).trans ?_)
    rw [(hagree c).1, (hagree c).2.1, (hagree c).2.2.1, (hagree c).2.2.2]
    exact (Cert.GmlpIdeal.Tiles.final m c).symm

theorem frame_ref_GdnOut : Cert.quiescent_GdnOutRefIdeal := fun m g _ =>
  (θ_run Cert.GdnOutRefIdeal.defs _ _).mono (fun r h => ⟨fun c => (h c).2, sem_eq_zero_of_no_sems (by decide) r.2⟩)
    (Cert.GdnOutRefIdeal.Value.run (F := Ideal) m g)

theorem value_GdnOut : Cert.algebraic_GdnOutIdeal_GdnOutRefIdeal := by
  intro m g m' g' _ hagree
  refine ⟨fun c => (Cert.GdnOutIdeal.Gen.dats m 0 c).arrAt 4 (Cert.GdnOutIdeal.cfgs 0).N, ?_, ?_⟩
  · run_from Cert.GdnOutIdeal.Gen.run_main m g
  · refine (θ_run Cert.GdnOutRefIdeal.defs _ _).mono (fun r h c => ⟨?_, (h c).2⟩) (Cert.GdnOutRefIdeal.Value.run (F := Ideal) m' g')
    refine (h c).1.trans ((Cert.GdnOutRefIdeal.Read.val_main_v20_eq (F := Ideal) _ _ _ _).trans ?_)
    rw [(hagree c).1, (hagree c).2.1, (hagree c).2.2.1, (hagree c).2.2.2]
    exact (Cert.GdnOutIdeal.Tiles.final m c).symm

theorem frame_ref_QProj : Cert.quiescent_QProjRefIdeal := fun m g _ =>
  (θ_run Cert.QProjRefIdeal.defs _ _).mono (fun r h => ⟨fun c => (h c).2, sem_eq_zero_of_no_sems (by decide) r.2⟩)
    (Cert.QProjRefIdeal.Value.run (F := Ideal) m g)

theorem value_QProj : Cert.algebraic_QProjIdeal_QProjRefIdeal := by
  intro m g m' g' _ hagree
  refine ⟨fun c => (Cert.QProjIdeal.Gen.dats m 0 c).arrAt 5 (Cert.QProjIdeal.cfgs 0).N, ?_, ?_⟩
  · run_from Cert.QProjIdeal.Gen.run_main m g
  · refine (θ_run Cert.QProjRefIdeal.defs _ _).mono (fun r h c => ⟨?_, (h c).2⟩) (Cert.QProjRefIdeal.Value.run (F := Ideal) m' g')
    refine (h c).1.trans ((Cert.QProjRefIdeal.Read.val_main_v46_eq (F := Ideal) m' c).trans ?_)
    rw [(hagree c).1, (hagree c).2.1, (hagree c).2.2.1, (hagree c).2.2.2.1, (hagree c).2.2.2.2]
    exact (Cert.QProjIdeal.Tiles.final m c).symm

theorem frame_ref_KvProj : Cert.quiescent_KvProjRefIdeal := fun m g _ =>
  (θ_run Cert.KvProjRefIdeal.defs _ _).mono (fun r h => ⟨fun c => (h c).2.2, sem_eq_zero_of_no_sems (by decide) r.2⟩)
    (Cert.KvProjRefIdeal.Value.run (F := Ideal) m g)

theorem value_KvProj : Cert.algebraic_KvProjIdeal_KvProjRefIdeal := by
  intro m g m' g' _ hagree
  refine ⟨fun c => (Cert.KvProjIdeal.Gen.dats m 0 c).arrAt 6 (Cert.KvProjIdeal.cfgs 0).N,
    fun c => (Cert.KvProjIdeal.Gen.dats m 0 c).arrAt 7 (Cert.KvProjIdeal.cfgs 0).N, ?_, ?_⟩
  · run_from Cert.KvProjIdeal.Gen.run_main m g
  · refine (θ_run Cert.KvProjRefIdeal.defs _ _).mono (fun r h c => ⟨?_, ?_, (h c).2.2⟩) (Cert.KvProjRefIdeal.Value.run (F := Ideal) m' g')
    · refine (h c).1.trans ((Cert.KvProjRefIdeal.Read.val_main_v47_eq (F := Ideal) m' c).trans ?_)
      rw [(hagree c).1, (hagree c).2.1, (hagree c).2.2.1, (hagree c).2.2.2.1, (hagree c).2.2.2.2]
      exact (Cert.KvProjIdeal.Tiles.final_k m c).symm
    · refine (h c).2.1.trans ((Cert.KvProjRefIdeal.Read.val_main_v49_eq (F := Ideal) _ _ _).trans ?_)
      rw [(hagree c).1, (hagree c).2.1, (hagree c).2.2.1]
      exact (Cert.KvProjIdeal.Tiles.final_v m c).symm

theorem frame_ref_GdnGate : Cert.quiescent_GdnGateRefIdeal := fun m g _ =>
  (θ_run Cert.GdnGateRefIdeal.defs _ _).mono (fun r h => ⟨fun c => (h c).2.2, sem_eq_zero_of_no_sems (by decide) r.2⟩)
    (Cert.GdnGateRefIdeal.Value.run (F := Ideal) m g)

theorem value_GdnGate : Cert.algebraic_GdnGateIdeal_GdnGateRefIdeal := by
  intro m g m' g' _ hagree
  refine ⟨fun c => (Cert.GdnGateIdeal.Gen.dats m 0 c).arrAt 3 (Cert.GdnGateIdeal.cfgs 0).N,
    fun c => (Cert.GdnGateIdeal.Gen.dats m 0 c).arrAt 4 (Cert.GdnGateIdeal.cfgs 0).N, ?_, ?_⟩
  · run_from Cert.GdnGateIdeal.Gen.run_main m g
  · refine (θ_run Cert.GdnGateRefIdeal.defs _ _).mono (fun r h c => ⟨?_, ?_, (h c).2.2⟩) (Cert.GdnGateRefIdeal.Value.run (F := Ideal) m' g')
    · refine (h c).1.trans ((Cert.GdnGateRefIdeal.Read.val_main_v22_eq (F := Ideal) m' c).trans ?_)
      rw [(hagree c).1, (hagree c).2.1, (hagree c).2.2]
      exact (Cert.GdnGateIdeal.Tiles.final_g m c).symm
    · refine (h c).2.1.trans ((Cert.GdnGateRefIdeal.Read.val_main_v28_eq (F := Ideal) _).trans ?_)
      rw [(hagree c).1]
      exact (Cert.GdnGateIdeal.Tiles.final_b m c).symm

theorem frame_ref_GdnConv : Cert.quiescent_GdnConvRefIdeal := fun m g _ =>
  (θ_run Cert.GdnConvRefIdeal.defs _ _).mono (fun r h => ⟨fun c => (h c).2, sem_eq_zero_of_no_sems (by decide) r.2⟩)
    (Cert.GdnConvRefIdeal.Value.run (F := Ideal) m g)

theorem value_GdnConv : Cert.algebraic_GdnConvIdeal_GdnConvRefIdeal := by
  intro m g m' g' _ hagree
  refine ⟨fun c => (Cert.GdnConvIdeal.Gen.dats m 0 c).arrAt 4 (Cert.GdnConvIdeal.cfgs 0).N, ?_, ?_⟩
  · run_from Cert.GdnConvIdeal.Gen.run_main m g
  · refine (θ_run Cert.GdnConvRefIdeal.defs _ _).mono (fun r h c => ⟨?_, (h c).2⟩) (Cert.GdnConvRefIdeal.Value.run (F := Ideal) m' g')
    refine (h c).1.trans ((Cert.GdnConvRefIdeal.Read.val_main_v61_eq (F := Ideal) m' c).trans ?_)
    rw [(hagree c).1, (hagree c).2]
    exact (Cert.GdnConvIdeal.Tiles.final m c).symm

theorem frame_ref_RopeTables : Cert.quiescent_RopeTablesRefIdeal := fun m g _ =>
  (θ_run Cert.RopeTablesRefIdeal.defs _ _).mono (fun r h => ⟨fun c => (h c).2.2, sem_eq_zero_of_no_sems (by decide) r.2⟩)
    (Cert.RopeTablesRefIdeal.Value.run (F := Ideal) m g)

theorem value_RopeTables : Cert.algebraic_RopeTablesIdeal_RopeTablesRefIdeal := by
  intro m g m' g' _ hagree
  refine ⟨fun c => (Cert.RopeTablesIdeal.Gen.dats m 0 c).arrAt 2 (Cert.RopeTablesIdeal.cfgs 0).N,
    fun c => (Cert.RopeTablesIdeal.Gen.dats m 0 c).arrAt 3 (Cert.RopeTablesIdeal.cfgs 0).N, ?_, ?_⟩
  · run_from Cert.RopeTablesIdeal.Gen.run_main m g
  · refine (θ_run Cert.RopeTablesRefIdeal.defs _ _).mono (fun r h c => ⟨?_, ?_, (h c).2.2⟩) (Cert.RopeTablesRefIdeal.Value.run (F := Ideal) m' g')
    · refine (h c).1.trans ((Cert.RopeTablesRefIdeal.Read.val_main_v20_eq (F := Ideal) _).trans ?_)
      rw [hagree c]
      exact (Cert.RopeTablesIdeal.Tiles.final_c m c).symm
    · refine (h c).2.1.trans ((Cert.RopeTablesRefIdeal.Read.val_main_v25_eq (F := Ideal) _).trans ?_)
      rw [hagree c]
      exact (Cert.RopeTablesIdeal.Tiles.final_s m c).symm

theorem claim : Cert.Claim := ⟨Cert.Kernel.Gen.facts, Cert.KernelIdeal.Gen.facts, Cert.ReferenceIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.Merge.Gen.facts, Cert.MergeIdeal.Gen.facts, Cert.MergeRefIdeal.Gen.facts,
  Cert.OutProj.Gen.facts, Cert.OutProjIdeal.Gen.facts, Cert.OutProjRefIdeal.Gen.facts,
  Cert.ProjA.Gen.facts, Cert.ProjAIdeal.Gen.facts, Cert.ProjARefIdeal.Gen.facts,
  Cert.ProjB.Gen.facts, Cert.ProjBIdeal.Gen.facts, Cert.ProjBRefIdeal.Gen.facts,
  Cert.FinalNorm.Gen.facts, Cert.FinalNormIdeal.Gen.facts, Cert.FinalNormRefIdeal.Gen.facts,
  Cert.Norm.Gen.facts, Cert.NormIdeal.Gen.facts, Cert.NormRefIdeal.Gen.facts,
  Cert.ProjDq.Gen.facts, Cert.ProjDqIdeal.Gen.facts, Cert.ProjDqRefIdeal.Gen.facts,
  Cert.ProjDkv.Gen.facts, Cert.ProjDkvIdeal.Gen.facts, Cert.ProjDkvRefIdeal.Gen.facts,
  Cert.Gmlp.Gen.facts, Cert.GmlpIdeal.Gen.facts, Cert.GmlpRefIdeal.Gen.facts,
  Cert.GdnOut.Gen.facts, Cert.GdnOutIdeal.Gen.facts, Cert.GdnOutRefIdeal.Gen.facts,
  Cert.QProj.Gen.facts, Cert.QProjIdeal.Gen.facts, Cert.QProjRefIdeal.Gen.facts,
  Cert.KvProj.Gen.facts, Cert.KvProjIdeal.Gen.facts, Cert.KvProjRefIdeal.Gen.facts,
  Cert.GdnGate.Gen.facts, Cert.GdnGateIdeal.Gen.facts, Cert.GdnGateRefIdeal.Gen.facts,
  Cert.GdnConv.Gen.facts, Cert.GdnConvIdeal.Gen.facts, Cert.GdnConvRefIdeal.Gen.facts,
  Cert.RopeTables.Gen.facts, Cert.RopeTablesIdeal.Gen.facts, Cert.RopeTablesRefIdeal.Gen.facts, Cert.Pre_operands.facts,
  fun m g _ => Cert.Kernel.Attn.frame m g,
  fun m g _ => Cert.KernelIdeal.Attn.frame m g,
  fun m g _ => Cert.KernelIdeal.Attn.frame m g,
  fun m g _ => frame_ref m g trivial,
  fun m g _ => frame_ref m g trivial,
  fun m g _ => Cert.FfnUp.Gen.frame m g, fun m g _ => Cert.FfnUpIdeal.Gen.frame m g, frame_ref_FfnUp,
  fun m g _ => Cert.FfnDown.Gen.frame m g, fun m g _ => Cert.FfnDownIdeal.Gen.frame m g, frame_ref_FfnDown,
  fun m g _ => Cert.Merge.Gen.frame m g, fun m g _ => Cert.MergeIdeal.Gen.frame m g, frame_ref_Merge,
  fun m g _ => Cert.OutProj.Gen.frame m g, fun m g _ => Cert.OutProjIdeal.Gen.frame m g, frame_ref_OutProj,
  fun m g _ => Cert.ProjA.Gen.frame m g, fun m g _ => Cert.ProjAIdeal.Gen.frame m g, frame_ref_ProjA,
  fun m g _ => Cert.ProjB.Gen.frame m g, fun m g _ => Cert.ProjBIdeal.Gen.frame m g, frame_ref_ProjB,
  fun m g _ => Cert.FinalNorm.Gen.frame m g, fun m g _ => Cert.FinalNormIdeal.Gen.frame m g, frame_ref_FinalNorm,
  fun m g _ => Cert.Norm.Gen.frame m g, fun m g _ => Cert.NormIdeal.Gen.frame m g, frame_ref_Norm,
  fun m g _ => Cert.ProjDq.Gen.frame m g, fun m g _ => Cert.ProjDqIdeal.Gen.frame m g, frame_ref_ProjDq,
  fun m g _ => Cert.ProjDkv.Gen.frame m g, fun m g _ => Cert.ProjDkvIdeal.Gen.frame m g, frame_ref_ProjDkv,
  fun m g _ => Cert.Gmlp.Gen.frame m g, fun m g _ => Cert.GmlpIdeal.Gen.frame m g, frame_ref_Gmlp,
  fun m g _ => Cert.GdnOut.Gen.frame m g, fun m g _ => Cert.GdnOutIdeal.Gen.frame m g, frame_ref_GdnOut,
  fun m g _ => Cert.QProj.Gen.frame m g, fun m g _ => Cert.QProjIdeal.Gen.frame m g, frame_ref_QProj,
  fun m g _ => Cert.KvProj.Gen.frame m g, fun m g _ => Cert.KvProjIdeal.Gen.frame m g, frame_ref_KvProj,
  fun m g _ => Cert.GdnGate.Gen.frame m g, fun m g _ => Cert.GdnGateIdeal.Gen.frame m g, frame_ref_GdnGate,
  fun m g _ => Cert.GdnConv.Gen.frame m g, fun m g _ => Cert.GdnConvIdeal.Gen.frame m g, frame_ref_GdnConv,
  fun m g _ => Cert.RopeTables.Gen.frame m g, fun m g _ => Cert.RopeTablesIdeal.Gen.frame m g, frame_ref_RopeTables,
  trivial, value,
  trivial, value_FfnUp,
  trivial, value_FfnDown,
  trivial, value_Merge,
  trivial, value_OutProj,
  trivial, value_ProjA,
  trivial, value_ProjB,
  trivial, value_FinalNorm,
  trivial, value_Norm,
  trivial, value_ProjDq,
  trivial, value_ProjDkv,
  trivial, value_Gmlp,
  trivial, value_GdnOut,
  trivial, value_QProj,
  trivial, value_KvProj,
  trivial, value_GdnGate,
  trivial, value_GdnConv,
  trivial, value_RopeTables⟩

end Cert.Proof

end
